-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Da (m : (ℓ : Loc Cert.Da.nD Cert.Da.τ Cert.Da.sig) → Buf (Elt Bits) ℓ) : Prop :=
  True

def Pre_DaIdeal (m : (ℓ : Loc Cert.DaIdeal.nD Cert.DaIdeal.τ Cert.DaIdeal.sig) → Buf (Elt Ideal) ℓ) : Prop :=
  True

def Pre_DaIdeal_entries_finite [hPre_entries_finite : Cert.Pre_entries_finite.Facts] (m : (ℓ : Loc Cert.DaIdeal.nD Cert.DaIdeal.τ Cert.DaIdeal.sig) → Buf (Elt Ideal) ℓ) : Prop :=
  ∀ c : Dev Cert.DaIdeal.nD,
    (Cert.Pre_entries_finite.fn (F := Ideal) (m ((c.tc : Thread Cert.DaIdeal.nD Cert.DaIdeal.τ).loc Cert.DaIdeal.main_arg0)) (m ((c.tc : Thread Cert.DaIdeal.nD Cert.DaIdeal.τ).loc Cert.DaIdeal.main_arg1)) (m ((c.tc : Thread Cert.DaIdeal.nD Cert.DaIdeal.τ).loc Cert.DaIdeal.main_arg2)) (m ((c.tc : Thread Cert.DaIdeal.nD Cert.DaIdeal.τ).loc Cert.DaIdeal.main_arg3)) (m ((c.tc : Thread Cert.DaIdeal.nD Cert.DaIdeal.τ).loc Cert.DaIdeal.main_arg4)) (m ((c.tc : Thread Cert.DaIdeal.nD Cert.DaIdeal.τ).loc Cert.DaIdeal.main_arg5))) = (fun _ => 1#1)

def Pre_DaRefIdeal (m : (ℓ : Loc Cert.DaRefIdeal.nD Cert.DaRefIdeal.τ Cert.DaRefIdeal.sig) → Buf (Elt Ideal) ℓ) : Prop :=
  True

def Pre_DaRefIdeal_entries_finite [hPre_entries_finite : Cert.Pre_entries_finite.Facts] (m : (ℓ : Loc Cert.DaRefIdeal.nD Cert.DaRefIdeal.τ Cert.DaRefIdeal.sig) → Buf (Elt Ideal) ℓ) : Prop :=
  ∀ c : Dev Cert.DaRefIdeal.nD,
    (Cert.Pre_entries_finite.fn (F := Ideal) (m ((c.tc : Thread Cert.DaRefIdeal.nD Cert.DaRefIdeal.τ).loc Cert.DaRefIdeal.main_arg0)) (m ((c.tc : Thread Cert.DaRefIdeal.nD Cert.DaRefIdeal.τ).loc Cert.DaRefIdeal.main_arg1)) (m ((c.tc : Thread Cert.DaRefIdeal.nD Cert.DaRefIdeal.τ).loc Cert.DaRefIdeal.main_arg2)) (m ((c.tc : Thread Cert.DaRefIdeal.nD Cert.DaRefIdeal.τ).loc Cert.DaRefIdeal.main_arg3)) (m ((c.tc : Thread Cert.DaRefIdeal.nD Cert.DaRefIdeal.τ).loc Cert.DaRefIdeal.main_arg4)) (m ((c.tc : Thread Cert.DaRefIdeal.nD Cert.DaRefIdeal.τ).loc Cert.DaRefIdeal.main_arg5))) = (fun _ => 1#1)

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Cv (m : (ℓ : Loc Cert.Cv.nD Cert.Cv.τ Cert.Cv.sig) → Buf (Elt Bits) ℓ) : Prop :=
  True

def Pre_CvIdeal (m : (ℓ : Loc Cert.CvIdeal.nD Cert.CvIdeal.τ Cert.CvIdeal.sig) → Buf (Elt Ideal) ℓ) : Prop :=
  True

def Pre_CvRefIdeal (m : (ℓ : Loc Cert.CvRefIdeal.nD Cert.CvRefIdeal.τ Cert.CvRefIdeal.sig) → Buf (Elt Ideal) ℓ) : Prop :=
  True

def Pre_Fn (m : (ℓ : Loc Cert.Fn.nD Cert.Fn.τ Cert.Fn.sig) → Buf (Elt Bits) ℓ) : Prop :=
  True

def Pre_FnIdeal (m : (ℓ : Loc Cert.FnIdeal.nD Cert.FnIdeal.τ Cert.FnIdeal.sig) → Buf (Elt Ideal) ℓ) : Prop :=
  True

def Pre_FnIdeal_steps_close [hPre_steps_close : Cert.Pre_steps_close.Facts] (m : (ℓ : Loc Cert.FnIdeal.nD Cert.FnIdeal.τ Cert.FnIdeal.sig) → Buf (Elt Ideal) ℓ) : Prop :=
  ∀ c : Dev Cert.FnIdeal.nD,
    (Cert.Pre_steps_close.fn (F := Ideal) (m ((c.tc : Thread Cert.FnIdeal.nD Cert.FnIdeal.τ).loc Cert.FnIdeal.main_arg0)) (m ((c.tc : Thread Cert.FnIdeal.nD Cert.FnIdeal.τ).loc Cert.FnIdeal.main_arg1)) (m ((c.tc : Thread Cert.FnIdeal.nD Cert.FnIdeal.τ).loc Cert.FnIdeal.main_arg2))) = (fun _ => 1#1)

def Pre_FnRefIdeal (m : (ℓ : Loc Cert.FnRefIdeal.nD Cert.FnRefIdeal.τ Cert.FnRefIdeal.sig) → Buf (Elt Ideal) ℓ) : Prop :=
  True

def Pre_FnRefIdeal_steps_close [hPre_steps_close : Cert.Pre_steps_close.Facts] (m : (ℓ : Loc Cert.FnRefIdeal.nD Cert.FnRefIdeal.τ Cert.FnRefIdeal.sig) → Buf (Elt Ideal) ℓ) : Prop :=
  ∀ c : Dev Cert.FnRefIdeal.nD,
    (Cert.Pre_steps_close.fn (F := Ideal) (m ((c.tc : Thread Cert.FnRefIdeal.nD Cert.FnRefIdeal.τ).loc Cert.FnRefIdeal.main_arg0)) (m ((c.tc : Thread Cert.FnRefIdeal.nD Cert.FnRefIdeal.τ).loc Cert.FnRefIdeal.main_arg1)) (m ((c.tc : Thread Cert.FnRefIdeal.nD Cert.FnRefIdeal.τ).loc Cert.FnRefIdeal.main_arg2))) = (fun _ => 1#1)

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_Bt (m : (ℓ : Loc Cert.Bt.nD Cert.Bt.τ Cert.Bt.sig) → Buf (Elt Bits) ℓ) : Prop :=
  True

def Pre_BtIdeal (m : (ℓ : Loc Cert.BtIdeal.nD Cert.BtIdeal.τ Cert.BtIdeal.sig) → Buf (Elt Ideal) ℓ) : Prop :=
  True

def Pre_BtIdeal_bias_finite [hPre_bias_finite : Cert.Pre_bias_finite.Facts] (m : (ℓ : Loc Cert.BtIdeal.nD Cert.BtIdeal.τ Cert.BtIdeal.sig) → Buf (Elt Ideal) ℓ) : Prop :=
  ∀ c : Dev Cert.BtIdeal.nD,
    (Cert.Pre_bias_finite.fn (F := Ideal) (m ((c.tc : Thread Cert.BtIdeal.nD Cert.BtIdeal.τ).loc Cert.BtIdeal.main_arg0))) = (fun _ => 1#1)

def Pre_BtRefIdeal (m : (ℓ : Loc Cert.BtRefIdeal.nD Cert.BtRefIdeal.τ Cert.BtRefIdeal.sig) → Buf (Elt Ideal) ℓ) : Prop :=
  True

def Pre_BtRefIdeal_bias_finite [hPre_bias_finite : Cert.Pre_bias_finite.Facts] (m : (ℓ : Loc Cert.BtRefIdeal.nD Cert.BtRefIdeal.τ Cert.BtRefIdeal.sig) → Buf (Elt Ideal) ℓ) : Prop :=
  ∀ c : Dev Cert.BtRefIdeal.nD,
    (Cert.Pre_bias_finite.fn (F := Ideal) (m ((c.tc : Thread Cert.BtRefIdeal.nD Cert.BtRefIdeal.τ).loc Cert.BtRefIdeal.main_arg0))) = (fun _ => 1#1)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9)
      ∧ r.2.mem ((c.tc : Thread Cert.FfnRefIdeal.nD Cert.FfnRefIdeal.τ).loc Cert.FfnRefIdeal.main_arg10) = m ((c.tc : Thread Cert.FfnRefIdeal.nD Cert.FfnRefIdeal.τ).loc Cert.FfnRefIdeal.main_arg10))
      ∧ r.2.sem = fun _ => 0)

def quiescent_Da [hDa : Cert.Da.Facts] : Prop :=
  ∀ (m : (ℓ : Loc Cert.Da.nD Cert.Da.τ Cert.Da.sig) → Buf (Elt Bits) ℓ) (g : Dev Cert.Da.nD → PrngReg), Pre_Da m →
    θ_run (Cert.Da.defs (F := Bits)) (onTc (τ := Cert.Da.τ) (Cert.Da.main (F := Bits))) ⟨m, fun _ => 0, g⟩ (fun r => (∀ c : Dev Cert.Da.nD,
      r.2.mem ((c.tc : Thread Cert.Da.nD Cert.Da.τ).loc Cert.Da.main_arg0) = m ((c.tc : Thread Cert.Da.nD Cert.Da.τ).loc Cert.Da.main_arg0)
      ∧ r.2.mem ((c.tc : Thread Cert.Da.nD Cert.Da.τ).loc Cert.Da.main_arg1) = m ((c.tc : Thread Cert.Da.nD Cert.Da.τ).loc Cert.Da.main_arg1)
      ∧ r.2.mem ((c.tc : Thread Cert.Da.nD Cert.Da.τ).loc Cert.Da.main_arg2) = m ((c.tc : Thread Cert.Da.nD Cert.Da.τ).loc Cert.Da.main_arg2)
      ∧ r.2.mem ((c.tc : Thread Cert.Da.nD Cert.Da.τ).loc Cert.Da.main_arg3) = m ((c.tc : Thread Cert.Da.nD Cert.Da.τ).loc Cert.Da.main_arg3)
      ∧ r.2.mem ((c.tc : Thread Cert.Da.nD Cert.Da.τ).loc Cert.Da.main_arg4) = m ((c.tc : Thread Cert.Da.nD Cert.Da.τ).loc Cert.Da.main_arg4)
      ∧ r.2.mem ((c.tc : Thread Cert.Da.nD Cert.Da.τ).loc Cert.Da.main_arg5) = m ((c.tc : Thread Cert.Da.nD Cert.Da.τ).loc Cert.Da.main_arg5))
      ∧ r.2.sem = fun _ => 0)

def quiescent_DaIdeal [hDaIdeal : Cert.DaIdeal.Facts] : Prop :=
  ∀ (m : (ℓ : Loc Cert.DaIdeal.nD Cert.DaIdeal.τ Cert.DaIdeal.sig) → Buf (Elt Ideal) ℓ) (g : Dev Cert.DaIdeal.nD → PrngReg), Pre_DaIdeal m →
    θ_run (Cert.DaIdeal.defs (F := Ideal)) (onTc (τ := Cert.DaIdeal.τ) (Cert.DaIdeal.main (F := Ideal))) ⟨m, fun _ => 0, g⟩ (fun r => (∀ c : Dev Cert.DaIdeal.nD,
      r.2.mem ((c.tc : Thread Cert.DaIdeal.nD Cert.DaIdeal.τ).loc Cert.DaIdeal.main_arg0) = m ((c.tc : Thread Cert.DaIdeal.nD Cert.DaIdeal.τ).loc Cert.DaIdeal.main_arg0)
      ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
      ∧ r.2.mem ((c.tc : Thread Cert.DaIdeal.nD Cert.DaIdeal.τ).loc Cert.DaIdeal.main_arg2) = m ((c.tc : Thread Cert.DaIdeal.nD Cert.DaIdeal.τ).loc Cert.DaIdeal.main_arg2)
      ∧ r.2.mem ((c.tc : Thread Cert.DaIdeal.nD Cert.DaIdeal.τ).loc Cert.DaIdeal.main_arg3) = m ((c.tc : Thread Cert.DaIdeal.nD Cert.DaIdeal.τ).loc Cert.DaIdeal.main_arg3)
      ∧ r.2.mem ((c.tc : Thread Cert.DaIdeal.nD Cert.DaIdeal.τ).loc Cert.DaIdeal.main_arg4) = m ((c.tc : Thread Cert.DaIdeal.nD Cert.DaIdeal.τ).loc Cert.DaIdeal.main_arg4)
      ∧ r.2.mem ((c.tc : Thread Cert.DaIdeal.nD Cert.DaIdeal.τ).loc Cert.DaIdeal.main_arg5) = m ((c.tc : Thread Cert.DaIdeal.nD Cert.DaIdeal.τ).loc Cert.DaIdeal.main_arg5))
      ∧ r.2.sem = fun _ => 0)

def quiescent_DaIdeal_pre_entries_finite [hDaIdeal : Cert.DaIdeal.Facts] [hPre_entries_finite : Cert.Pre_entries_finite.Facts] : Prop :=
  ∀ (m : (ℓ : Loc Cert.DaIdeal.nD Cert.DaIdeal.τ Cert.DaIdeal.sig) → Buf (Elt Ideal) ℓ) (g : Dev Cert.DaIdeal.nD → PrngReg), Pre_DaIdeal_entries_finite m →
    θ_run (Cert.DaIdeal.defs (F := Ideal)) (onTc (τ := Cert.DaIdeal.τ) (Cert.DaIdeal.main (F := Ideal))) ⟨m, fun _ => 0, g⟩ (fun r => (∀ c : Dev Cert.DaIdeal.nD,
      r.2.mem ((c.tc : Thread Cert.DaIdeal.nD Cert.DaIdeal.τ).loc Cert.DaIdeal.main_arg0) = m ((c.tc : Thread Cert.DaIdeal.nD Cert.DaIdeal.τ).loc Cert.DaIdeal.main_arg0)
      ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
      ∧ r.2.mem ((c.tc : Thread Cert.DaIdeal.nD Cert.DaIdeal.τ).loc Cert.DaIdeal.main_arg2) = m ((c.tc : Thread Cert.DaIdeal.nD Cert.DaIdeal.τ).loc Cert.DaIdeal.main_arg2)
      ∧ r.2.mem ((c.tc : Thread Cert.DaIdeal.nD Cert.DaIdeal.τ).loc Cert.DaIdeal.main_arg3) = m ((c.tc : Thread Cert.DaIdeal.nD Cert.DaIdeal.τ).loc Cert.DaIdeal.main_arg3)
      ∧ r.2.mem ((c.tc : Thread Cert.DaIdeal.nD Cert.DaIdeal.τ).loc Cert.DaIdeal.main_arg4) = m ((c.tc : Thread Cert.DaIdeal.nD Cert.DaIdeal.τ).loc Cert.DaIdeal.main_arg4)
      ∧ r.2.mem ((c.tc : Thread Cert.DaIdeal.nD Cert.DaIdeal.τ).loc Cert.DaIdeal.main_arg5) = m ((c.tc : Thread Cert.DaIdeal.nD Cert.DaIdeal.τ).loc Cert.DaIdeal.main_arg5))
      ∧ r.2.sem = fun _ => 0)

def quiescent_DaRefIdeal [hDaRefIdeal : Cert.DaRefIdeal.Facts] : Prop :=
  ∀ (m : (ℓ : Loc Cert.DaRefIdeal.nD Cert.DaRefIdeal.τ Cert.DaRefIdeal.sig) → Buf (Elt Ideal) ℓ) (g : Dev Cert.DaRefIdeal.nD → PrngReg), Pre_DaRefIdeal m →
    θ_run (Cert.DaRefIdeal.defs (F := Ideal)) (onTc (τ := Cert.DaRefIdeal.τ) (Cert.DaRefIdeal.main (F := Ideal))) ⟨m, fun _ => 0, g⟩ (fun r => (∀ c : Dev Cert.DaRefIdeal.nD,
      r.2.mem ((c.tc : Thread Cert.DaRefIdeal.nD Cert.DaRefIdeal.τ).loc Cert.DaRefIdeal.main_arg0) = m ((c.tc : Thread Cert.DaRefIdeal.nD Cert.DaRefIdeal.τ).loc Cert.DaRefIdeal.main_arg0)
      ∧ r.2.mem ((c.tc : Thread Cert.DaRefIdeal.nD Cert.DaRefIdeal.τ).loc Cert.DaRefIdeal.main_arg1) = m ((c.tc : Thread Cert.DaRefIdeal.nD Cert.DaRefIdeal.τ).loc Cert.DaRefIdeal.main_arg1)
      ∧ r.2.mem ((c.tc : Thread Cert.DaRefIdeal.nD Cert.DaRefIdeal.τ).loc Cert.DaRefIdeal.main_arg2) = m ((c.tc : Thread Cert.DaRefIdeal.nD Cert.DaRefIdeal.τ).loc Cert.DaRefIdeal.main_arg2)
      ∧ r.2.mem ((c.tc : Thread Cert.DaRefIdeal.nD Cert.DaRefIdeal.τ).loc Cert.DaRefIdeal.main_arg3) = m ((c.tc : Thread Cert.DaRefIdeal.nD Cert.DaRefIdeal.τ).loc Cert.DaRefIdeal.main_arg3)
      ∧ r.2.mem ((c.tc : Thread Cert.DaRefIdeal.nD Cert.DaRefIdeal.τ).loc Cert.DaRefIdeal.main_arg4) = m ((c.tc : Thread Cert.DaRefIdeal.nD Cert.DaRefIdeal.τ).loc Cert.DaRefIdeal.main_arg4)
      ∧ r.2.mem ((c.tc : Thread Cert.DaRefIdeal.nD Cert.DaRefIdeal.τ).loc Cert.DaRefIdeal.main_arg5) = m ((c.tc : Thread Cert.DaRefIdeal.nD Cert.DaRefIdeal.τ).loc Cert.DaRefIdeal.main_arg5))
      ∧ r.2.sem = fun _ => 0)

def quiescent_DaRefIdeal_pre_entries_finite [hDaRefIdeal : Cert.DaRefIdeal.Facts] [hPre_entries_finite : Cert.Pre_entries_finite.Facts] : Prop :=
  ∀ (m : (ℓ : Loc Cert.DaRefIdeal.nD Cert.DaRefIdeal.τ Cert.DaRefIdeal.sig) → Buf (Elt Ideal) ℓ) (g : Dev Cert.DaRefIdeal.nD → PrngReg), Pre_DaRefIdeal_entries_finite m →
    θ_run (Cert.DaRefIdeal.defs (F := Ideal)) (onTc (τ := Cert.DaRefIdeal.τ) (Cert.DaRefIdeal.main (F := Ideal))) ⟨m, fun _ => 0, g⟩ (fun r => (∀ c : Dev Cert.DaRefIdeal.nD,
      r.2.mem ((c.tc : Thread Cert.DaRefIdeal.nD Cert.DaRefIdeal.τ).loc Cert.DaRefIdeal.main_arg0) = m ((c.tc : Thread Cert.DaRefIdeal.nD Cert.DaRefIdeal.τ).loc Cert.DaRefIdeal.main_arg0)
      ∧ r.2.mem ((c.tc : Thread Cert.DaRefIdeal.nD Cert.DaRefIdeal.τ).loc Cert.DaRefIdeal.main_arg1) = m ((c.tc : Thread Cert.DaRefIdeal.nD Cert.DaRefIdeal.τ).loc Cert.DaRefIdeal.main_arg1)
      ∧ r.2.mem ((c.tc : Thread Cert.DaRefIdeal.nD Cert.DaRefIdeal.τ).loc Cert.DaRefIdeal.main_arg2) = m ((c.tc : Thread Cert.DaRefIdeal.nD Cert.DaRefIdeal.τ).loc Cert.DaRefIdeal.main_arg2)
      ∧ r.2.mem ((c.tc : Thread Cert.DaRefIdeal.nD Cert.DaRefIdeal.τ).loc Cert.DaRefIdeal.main_arg3) = m ((c.tc : Thread Cert.DaRefIdeal.nD Cert.DaRefIdeal.τ).loc Cert.DaRefIdeal.main_arg3)
      ∧ r.2.mem ((c.tc : Thread Cert.DaRefIdeal.nD Cert.DaRefIdeal.τ).loc Cert.DaRefIdeal.main_arg4) = m ((c.tc : Thread Cert.DaRefIdeal.nD Cert.DaRefIdeal.τ).loc Cert.DaRefIdeal.main_arg4)
      ∧ r.2.mem ((c.tc : Thread Cert.DaRefIdeal.nD Cert.DaRefIdeal.τ).loc Cert.DaRefIdeal.main_arg5) = m ((c.tc : Thread Cert.DaRefIdeal.nD Cert.DaRefIdeal.τ).loc Cert.DaRefIdeal.main_arg5))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2))
      ∧ r.2.sem = fun _ => 0)

def quiescent_Cv [hCv : Cert.Cv.Facts] : Prop :=
  ∀ (m : (ℓ : Loc Cert.Cv.nD Cert.Cv.τ Cert.Cv.sig) → Buf (Elt Bits) ℓ) (g : Dev Cert.Cv.nD → PrngReg), Pre_Cv m →
    θ_run (Cert.Cv.defs (F := Bits)) (onTc (τ := Cert.Cv.τ) (Cert.Cv.main (F := Bits))) ⟨m, fun _ => 0, g⟩ (fun r => (∀ c : Dev Cert.Cv.nD,
      r.2.mem ((c.tc : Thread Cert.Cv.nD Cert.Cv.τ).loc Cert.Cv.main_arg0) = m ((c.tc : Thread Cert.Cv.nD Cert.Cv.τ).loc Cert.Cv.main_arg0)
      ∧ r.2.mem ((c.tc : Thread Cert.Cv.nD Cert.Cv.τ).loc Cert.Cv.main_arg1) = m ((c.tc : Thread Cert.Cv.nD Cert.Cv.τ).loc Cert.Cv.main_arg1)
      ∧ r.2.mem ((c.tc : Thread Cert.Cv.nD Cert.Cv.τ).loc Cert.Cv.main_arg2) = m ((c.tc : Thread Cert.Cv.nD Cert.Cv.τ).loc Cert.Cv.main_arg2))
      ∧ r.2.sem = fun _ => 0)

def quiescent_CvIdeal [hCvIdeal : Cert.CvIdeal.Facts] : Prop :=
  ∀ (m : (ℓ : Loc Cert.CvIdeal.nD Cert.CvIdeal.τ Cert.CvIdeal.sig) → Buf (Elt Ideal) ℓ) (g : Dev Cert.CvIdeal.nD → PrngReg), Pre_CvIdeal m →
    θ_run (Cert.CvIdeal.defs (F := Ideal)) (onTc (τ := Cert.CvIdeal.τ) (Cert.CvIdeal.main (F := Ideal))) ⟨m, fun _ => 0, g⟩ (fun r => (∀ c : Dev Cert.CvIdeal.nD,
      r.2.mem ((c.tc : Thread Cert.CvIdeal.nD Cert.CvIdeal.τ).loc Cert.CvIdeal.main_arg0) = m ((c.tc : Thread Cert.CvIdeal.nD Cert.CvIdeal.τ).loc Cert.CvIdeal.main_arg0)
      ∧ r.2.mem ((c.tc : Thread Cert.CvIdeal.nD Cert.CvIdeal.τ).loc Cert.CvIdeal.main_arg1) = m ((c.tc : Thread Cert.CvIdeal.nD Cert.CvIdeal.τ).loc Cert.CvIdeal.main_arg1)
      ∧ r.2.mem ((c.tc : Thread Cert.CvIdeal.nD Cert.CvIdeal.τ).loc Cert.CvIdeal.main_arg2) = m ((c.tc : Thread Cert.CvIdeal.nD Cert.CvIdeal.τ).loc Cert.CvIdeal.main_arg2))
      ∧ r.2.sem = fun _ => 0)

def quiescent_CvRefIdeal [hCvRefIdeal : Cert.CvRefIdeal.Facts] : Prop :=
  ∀ (m : (ℓ : Loc Cert.CvRefIdeal.nD Cert.CvRefIdeal.τ Cert.CvRefIdeal.sig) → Buf (Elt Ideal) ℓ) (g : Dev Cert.CvRefIdeal.nD → PrngReg), Pre_CvRefIdeal m →
    θ_run (Cert.CvRefIdeal.defs (F := Ideal)) (onTc (τ := Cert.CvRefIdeal.τ) (Cert.CvRefIdeal.main (F := Ideal))) ⟨m, fun _ => 0, g⟩ (fun r => (∀ c : Dev Cert.CvRefIdeal.nD,
      r.2.mem ((c.tc : Thread Cert.CvRefIdeal.nD Cert.CvRefIdeal.τ).loc Cert.CvRefIdeal.main_arg0) = m ((c.tc : Thread Cert.CvRefIdeal.nD Cert.CvRefIdeal.τ).loc Cert.CvRefIdeal.main_arg0)
      ∧ r.2.mem ((c.tc : Thread Cert.CvRefIdeal.nD Cert.CvRefIdeal.τ).loc Cert.CvRefIdeal.main_arg1) = m ((c.tc : Thread Cert.CvRefIdeal.nD Cert.CvRefIdeal.τ).loc Cert.CvRefIdeal.main_arg1)
      ∧ r.2.mem ((c.tc : Thread Cert.CvRefIdeal.nD Cert.CvRefIdeal.τ).loc Cert.CvRefIdeal.main_arg2) = m ((c.tc : Thread Cert.CvRefIdeal.nD Cert.CvRefIdeal.τ).loc Cert.CvRefIdeal.main_arg2))
      ∧ r.2.sem = fun _ => 0)

def quiescent_Fn [hFn : Cert.Fn.Facts] : Prop :=
  ∀ (m : (ℓ : Loc Cert.Fn.nD Cert.Fn.τ Cert.Fn.sig) → Buf (Elt Bits) ℓ) (g : Dev Cert.Fn.nD → PrngReg), Pre_Fn m →
    θ_run (Cert.Fn.defs (F := Bits)) (onTc (τ := Cert.Fn.τ) (Cert.Fn.main (F := Bits))) ⟨m, fun _ => 0, g⟩ (fun r => (∀ c : Dev Cert.Fn.nD,
      r.2.mem ((c.tc : Thread Cert.Fn.nD Cert.Fn.τ).loc Cert.Fn.main_arg0) = m ((c.tc : Thread Cert.Fn.nD Cert.Fn.τ).loc Cert.Fn.main_arg0)
      ∧ r.2.mem ((c.tc : Thread Cert.Fn.nD Cert.Fn.τ).loc Cert.Fn.main_arg1) = m ((c.tc : Thread Cert.Fn.nD Cert.Fn.τ).loc Cert.Fn.main_arg1)
      ∧ r.2.mem ((c.tc : Thread Cert.Fn.nD Cert.Fn.τ).loc Cert.Fn.main_arg2) = m ((c.tc : Thread Cert.Fn.nD Cert.Fn.τ).loc Cert.Fn.main_arg2))
      ∧ r.2.sem = fun _ => 0)

def quiescent_FnIdeal [hFnIdeal : Cert.FnIdeal.Facts] : Prop :=
  ∀ (m : (ℓ : Loc Cert.FnIdeal.nD Cert.FnIdeal.τ Cert.FnIdeal.sig) → Buf (Elt Ideal) ℓ) (g : Dev Cert.FnIdeal.nD → PrngReg), Pre_FnIdeal m →
    θ_run (Cert.FnIdeal.defs (F := Ideal)) (onTc (τ := Cert.FnIdeal.τ) (Cert.FnIdeal.main (F := Ideal))) ⟨m, fun _ => 0, g⟩ (fun r => (∀ c : Dev Cert.FnIdeal.nD,
      r.2.mem ((c.tc : Thread Cert.FnIdeal.nD Cert.FnIdeal.τ).loc Cert.FnIdeal.main_arg0) = m ((c.tc : Thread Cert.FnIdeal.nD Cert.FnIdeal.τ).loc Cert.FnIdeal.main_arg0)
      ∧ r.2.mem ((c.tc : Thread Cert.FnIdeal.nD Cert.FnIdeal.τ).loc Cert.FnIdeal.main_arg1) = m ((c.tc : Thread Cert.FnIdeal.nD Cert.FnIdeal.τ).loc Cert.FnIdeal.main_arg1)
      ∧ r.2.mem ((c.tc : Thread Cert.FnIdeal.nD Cert.FnIdeal.τ).loc Cert.FnIdeal.main_arg2) = m ((c.tc : Thread Cert.FnIdeal.nD Cert.FnIdeal.τ).loc Cert.FnIdeal.main_arg2))
      ∧ r.2.sem = fun _ => 0)

def quiescent_FnIdeal_pre_steps_close [hFnIdeal : Cert.FnIdeal.Facts] [hPre_steps_close : Cert.Pre_steps_close.Facts] : Prop :=
  ∀ (m : (ℓ : Loc Cert.FnIdeal.nD Cert.FnIdeal.τ Cert.FnIdeal.sig) → Buf (Elt Ideal) ℓ) (g : Dev Cert.FnIdeal.nD → PrngReg), Pre_FnIdeal_steps_close m →
    θ_run (Cert.FnIdeal.defs (F := Ideal)) (onTc (τ := Cert.FnIdeal.τ) (Cert.FnIdeal.main (F := Ideal))) ⟨m, fun _ => 0, g⟩ (fun r => (∀ c : Dev Cert.FnIdeal.nD,
      r.2.mem ((c.tc : Thread Cert.FnIdeal.nD Cert.FnIdeal.τ).loc Cert.FnIdeal.main_arg0) = m ((c.tc : Thread Cert.FnIdeal.nD Cert.FnIdeal.τ).loc Cert.FnIdeal.main_arg0)
      ∧ r.2.mem ((c.tc : Thread Cert.FnIdeal.nD Cert.FnIdeal.τ).loc Cert.FnIdeal.main_arg1) = m ((c.tc : Thread Cert.FnIdeal.nD Cert.FnIdeal.τ).loc Cert.FnIdeal.main_arg1)
      ∧ r.2.mem ((c.tc : Thread Cert.FnIdeal.nD Cert.FnIdeal.τ).loc Cert.FnIdeal.main_arg2) = m ((c.tc : Thread Cert.FnIdeal.nD Cert.FnIdeal.τ).loc Cert.FnIdeal.main_arg2))
      ∧ r.2.sem = fun _ => 0)

def quiescent_FnRefIdeal [hFnRefIdeal : Cert.FnRefIdeal.Facts] : Prop :=
  ∀ (m : (ℓ : Loc Cert.FnRefIdeal.nD Cert.FnRefIdeal.τ Cert.FnRefIdeal.sig) → Buf (Elt Ideal) ℓ) (g : Dev Cert.FnRefIdeal.nD → PrngReg), Pre_FnRefIdeal m →
    θ_run (Cert.FnRefIdeal.defs (F := Ideal)) (onTc (τ := Cert.FnRefIdeal.τ) (Cert.FnRefIdeal.main (F := Ideal))) ⟨m, fun _ => 0, g⟩ (fun r => (∀ c : Dev Cert.FnRefIdeal.nD,
      r.2.mem ((c.tc : Thread Cert.FnRefIdeal.nD Cert.FnRefIdeal.τ).loc Cert.FnRefIdeal.main_arg0) = m ((c.tc : Thread Cert.FnRefIdeal.nD Cert.FnRefIdeal.τ).loc Cert.FnRefIdeal.main_arg0)
      ∧ r.2.mem ((c.tc : Thread Cert.FnRefIdeal.nD Cert.FnRefIdeal.τ).loc Cert.FnRefIdeal.main_arg1) = m ((c.tc : Thread Cert.FnRefIdeal.nD Cert.FnRefIdeal.τ).loc Cert.FnRefIdeal.main_arg1)
      ∧ r.2.mem ((c.tc : Thread Cert.FnRefIdeal.nD Cert.FnRefIdeal.τ).loc Cert.FnRefIdeal.main_arg2) = m ((c.tc : Thread Cert.FnRefIdeal.nD Cert.FnRefIdeal.τ).loc Cert.FnRefIdeal.main_arg2))
      ∧ r.2.sem = fun _ => 0)

def quiescent_FnRefIdeal_pre_steps_close [hFnRefIdeal : Cert.FnRefIdeal.Facts] [hPre_steps_close : Cert.Pre_steps_close.Facts] : Prop :=
  ∀ (m : (ℓ : Loc Cert.FnRefIdeal.nD Cert.FnRefIdeal.τ Cert.FnRefIdeal.sig) → Buf (Elt Ideal) ℓ) (g : Dev Cert.FnRefIdeal.nD → PrngReg), Pre_FnRefIdeal_steps_close m →
    θ_run (Cert.FnRefIdeal.defs (F := Ideal)) (onTc (τ := Cert.FnRefIdeal.τ) (Cert.FnRefIdeal.main (F := Ideal))) ⟨m, fun _ => 0, g⟩ (fun r => (∀ c : Dev Cert.FnRefIdeal.nD,
      r.2.mem ((c.tc : Thread Cert.FnRefIdeal.nD Cert.FnRefIdeal.τ).loc Cert.FnRefIdeal.main_arg0) = m ((c.tc : Thread Cert.FnRefIdeal.nD Cert.FnRefIdeal.τ).loc Cert.FnRefIdeal.main_arg0)
      ∧ r.2.mem ((c.tc : Thread Cert.FnRefIdeal.nD Cert.FnRefIdeal.τ).loc Cert.FnRefIdeal.main_arg1) = m ((c.tc : Thread Cert.FnRefIdeal.nD Cert.FnRefIdeal.τ).loc Cert.FnRefIdeal.main_arg1)
      ∧ r.2.mem ((c.tc : Thread Cert.FnRefIdeal.nD Cert.FnRefIdeal.τ).loc Cert.FnRefIdeal.main_arg2) = m ((c.tc : Thread Cert.FnRefIdeal.nD Cert.FnRefIdeal.τ).loc Cert.FnRefIdeal.main_arg2))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8)
      ∧ r.2.mem ((c.tc : Thread Cert.Mid.nD Cert.Mid.τ).loc Cert.Mid.main_arg9) = m ((c.tc : Thread Cert.Mid.nD Cert.Mid.τ).loc Cert.Mid.main_arg9)
      ∧ r.2.mem ((c.tc : Thread Cert.Mid.nD Cert.Mid.τ).loc Cert.Mid.main_arg10) = m ((c.tc : Thread Cert.Mid.nD Cert.Mid.τ).loc Cert.Mid.main_arg10))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
      ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
      ∧ r.2.mem ((c.tc : Thread Cert.MidIdeal.nD Cert.MidIdeal.τ).loc Cert.MidIdeal.main_arg10) = m ((c.tc : Thread Cert.MidIdeal.nD Cert.MidIdeal.τ).loc Cert.MidIdeal.main_arg10))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7)
      ∧ r.2.mem ((c.tc : Thread Cert.MidRefIdeal.nD Cert.MidRefIdeal.τ).loc Cert.MidRefIdeal.main_arg8) = m ((c.tc : Thread Cert.MidRefIdeal.nD Cert.MidRefIdeal.τ).loc Cert.MidRefIdeal.main_arg8)
      ∧ r.2.mem ((c.tc : Thread Cert.MidRefIdeal.nD Cert.MidRefIdeal.τ).loc Cert.MidRefIdeal.main_arg9) = m ((c.tc : Thread Cert.MidRefIdeal.nD Cert.MidRefIdeal.τ).loc Cert.MidRefIdeal.main_arg9)
      ∧ r.2.mem ((c.tc : Thread Cert.MidRefIdeal.nD Cert.MidRefIdeal.τ).loc Cert.MidRefIdeal.main_arg10) = m ((c.tc : Thread Cert.MidRefIdeal.nD Cert.MidRefIdeal.τ).loc Cert.MidRefIdeal.main_arg10))
      ∧ r.2.sem = fun _ => 0)

def quiescent_Bt [hBt : Cert.Bt.Facts] : Prop :=
  ∀ (m : (ℓ : Loc Cert.Bt.nD Cert.Bt.τ Cert.Bt.sig) → Buf (Elt Bits) ℓ) (g : Dev Cert.Bt.nD → PrngReg), Pre_Bt m →
    θ_run (Cert.Bt.defs (F := Bits)) (onTc (τ := Cert.Bt.τ) (Cert.Bt.main (F := Bits))) ⟨m, fun _ => 0, g⟩ (fun r => (∀ c : Dev Cert.Bt.nD,
      r.2.mem ((c.tc : Thread Cert.Bt.nD Cert.Bt.τ).loc Cert.Bt.main_arg0) = m ((c.tc : Thread Cert.Bt.nD Cert.Bt.τ).loc Cert.Bt.main_arg0))
      ∧ r.2.sem = fun _ => 0)

def quiescent_BtIdeal [hBtIdeal : Cert.BtIdeal.Facts] : Prop :=
  ∀ (m : (ℓ : Loc Cert.BtIdeal.nD Cert.BtIdeal.τ Cert.BtIdeal.sig) → Buf (Elt Ideal) ℓ) (g : Dev Cert.BtIdeal.nD → PrngReg), Pre_BtIdeal m →
    θ_run (Cert.BtIdeal.defs (F := Ideal)) (onTc (τ := Cert.BtIdeal.τ) (Cert.BtIdeal.main (F := Ideal))) ⟨m, fun _ => 0, g⟩ (fun r => (∀ c : Dev Cert.BtIdeal.nD,
      r.2.mem ((c.tc : Thread Cert.BtIdeal.nD Cert.BtIdeal.τ).loc Cert.BtIdeal.main_arg0) = m ((c.tc : Thread Cert.BtIdeal.nD Cert.BtIdeal.τ).loc Cert.BtIdeal.main_arg0))
      ∧ r.2.sem = fun _ => 0)

def quiescent_BtIdeal_pre_bias_finite [hBtIdeal : Cert.BtIdeal.Facts] [hPre_bias_finite : Cert.Pre_bias_finite.Facts] : Prop :=
  ∀ (m : (ℓ : Loc Cert.BtIdeal.nD Cert.BtIdeal.τ Cert.BtIdeal.sig) → Buf (Elt Ideal) ℓ) (g : Dev Cert.BtIdeal.nD → PrngReg), Pre_BtIdeal_bias_finite m →
    θ_run (Cert.BtIdeal.defs (F := Ideal)) (onTc (τ := Cert.BtIdeal.τ) (Cert.BtIdeal.main (F := Ideal))) ⟨m, fun _ => 0, g⟩ (fun r => (∀ c : Dev Cert.BtIdeal.nD,
      r.2.mem ((c.tc : Thread Cert.BtIdeal.nD Cert.BtIdeal.τ).loc Cert.BtIdeal.main_arg0) = m ((c.tc : Thread Cert.BtIdeal.nD Cert.BtIdeal.τ).loc Cert.BtIdeal.main_arg0))
      ∧ r.2.sem = fun _ => 0)

def quiescent_BtRefIdeal [hBtRefIdeal : Cert.BtRefIdeal.Facts] : Prop :=
  ∀ (m : (ℓ : Loc Cert.BtRefIdeal.nD Cert.BtRefIdeal.τ Cert.BtRefIdeal.sig) → Buf (Elt Ideal) ℓ) (g : Dev Cert.BtRefIdeal.nD → PrngReg), Pre_BtRefIdeal m →
    θ_run (Cert.BtRefIdeal.defs (F := Ideal)) (onTc (τ := Cert.BtRefIdeal.τ) (Cert.BtRefIdeal.main (F := Ideal))) ⟨m, fun _ => 0, g⟩ (fun r => (∀ c : Dev Cert.BtRefIdeal.nD,
      r.2.mem ((c.tc : Thread Cert.BtRefIdeal.nD Cert.BtRefIdeal.τ).loc Cert.BtRefIdeal.main_arg0) = m ((c.tc : Thread Cert.BtRefIdeal.nD Cert.BtRefIdeal.τ).loc Cert.BtRefIdeal.main_arg0))
      ∧ r.2.sem = fun _ => 0)

def quiescent_BtRefIdeal_pre_bias_finite [hBtRefIdeal : Cert.BtRefIdeal.Facts] [hPre_bias_finite : Cert.Pre_bias_finite.Facts] : Prop :=
  ∀ (m : (ℓ : Loc Cert.BtRefIdeal.nD Cert.BtRefIdeal.τ Cert.BtRefIdeal.sig) → Buf (Elt Ideal) ℓ) (g : Dev Cert.BtRefIdeal.nD → PrngReg), Pre_BtRefIdeal_bias_finite m →
    θ_run (Cert.BtRefIdeal.defs (F := Ideal)) (onTc (τ := Cert.BtRefIdeal.τ) (Cert.BtRefIdeal.main (F := Ideal))) ⟨m, fun _ => 0, g⟩ (fun r => (∀ c : Dev Cert.BtRefIdeal.nD,
      r.2.mem ((c.tc : Thread Cert.BtRefIdeal.nD Cert.BtRefIdeal.τ).loc Cert.BtRefIdeal.main_arg0) = m ((c.tc : Thread Cert.BtRefIdeal.nD Cert.BtRefIdeal.τ).loc Cert.BtRefIdeal.main_arg0))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)
      ∧ m' ((c.tc : Thread Cert.FfnRefIdeal.nD Cert.FfnRefIdeal.τ).loc Cert.FfnRefIdeal.main_arg10) = m ((c.tc : Thread Cert.FfnIdeal.nD Cert.FfnIdeal.τ).loc Cert.FfnIdeal.main_arg10)) →
    ∃ (v0 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v34) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9)
          ∧ r.2.mem ((c.tc : Thread Cert.FfnRefIdeal.nD Cert.FfnRefIdeal.τ).loc Cert.FfnRefIdeal.main_arg10) = m' ((c.tc : Thread Cert.FfnRefIdeal.nD Cert.FfnRefIdeal.τ).loc Cert.FfnRefIdeal.main_arg10))

def preserves_Da_DaIdeal : Prop :=
  IdealRules.named_const.Statement Cert.DaIdeal.κ "scale" .f32 0x3E8293EE#32 (((Real.sqrt 32)⁻¹ * (Real.log 2)⁻¹ : ℝ) : EReal)

def algebraic_DaIdeal_DaRefIdeal_pre_entries_finite [hDaIdeal : Cert.DaIdeal.Facts] [hDaRefIdeal : Cert.DaRefIdeal.Facts] [hPre_entries_finite : Cert.Pre_entries_finite.Facts] : Prop :=
  ∀ (m : (ℓ : Loc Cert.DaIdeal.nD Cert.DaIdeal.τ Cert.DaIdeal.sig) → Buf (Elt Ideal) ℓ) (g : Dev Cert.DaIdeal.nD → PrngReg)
    (m' : (ℓ : Loc Cert.DaRefIdeal.nD Cert.DaRefIdeal.τ Cert.DaRefIdeal.sig) → Buf (Elt Ideal) ℓ) (g' : Dev Cert.DaRefIdeal.nD → PrngReg), Pre_DaIdeal_entries_finite m →
    (∀ c : Dev Cert.DaIdeal.nD,
      m' ((c.tc : Thread Cert.DaRefIdeal.nD Cert.DaRefIdeal.τ).loc Cert.DaRefIdeal.main_arg0) = m ((c.tc : Thread Cert.DaIdeal.nD Cert.DaIdeal.τ).loc Cert.DaIdeal.main_arg0)
      ∧ m' ((c.tc : Thread Cert.DaRefIdeal.nD Cert.DaRefIdeal.τ).loc Cert.DaRefIdeal.main_arg1) = m ((c.tc : Thread Cert.DaIdeal.nD Cert.DaIdeal.τ).loc Cert.DaIdeal.main_arg1)
      ∧ m' ((c.tc : Thread Cert.DaRefIdeal.nD Cert.DaRefIdeal.τ).loc Cert.DaRefIdeal.main_arg2) = m ((c.tc : Thread Cert.DaIdeal.nD Cert.DaIdeal.τ).loc Cert.DaIdeal.main_arg2)
      ∧ m' ((c.tc : Thread Cert.DaRefIdeal.nD Cert.DaRefIdeal.τ).loc Cert.DaRefIdeal.main_arg3) = m ((c.tc : Thread Cert.DaIdeal.nD Cert.DaIdeal.τ).loc Cert.DaIdeal.main_arg3)
      ∧ m' ((c.tc : Thread Cert.DaRefIdeal.nD Cert.DaRefIdeal.τ).loc Cert.DaRefIdeal.main_arg4) = m ((c.tc : Thread Cert.DaIdeal.nD Cert.DaIdeal.τ).loc Cert.DaIdeal.main_arg4)
      ∧ m' ((c.tc : Thread Cert.DaRefIdeal.nD Cert.DaRefIdeal.τ).loc Cert.DaRefIdeal.main_arg5) = m ((c.tc : Thread Cert.DaIdeal.nD Cert.DaIdeal.τ).loc Cert.DaIdeal.main_arg5)) →
    ∃ (v0 : (c : Dev Cert.DaIdeal.nD) → Buf (Elt Ideal) ((c.tc : Thread Cert.DaIdeal.nD Cert.DaIdeal.τ).loc Cert.DaIdeal.main_v31)),
      θ_run (Cert.DaIdeal.defs (F := Ideal)) (onTc (τ := Cert.DaIdeal.τ) (Cert.DaIdeal.main (F := Ideal))) ⟨m, fun _ => 0, g⟩ (fun r => ∀ c : Dev Cert.DaIdeal.nD,
          r.2.mem ((c.tc : Thread Cert.DaIdeal.nD Cert.DaIdeal.τ).loc Cert.DaIdeal.main_v31) = v0 c
          ∧ r.2.mem ((c.tc : Thread Cert.DaIdeal.nD Cert.DaIdeal.τ).loc Cert.DaIdeal.main_arg0) = m ((c.tc : Thread Cert.DaIdeal.nD Cert.DaIdeal.τ).loc Cert.DaIdeal.main_arg0)
          ∧ r.2.mem ((c.tc : Thread Cert.DaIdeal.nD Cert.DaIdeal.τ).loc Cert.DaIdeal.main_arg1) = m ((c.tc : Thread Cert.DaIdeal.nD Cert.DaIdeal.τ).loc Cert.DaIdeal.main_arg1)
          ∧ r.2.mem ((c.tc : Thread Cert.DaIdeal.nD Cert.DaIdeal.τ).loc Cert.DaIdeal.main_arg2) = m ((c.tc : Thread Cert.DaIdeal.nD Cert.DaIdeal.τ).loc Cert.DaIdeal.main_arg2)
          ∧ r.2.mem ((c.tc : Thread Cert.DaIdeal.nD Cert.DaIdeal.τ).loc Cert.DaIdeal.main_arg3) = m ((c.tc : Thread Cert.DaIdeal.nD Cert.DaIdeal.τ).loc Cert.DaIdeal.main_arg3)
          ∧ r.2.mem ((c.tc : Thread Cert.DaIdeal.nD Cert.DaIdeal.τ).loc Cert.DaIdeal.main_arg4) = m ((c.tc : Thread Cert.DaIdeal.nD Cert.DaIdeal.τ).loc Cert.DaIdeal.main_arg4)
          ∧ r.2.mem ((c.tc : Thread Cert.DaIdeal.nD Cert.DaIdeal.τ).loc Cert.DaIdeal.main_arg5) = m ((c.tc : Thread Cert.DaIdeal.nD Cert.DaIdeal.τ).loc Cert.DaIdeal.main_arg5))
      ∧ θ_run (Cert.DaRefIdeal.defs (F := Ideal)) (onTc (τ := Cert.DaRefIdeal.τ) (Cert.DaRefIdeal.main (F := Ideal))) ⟨m', fun _ => 0, g'⟩ (fun r => ∀ c : Dev Cert.DaRefIdeal.nD,
          r.2.mem ((c.tc : Thread Cert.DaRefIdeal.nD Cert.DaRefIdeal.τ).loc Cert.DaRefIdeal.main_v59) = v0 c
          ∧ r.2.mem ((c.tc : Thread Cert.DaRefIdeal.nD Cert.DaRefIdeal.τ).loc Cert.DaRefIdeal.main_arg0) = m' ((c.tc : Thread Cert.DaRefIdeal.nD Cert.DaRefIdeal.τ).loc Cert.DaRefIdeal.main_arg0)
          ∧ r.2.mem ((c.tc : Thread Cert.DaRefIdeal.nD Cert.DaRefIdeal.τ).loc Cert.DaRefIdeal.main_arg1) = m' ((c.tc : Thread Cert.DaRefIdeal.nD Cert.DaRefIdeal.τ).loc Cert.DaRefIdeal.main_arg1)
          ∧ r.2.mem ((c.tc : Thread Cert.DaRefIdeal.nD Cert.DaRefIdeal.τ).loc Cert.DaRefIdeal.main_arg2) = m' ((c.tc : Thread Cert.DaRefIdeal.nD Cert.DaRefIdeal.τ).loc Cert.DaRefIdeal.main_arg2)
          ∧ r.2.mem ((c.tc : Thread Cert.DaRefIdeal.nD Cert.DaRefIdeal.τ).loc Cert.DaRefIdeal.main_arg3) = m' ((c.tc : Thread Cert.DaRefIdeal.nD Cert.DaRefIdeal.τ).loc Cert.DaRefIdeal.main_arg3)
          ∧ r.2.mem ((c.tc : Thread Cert.DaRefIdeal.nD Cert.DaRefIdeal.τ).loc Cert.DaRefIdeal.main_arg4) = m' ((c.tc : Thread Cert.DaRefIdeal.nD Cert.DaRefIdeal.τ).loc Cert.DaRefIdeal.main_arg4)
          ∧ r.2.mem ((c.tc : Thread Cert.DaRefIdeal.nD Cert.DaRefIdeal.τ).loc Cert.DaRefIdeal.main_arg5) = m' ((c.tc : Thread Cert.DaRefIdeal.nD Cert.DaRefIdeal.τ).loc Cert.DaRefIdeal.main_arg5))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)) →
    ∃ (v0 : (c : Dev Cert.InIdeal.nD) → Buf (Elt Ideal) ((c.tc : Thread Cert.InIdeal.nD Cert.InIdeal.τ).loc Cert.InIdeal.main_v71_0)) (v1 : (c : Dev Cert.InIdeal.nD) → Buf (Elt Ideal) ((c.tc : Thread Cert.InIdeal.nD Cert.InIdeal.τ).loc Cert.InIdeal.main_v71_1)) (v2 : (c : Dev Cert.InIdeal.nD) → Buf (Elt Ideal) ((c.tc : Thread Cert.InIdeal.nD Cert.InIdeal.τ).loc Cert.InIdeal.main_v71_2)) (v3 : (c : Dev Cert.InIdeal.nD) → Buf (Elt Ideal) ((c.tc : Thread Cert.InIdeal.nD Cert.InIdeal.τ).loc Cert.InIdeal.main_v71_3)) (v4 : (c : Dev Cert.InIdeal.nD) → Buf (Elt Ideal) ((c.tc : Thread Cert.InIdeal.nD Cert.InIdeal.τ).loc Cert.InIdeal.main_v71_4)) (v5 : (c : Dev Cert.InIdeal.nD) → Buf (Elt Ideal) ((c.tc : Thread Cert.InIdeal.nD Cert.InIdeal.τ).loc Cert.InIdeal.main_v71_5)) (v6 : (c : Dev Cert.InIdeal.nD) → Buf (Elt Ideal) ((c.tc : Thread Cert.InIdeal.nD Cert.InIdeal.τ).loc Cert.InIdeal.main_v71_6)) (v7 : (c : Dev Cert.InIdeal.nD) → Buf (Elt Ideal) ((c.tc : Thread Cert.InIdeal.nD Cert.InIdeal.τ).loc Cert.InIdeal.main_v71_7)) (v8 : (c : Dev Cert.InIdeal.nD) → Buf (Elt Ideal) ((c.tc : Thread Cert.InIdeal.nD Cert.InIdeal.τ).loc Cert.InIdeal.main_v71_8)) (v9 : (c : Dev Cert.InIdeal.nD) → Buf (Elt Ideal) ((c.tc : Thread Cert.InIdeal.nD Cert.InIdeal.τ).loc Cert.InIdeal.main_v71_9)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v71_0) = v0 c
          ∧ r.2.mem ((c.tc : Thread Cert.InIdeal.nD Cert.InIdeal.τ).loc Cert.InIdeal.main_v71_1) = v1 c
          ∧ r.2.mem ((c.tc : Thread Cert.InIdeal.nD Cert.InIdeal.τ).loc Cert.InIdeal.main_v71_2) = v2 c
          ∧ r.2.mem ((c.tc : Thread Cert.InIdeal.nD Cert.InIdeal.τ).loc Cert.InIdeal.main_v71_3) = v3 c
          ∧ r.2.mem ((c.tc : Thread Cert.InIdeal.nD Cert.InIdeal.τ).loc Cert.InIdeal.main_v71_4) = v4 c
          ∧ r.2.mem ((c.tc : Thread Cert.InIdeal.nD Cert.InIdeal.τ).loc Cert.InIdeal.main_v71_5) = v5 c
          ∧ r.2.mem ((c.tc : Thread Cert.InIdeal.nD Cert.InIdeal.τ).loc Cert.InIdeal.main_v71_6) = v6 c
          ∧ r.2.mem ((c.tc : Thread Cert.InIdeal.nD Cert.InIdeal.τ).loc Cert.InIdeal.main_v71_7) = v7 c
          ∧ r.2.mem ((c.tc : Thread Cert.InIdeal.nD Cert.InIdeal.τ).loc Cert.InIdeal.main_v71_8) = v8 c
          ∧ r.2.mem ((c.tc : Thread Cert.InIdeal.nD Cert.InIdeal.τ).loc Cert.InIdeal.main_v71_9) = v9 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v102) = v0 c
          ∧ r.2.mem ((c.tc : Thread Cert.InRefIdeal.nD Cert.InRefIdeal.τ).loc Cert.InRefIdeal.main_v104) = v1 c
          ∧ r.2.mem ((c.tc : Thread Cert.InRefIdeal.nD Cert.InRefIdeal.τ).loc Cert.InRefIdeal.main_v106) = v2 c
          ∧ r.2.mem ((c.tc : Thread Cert.InRefIdeal.nD Cert.InRefIdeal.τ).loc Cert.InRefIdeal.main_v108) = v3 c
          ∧ r.2.mem ((c.tc : Thread Cert.InRefIdeal.nD Cert.InRefIdeal.τ).loc Cert.InRefIdeal.main_v110) = v4 c
          ∧ r.2.mem ((c.tc : Thread Cert.InRefIdeal.nD Cert.InRefIdeal.τ).loc Cert.InRefIdeal.main_v112) = v5 c
          ∧ r.2.mem ((c.tc : Thread Cert.InRefIdeal.nD Cert.InRefIdeal.τ).loc Cert.InRefIdeal.main_v114) = v6 c
          ∧ r.2.mem ((c.tc : Thread Cert.InRefIdeal.nD Cert.InRefIdeal.τ).loc Cert.InRefIdeal.main_v116) = v7 c
          ∧ r.2.mem ((c.tc : Thread Cert.InRefIdeal.nD Cert.InRefIdeal.τ).loc Cert.InRefIdeal.main_v117) = v8 c
          ∧ r.2.mem ((c.tc : Thread Cert.InRefIdeal.nD Cert.InRefIdeal.τ).loc Cert.InRefIdeal.main_v119) = v9 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2))

def preserves_Cv_CvIdeal : Prop :=
  True

def algebraic_CvIdeal_CvRefIdeal [hCvIdeal : Cert.CvIdeal.Facts] [hCvRefIdeal : Cert.CvRefIdeal.Facts] : Prop :=
  ∀ (m : (ℓ : Loc Cert.CvIdeal.nD Cert.CvIdeal.τ Cert.CvIdeal.sig) → Buf (Elt Ideal) ℓ) (g : Dev Cert.CvIdeal.nD → PrngReg)
    (m' : (ℓ : Loc Cert.CvRefIdeal.nD Cert.CvRefIdeal.τ Cert.CvRefIdeal.sig) → Buf (Elt Ideal) ℓ) (g' : Dev Cert.CvRefIdeal.nD → PrngReg), Pre_CvIdeal m →
    (∀ c : Dev Cert.CvIdeal.nD,
      m' ((c.tc : Thread Cert.CvRefIdeal.nD Cert.CvRefIdeal.τ).loc Cert.CvRefIdeal.main_arg0) = m ((c.tc : Thread Cert.CvIdeal.nD Cert.CvIdeal.τ).loc Cert.CvIdeal.main_arg0)
      ∧ m' ((c.tc : Thread Cert.CvRefIdeal.nD Cert.CvRefIdeal.τ).loc Cert.CvRefIdeal.main_arg1) = m ((c.tc : Thread Cert.CvIdeal.nD Cert.CvIdeal.τ).loc Cert.CvIdeal.main_arg1)
      ∧ m' ((c.tc : Thread Cert.CvRefIdeal.nD Cert.CvRefIdeal.τ).loc Cert.CvRefIdeal.main_arg2) = m ((c.tc : Thread Cert.CvIdeal.nD Cert.CvIdeal.τ).loc Cert.CvIdeal.main_arg2)) →
    ∃ (v0 : (c : Dev Cert.CvIdeal.nD) → Buf (Elt Ideal) ((c.tc : Thread Cert.CvIdeal.nD Cert.CvIdeal.τ).loc Cert.CvIdeal.main_v2)),
      θ_run (Cert.CvIdeal.defs (F := Ideal)) (onTc (τ := Cert.CvIdeal.τ) (Cert.CvIdeal.main (F := Ideal))) ⟨m, fun _ => 0, g⟩ (fun r => ∀ c : Dev Cert.CvIdeal.nD,
          r.2.mem ((c.tc : Thread Cert.CvIdeal.nD Cert.CvIdeal.τ).loc Cert.CvIdeal.main_v2) = v0 c
          ∧ r.2.mem ((c.tc : Thread Cert.CvIdeal.nD Cert.CvIdeal.τ).loc Cert.CvIdeal.main_arg0) = m ((c.tc : Thread Cert.CvIdeal.nD Cert.CvIdeal.τ).loc Cert.CvIdeal.main_arg0)
          ∧ r.2.mem ((c.tc : Thread Cert.CvIdeal.nD Cert.CvIdeal.τ).loc Cert.CvIdeal.main_arg1) = m ((c.tc : Thread Cert.CvIdeal.nD Cert.CvIdeal.τ).loc Cert.CvIdeal.main_arg1)
          ∧ r.2.mem ((c.tc : Thread Cert.CvIdeal.nD Cert.CvIdeal.τ).loc Cert.CvIdeal.main_arg2) = m ((c.tc : Thread Cert.CvIdeal.nD Cert.CvIdeal.τ).loc Cert.CvIdeal.main_arg2))
      ∧ θ_run (Cert.CvRefIdeal.defs (F := Ideal)) (onTc (τ := Cert.CvRefIdeal.τ) (Cert.CvRefIdeal.main (F := Ideal))) ⟨m', fun _ => 0, g'⟩ (fun r => ∀ c : Dev Cert.CvRefIdeal.nD,
          r.2.mem ((c.tc : Thread Cert.CvRefIdeal.nD Cert.CvRefIdeal.τ).loc Cert.CvRefIdeal.main_v43) = v0 c
          ∧ r.2.mem ((c.tc : Thread Cert.CvRefIdeal.nD Cert.CvRefIdeal.τ).loc Cert.CvRefIdeal.main_arg0) = m' ((c.tc : Thread Cert.CvRefIdeal.nD Cert.CvRefIdeal.τ).loc Cert.CvRefIdeal.main_arg0)
          ∧ r.2.mem ((c.tc : Thread Cert.CvRefIdeal.nD Cert.CvRefIdeal.τ).loc Cert.CvRefIdeal.main_arg1) = m' ((c.tc : Thread Cert.CvRefIdeal.nD Cert.CvRefIdeal.τ).loc Cert.CvRefIdeal.main_arg1)
          ∧ r.2.mem ((c.tc : Thread Cert.CvRefIdeal.nD Cert.CvRefIdeal.τ).loc Cert.CvRefIdeal.main_arg2) = m' ((c.tc : Thread Cert.CvRefIdeal.nD Cert.CvRefIdeal.τ).loc Cert.CvRefIdeal.main_arg2))

def preserves_Fn_FnIdeal : Prop :=
  True

def algebraic_FnIdeal_FnRefIdeal_pre_steps_close [hFnIdeal : Cert.FnIdeal.Facts] [hFnRefIdeal : Cert.FnRefIdeal.Facts] [hPre_steps_close : Cert.Pre_steps_close.Facts] : Prop :=
  ∀ (m : (ℓ : Loc Cert.FnIdeal.nD Cert.FnIdeal.τ Cert.FnIdeal.sig) → Buf (Elt Ideal) ℓ) (g : Dev Cert.FnIdeal.nD → PrngReg)
    (m' : (ℓ : Loc Cert.FnRefIdeal.nD Cert.FnRefIdeal.τ Cert.FnRefIdeal.sig) → Buf (Elt Ideal) ℓ) (g' : Dev Cert.FnRefIdeal.nD → PrngReg), Pre_FnIdeal_steps_close m →
    (∀ c : Dev Cert.FnIdeal.nD,
      m' ((c.tc : Thread Cert.FnRefIdeal.nD Cert.FnRefIdeal.τ).loc Cert.FnRefIdeal.main_arg0) = m ((c.tc : Thread Cert.FnIdeal.nD Cert.FnIdeal.τ).loc Cert.FnIdeal.main_arg0)
      ∧ m' ((c.tc : Thread Cert.FnRefIdeal.nD Cert.FnRefIdeal.τ).loc Cert.FnRefIdeal.main_arg1) = m ((c.tc : Thread Cert.FnIdeal.nD Cert.FnIdeal.τ).loc Cert.FnIdeal.main_arg1)
      ∧ m' ((c.tc : Thread Cert.FnRefIdeal.nD Cert.FnRefIdeal.τ).loc Cert.FnRefIdeal.main_arg2) = m ((c.tc : Thread Cert.FnIdeal.nD Cert.FnIdeal.τ).loc Cert.FnIdeal.main_arg2)) →
    ∃ (v0 : (c : Dev Cert.FnIdeal.nD) → Buf (Elt Ideal) ((c.tc : Thread Cert.FnIdeal.nD Cert.FnIdeal.τ).loc Cert.FnIdeal.main_v75)),
      θ_run (Cert.FnIdeal.defs (F := Ideal)) (onTc (τ := Cert.FnIdeal.τ) (Cert.FnIdeal.main (F := Ideal))) ⟨m, fun _ => 0, g⟩ (fun r => ∀ c : Dev Cert.FnIdeal.nD,
          r.2.mem ((c.tc : Thread Cert.FnIdeal.nD Cert.FnIdeal.τ).loc Cert.FnIdeal.main_v75) = v0 c
          ∧ r.2.mem ((c.tc : Thread Cert.FnIdeal.nD Cert.FnIdeal.τ).loc Cert.FnIdeal.main_arg0) = m ((c.tc : Thread Cert.FnIdeal.nD Cert.FnIdeal.τ).loc Cert.FnIdeal.main_arg0)
          ∧ r.2.mem ((c.tc : Thread Cert.FnIdeal.nD Cert.FnIdeal.τ).loc Cert.FnIdeal.main_arg1) = m ((c.tc : Thread Cert.FnIdeal.nD Cert.FnIdeal.τ).loc Cert.FnIdeal.main_arg1)
          ∧ r.2.mem ((c.tc : Thread Cert.FnIdeal.nD Cert.FnIdeal.τ).loc Cert.FnIdeal.main_arg2) = m ((c.tc : Thread Cert.FnIdeal.nD Cert.FnIdeal.τ).loc Cert.FnIdeal.main_arg2))
      ∧ θ_run (Cert.FnRefIdeal.defs (F := Ideal)) (onTc (τ := Cert.FnRefIdeal.τ) (Cert.FnRefIdeal.main (F := Ideal))) ⟨m', fun _ => 0, g'⟩ (fun r => ∀ c : Dev Cert.FnRefIdeal.nD,
          r.2.mem ((c.tc : Thread Cert.FnRefIdeal.nD Cert.FnRefIdeal.τ).loc Cert.FnRefIdeal.main_v24) = v0 c
          ∧ r.2.mem ((c.tc : Thread Cert.FnRefIdeal.nD Cert.FnRefIdeal.τ).loc Cert.FnRefIdeal.main_arg0) = m' ((c.tc : Thread Cert.FnRefIdeal.nD Cert.FnRefIdeal.τ).loc Cert.FnRefIdeal.main_arg0)
          ∧ r.2.mem ((c.tc : Thread Cert.FnRefIdeal.nD Cert.FnRefIdeal.τ).loc Cert.FnRefIdeal.main_arg1) = m' ((c.tc : Thread Cert.FnRefIdeal.nD Cert.FnRefIdeal.τ).loc Cert.FnRefIdeal.main_arg1)
          ∧ r.2.mem ((c.tc : Thread Cert.FnRefIdeal.nD Cert.FnRefIdeal.τ).loc Cert.FnRefIdeal.main_arg2) = m' ((c.tc : Thread Cert.FnRefIdeal.nD Cert.FnRefIdeal.τ).loc Cert.FnRefIdeal.main_arg2))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)
      ∧ m' ((c.tc : Thread Cert.MidRefIdeal.nD Cert.MidRefIdeal.τ).loc Cert.MidRefIdeal.main_arg7) = m ((c.tc : Thread Cert.MidIdeal.nD Cert.MidIdeal.τ).loc Cert.MidIdeal.main_arg7)
      ∧ m' ((c.tc : Thread Cert.MidRefIdeal.nD Cert.MidRefIdeal.τ).loc Cert.MidRefIdeal.main_arg8) = m ((c.tc : Thread Cert.MidIdeal.nD Cert.MidIdeal.τ).loc Cert.MidIdeal.main_arg8)
      ∧ m' ((c.tc : Thread Cert.MidRefIdeal.nD Cert.MidRefIdeal.τ).loc Cert.MidRefIdeal.main_arg9) = m ((c.tc : Thread Cert.MidIdeal.nD Cert.MidIdeal.τ).loc Cert.MidIdeal.main_arg9)
      ∧ m' ((c.tc : Thread Cert.MidRefIdeal.nD Cert.MidRefIdeal.τ).loc Cert.MidRefIdeal.main_arg10) = m ((c.tc : Thread Cert.MidIdeal.nD Cert.MidIdeal.τ).loc Cert.MidIdeal.main_arg10)) →
    ∃ (v0 : (c : Dev Cert.MidIdeal.nD) → Buf (Elt Ideal) ((c.tc : Thread Cert.MidIdeal.nD Cert.MidIdeal.τ).loc Cert.MidIdeal.main_v10)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v10) = v0 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
          ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
          ∧ r.2.mem ((c.tc : Thread Cert.MidIdeal.nD Cert.MidIdeal.τ).loc Cert.MidIdeal.main_arg10) = m ((c.tc : Thread Cert.MidIdeal.nD Cert.MidIdeal.τ).loc Cert.MidIdeal.main_arg10))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v21) = v0 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6)
          ∧ r.2.mem ((c.tc : Thread Cert.MidRefIdeal.nD Cert.MidRefIdeal.τ).loc Cert.MidRefIdeal.main_arg7) = m' ((c.tc : Thread Cert.MidRefIdeal.nD Cert.MidRefIdeal.τ).loc Cert.MidRefIdeal.main_arg7)
          ∧ r.2.mem ((c.tc : Thread Cert.MidRefIdeal.nD Cert.MidRefIdeal.τ).loc Cert.MidRefIdeal.main_arg8) = m' ((c.tc : Thread Cert.MidRefIdeal.nD Cert.MidRefIdeal.τ).loc Cert.MidRefIdeal.main_arg8)
          ∧ r.2.mem ((c.tc : Thread Cert.MidRefIdeal.nD Cert.MidRefIdeal.τ).loc Cert.MidRefIdeal.main_arg9) = m' ((c.tc : Thread Cert.MidRefIdeal.nD Cert.MidRefIdeal.τ).loc Cert.MidRefIdeal.main_arg9)
          ∧ r.2.mem ((c.tc : Thread Cert.MidRefIdeal.nD Cert.MidRefIdeal.τ).loc Cert.MidRefIdeal.main_arg10) = m' ((c.tc : Thread Cert.MidRefIdeal.nD Cert.MidRefIdeal.τ).loc Cert.MidRefIdeal.main_arg10))

def preserves_Bt_BtIdeal : Prop :=
  True

def algebraic_BtIdeal_BtRefIdeal_pre_bias_finite [hBtIdeal : Cert.BtIdeal.Facts] [hBtRefIdeal : Cert.BtRefIdeal.Facts] [hPre_bias_finite : Cert.Pre_bias_finite.Facts] : Prop :=
  ∀ (m : (ℓ : Loc Cert.BtIdeal.nD Cert.BtIdeal.τ Cert.BtIdeal.sig) → Buf (Elt Ideal) ℓ) (g : Dev Cert.BtIdeal.nD → PrngReg)
    (m' : (ℓ : Loc Cert.BtRefIdeal.nD Cert.BtRefIdeal.τ Cert.BtRefIdeal.sig) → Buf (Elt Ideal) ℓ) (g' : Dev Cert.BtRefIdeal.nD → PrngReg), Pre_BtIdeal_bias_finite m →
    (∀ c : Dev Cert.BtIdeal.nD,
      m' ((c.tc : Thread Cert.BtRefIdeal.nD Cert.BtRefIdeal.τ).loc Cert.BtRefIdeal.main_arg0) = m ((c.tc : Thread Cert.BtIdeal.nD Cert.BtIdeal.τ).loc Cert.BtIdeal.main_arg0)) →
    ∃ (v0 : (c : Dev Cert.BtIdeal.nD) → Buf (Elt Ideal) ((c.tc : Thread Cert.BtIdeal.nD Cert.BtIdeal.τ).loc Cert.BtIdeal.main_v66)),
      θ_run (Cert.BtIdeal.defs (F := Ideal)) (onTc (τ := Cert.BtIdeal.τ) (Cert.BtIdeal.main (F := Ideal))) ⟨m, fun _ => 0, g⟩ (fun r => ∀ c : Dev Cert.BtIdeal.nD,
          r.2.mem ((c.tc : Thread Cert.BtIdeal.nD Cert.BtIdeal.τ).loc Cert.BtIdeal.main_v66) = v0 c
          ∧ r.2.mem ((c.tc : Thread Cert.BtIdeal.nD Cert.BtIdeal.τ).loc Cert.BtIdeal.main_arg0) = m ((c.tc : Thread Cert.BtIdeal.nD Cert.BtIdeal.τ).loc Cert.BtIdeal.main_arg0))
      ∧ θ_run (Cert.BtRefIdeal.defs (F := Ideal)) (onTc (τ := Cert.BtRefIdeal.τ) (Cert.BtRefIdeal.main (F := Ideal))) ⟨m', fun _ => 0, g'⟩ (fun r => ∀ c : Dev Cert.BtRefIdeal.nD,
          r.2.mem ((c.tc : Thread Cert.BtRefIdeal.nD Cert.BtRefIdeal.τ).loc Cert.BtRefIdeal.main_v55) = v0 c
          ∧ r.2.mem ((c.tc : Thread Cert.BtRefIdeal.nD Cert.BtRefIdeal.τ).loc Cert.BtRefIdeal.main_arg0) = m' ((c.tc : Thread Cert.BtRefIdeal.nD Cert.BtRefIdeal.τ).loc Cert.BtRefIdeal.main_arg0))

def Claim : Prop :=
  ∃ (hFfn : Cert.Ffn.Facts) (hFfnIdeal : Cert.FfnIdeal.Facts) (hFfnRefIdeal : Cert.FfnRefIdeal.Facts) (hDa : Cert.Da.Facts) (hDaIdeal : Cert.DaIdeal.Facts) (hDaRefIdeal : Cert.DaRefIdeal.Facts) (hIn : Cert.In.Facts) (hInIdeal : Cert.InIdeal.Facts) (hInRefIdeal : Cert.InRefIdeal.Facts) (hCv : Cert.Cv.Facts) (hCvIdeal : Cert.CvIdeal.Facts) (hCvRefIdeal : Cert.CvRefIdeal.Facts) (hFn : Cert.Fn.Facts) (hFnIdeal : Cert.FnIdeal.Facts) (hFnRefIdeal : Cert.FnRefIdeal.Facts) (hMid : Cert.Mid.Facts) (hMidIdeal : Cert.MidIdeal.Facts) (hMidRefIdeal : Cert.MidRefIdeal.Facts) (hBt : Cert.Bt.Facts) (hBtIdeal : Cert.BtIdeal.Facts) (hBtRefIdeal : Cert.BtRefIdeal.Facts) (hPre_entries_finite : Cert.Pre_entries_finite.Facts) (hPre_steps_close : Cert.Pre_steps_close.Facts) (hPre_bias_finite : Cert.Pre_bias_finite.Facts),
    quiescent_Ffn (hFfn := hFfn)
    ∧ quiescent_FfnIdeal (hFfnIdeal := hFfnIdeal)
    ∧ quiescent_FfnRefIdeal (hFfnRefIdeal := hFfnRefIdeal)
    ∧ quiescent_Da (hDa := hDa)
    ∧ quiescent_DaIdeal (hDaIdeal := hDaIdeal)
    ∧ quiescent_DaIdeal_pre_entries_finite (hDaIdeal := hDaIdeal) (hPre_entries_finite := hPre_entries_finite)
    ∧ quiescent_DaRefIdeal (hDaRefIdeal := hDaRefIdeal)
    ∧ quiescent_DaRefIdeal_pre_entries_finite (hDaRefIdeal := hDaRefIdeal) (hPre_entries_finite := hPre_entries_finite)
    ∧ quiescent_In (hIn := hIn)
    ∧ quiescent_InIdeal (hInIdeal := hInIdeal)
    ∧ quiescent_InRefIdeal (hInRefIdeal := hInRefIdeal)
    ∧ quiescent_Cv (hCv := hCv)
    ∧ quiescent_CvIdeal (hCvIdeal := hCvIdeal)
    ∧ quiescent_CvRefIdeal (hCvRefIdeal := hCvRefIdeal)
    ∧ quiescent_Fn (hFn := hFn)
    ∧ quiescent_FnIdeal (hFnIdeal := hFnIdeal)
    ∧ quiescent_FnIdeal_pre_steps_close (hFnIdeal := hFnIdeal) (hPre_steps_close := hPre_steps_close)
    ∧ quiescent_FnRefIdeal (hFnRefIdeal := hFnRefIdeal)
    ∧ quiescent_FnRefIdeal_pre_steps_close (hFnRefIdeal := hFnRefIdeal) (hPre_steps_close := hPre_steps_close)
    ∧ quiescent_Mid (hMid := hMid)
    ∧ quiescent_MidIdeal (hMidIdeal := hMidIdeal)
    ∧ quiescent_MidRefIdeal (hMidRefIdeal := hMidRefIdeal)
    ∧ quiescent_Bt (hBt := hBt)
    ∧ quiescent_BtIdeal (hBtIdeal := hBtIdeal)
    ∧ quiescent_BtIdeal_pre_bias_finite (hBtIdeal := hBtIdeal) (hPre_bias_finite := hPre_bias_finite)
    ∧ quiescent_BtRefIdeal (hBtRefIdeal := hBtRefIdeal)
    ∧ quiescent_BtRefIdeal_pre_bias_finite (hBtRefIdeal := hBtRefIdeal) (hPre_bias_finite := hPre_bias_finite)
    ∧ preserves_Ffn_FfnIdeal
    ∧ algebraic_FfnIdeal_FfnRefIdeal (hFfnIdeal := hFfnIdeal) (hFfnRefIdeal := hFfnRefIdeal)
    ∧ preserves_Da_DaIdeal
    ∧ algebraic_DaIdeal_DaRefIdeal_pre_entries_finite (hDaIdeal := hDaIdeal) (hDaRefIdeal := hDaRefIdeal) (hPre_entries_finite := hPre_entries_finite)
    ∧ preserves_In_InIdeal
    ∧ algebraic_InIdeal_InRefIdeal (hInIdeal := hInIdeal) (hInRefIdeal := hInRefIdeal)
    ∧ preserves_Cv_CvIdeal
    ∧ algebraic_CvIdeal_CvRefIdeal (hCvIdeal := hCvIdeal) (hCvRefIdeal := hCvRefIdeal)
    ∧ preserves_Fn_FnIdeal
    ∧ algebraic_FnIdeal_FnRefIdeal_pre_steps_close (hFnIdeal := hFnIdeal) (hFnRefIdeal := hFnRefIdeal) (hPre_steps_close := hPre_steps_close)
    ∧ preserves_Mid_MidIdeal
    ∧ algebraic_MidIdeal_MidRefIdeal (hMidIdeal := hMidIdeal) (hMidRefIdeal := hMidRefIdeal)
    ∧ preserves_Bt_BtIdeal
    ∧ algebraic_BtIdeal_BtRefIdeal_pre_bias_finite (hBtIdeal := hBtIdeal) (hBtRefIdeal := hBtRefIdeal) (hPre_bias_finite := hPre_bias_finite)
-- ==== Pre_bias_finite.lean ====
abbrev S4x15x31 : Shape := ⟨3, ![4, 15, 31]⟩
abbrev S_ : Shape := ⟨0, ![]⟩

class Facts : Prop where
  bcast_S_S4x15x31 : S_.BroadcastsInDim S4x15x31 (![] : Fin 0 → Fin S4x15x31.rank)

variable [Facts]

def fn {F : FTy → Type} [FloatOps F] (main_arg0 : FVec F S4x15x31 .f32) : IVec S4x15x31 1 :=
  let main_v0 : FVec F S4x15x31 .f32 := Host.absf main_arg0
  let main_cst : FVec F S_ .f32 := constant S_ .f32 0x7F800000#32
  let main_v1 : FVec F S4x15x31 .f32 := broadcastInDim S4x15x31 ![] bcast_S_S4x15x31 main_cst
  let main_v2 : IVec S4x15x31 1 := cmpf .olt main_v0 main_v1
  main_v2
-- ==== Pre_entries_finite.lean ====
abbrev S512x256 : Shape := ⟨2, ![512, 256]⟩
abbrev S4x32 : Shape := ⟨2, ![4, 32]⟩
abbrev S64 : Shape := ⟨1, ![64]⟩
abbrev S32768x256 : Shape := ⟨2, ![32768, 256]⟩
abbrev S_ : Shape := ⟨0, ![]⟩

class Facts : Prop where
  bcast_S_S32768x256 : S_.BroadcastsInDim S32768x256 (![] : Fin 0 → Fin S32768x256.rank)
  bcast_S_S4x32 : S_.BroadcastsInDim S4x32 (![] : Fin 0 → Fin S4x32.rank)
  reducesTo_S4x32_S_d0_1 : S4x32.ReducesTo [0, 1] S_
  h_S_ : 0 < S_.numel

variable [Facts]

def fn {F : FTy → Type} [FloatOps F] (main_arg0 : FVec F S512x256 .f32) (main_arg1 : FVec F S4x32 .f32) (main_arg2 : FVec F S64 .f32) (main_arg3 : FVec F S32768x256 .f32) (main_arg4 : FVec F S32768x256 .f32) (main_arg5 : FVec F S32768x256 .f32) : IVec S32768x256 1 :=
  let main_v0 : FVec F S32768x256 .f32 := Host.absf main_arg3
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_v3 : FVec F S32768x256 .f32 := Host.absf main_arg4
  let main_cst_0 : FVec F S_ .f32 := constant S_ .f32 0x7F800000#32
  let main_v4 : FVec F S32768x256 .f32 := broadcastInDim S32768x256 ![] bcast_S_S32768x256 main_cst_0
  let main_v5 : IVec S32768x256 1 := cmpf .olt main_v3 main_v4
  let main_v6 : IVec S32768x256 1 := andi main_v2 main_v5
  let main_v7 : FVec F S32768x256 .f32 := Host.absf main_arg5
  let main_cst_1 : FVec F S_ .f32 := constant S_ .f32 0x7F800000#32
  let main_v8 : FVec F S32768x256 .f32 := broadcastInDim S32768x256 ![] bcast_S_S32768x256 main_cst_1
  let main_v9 : IVec S32768x256 1 := cmpf .olt main_v7 main_v8
  let main_v10 : IVec S32768x256 1 := andi main_v6 main_v9
  let main_v11 : FVec F S4x32 .f32 := Host.absf main_arg1
  let main_cst_2 : FVec F S_ .f32 := constant S_ .f32 0x7F800000#32
  let main_v12 : FVec F S4x32 .f32 := broadcastInDim S4x32 ![] bcast_S_S4x32 main_cst_2
  let main_v13 : IVec S4x32 1 := cmpf .olt main_v11 main_v12
  let main_c : IVec S_ 1 := constantI S_ 1 1#1
  let main_v14 : IVec S_ 1 := (fun x v => Host.reduce IntOp.andi x v reducesTo_S4x32_S_d0_1 h_S_) main_v13 main_c
  let main_v15 : IVec S32768x256 1 := broadcastInDim S32768x256 ![] bcast_S_S32768x256 main_v14
  let main_v16 : IVec S32768x256 1 := andi main_v10 main_v15
  main_v16
-- ==== Pre_steps_close.lean ====
abbrev S32768x512 : Shape := ⟨2, ![32768, 512]⟩
abbrev S256x256 : Shape := ⟨2, ![256, 256]⟩
abbrev S_ : Shape := ⟨0, ![]⟩

class Facts : Prop where

variable [Facts]

def fn {F : FTy → Type} [FloatOps F] (main_arg0 : FVec F S32768x512 .f32) (main_arg1 : FVec F S256x256 .f32) (main_arg2 : FVec F S_ .f32) : IVec S_ 1 :=
  let main_cst : FVec F S_ .f32 := constant S_ .f32 0x45000000#32
  let main_v0 : FVec F S_ .f32 := mulf main_arg2 main_cst
  let main_v1 : FVec F S_ .f32 := Host.cos main_v0
  let main_cst_0 : FVec F S_ .f32 := constant S_ .f32 0x3F800000#32
  let main_v2 : IVec S_ 1 := cmpf .oeq main_v1 main_cst_0
  main_v2
-- ==== Ffn.lean ====
abbrev S32768x1024 : Shape := ⟨2, ![32768, 1024]⟩
abbrev S32768x256 : Shape := ⟨2, ![32768, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S256x2816 : Shape := ⟨2, ![256, 2816]⟩

abbrev nBuf : Space → Nat
  | .hbm => 22
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S32768x256, .f32⟩
  | .hbm, ⟨3, _⟩ => ⟨S32768x256, .f32⟩
  | .hbm, ⟨4, _⟩ => ⟨S32768x256, .f32⟩
  | .hbm, ⟨5, _⟩ => ⟨S1024x1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S1024, .f32⟩
  | .hbm, ⟨11, _⟩ => ⟨S32768x256, .bf16⟩
  | .hbm, ⟨12, _⟩ => ⟨S32768x256, .bf16⟩
  | .hbm, ⟨13, _⟩ => ⟨S32768x256, .bf16⟩
  | .hbm, ⟨14, _⟩ => ⟨S32768x256, .bf16⟩
  | .hbm, ⟨15, _⟩ => ⟨S1024x1024, .bf16⟩
  | .hbm, ⟨16, _⟩ => ⟨S1x1024, .f32⟩
  | .hbm, ⟨17, _⟩ => ⟨S1024x2816, .bf16⟩
  | .hbm, ⟨18, _⟩ => ⟨S1024x2816, .bf16⟩
  | .hbm, ⟨19, _⟩ => ⟨S2816x1024, .bf16⟩
  | .hbm, ⟨20, _⟩ => ⟨S1x1024, .f32⟩
  | .hbm, ⟨21, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S1024x1024, .bf16⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== FfnRefIdeal.lean ====
abbrev S32768x1024 : Shape := ⟨2, ![32768, 1024]⟩
abbrev S32768x256 : Shape := ⟨2, ![32768, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 60
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S32768x256, .f32⟩
  | .hbm, ⟨3, _⟩ => ⟨S32768x256, .f32⟩
  | .hbm, ⟨4, _⟩ => ⟨S32768x256, .f32⟩
  | .hbm, ⟨5, _⟩ => ⟨S1024x1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S32768x1, .f32⟩
  | .hbm, ⟨25, _⟩ => ⟨S32768x1024, .f32⟩
  | .hbm, ⟨26, _⟩ => ⟨S32768x1024, .f32⟩
  | .hbm, ⟨27, _⟩ => ⟨S1x1024, .f32⟩
  | .hbm, ⟨28, _⟩ => ⟨S32768x1024, .f32⟩
  | .hbm, ⟨29, _⟩ => ⟨S32768x1024, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S_, .f32⟩
  | .hbm, ⟨34, _⟩ => ⟨S32768x2816, .f32⟩
  | .hbm, ⟨35, _⟩ => ⟨S32768x2816, .f32⟩
  | .hbm, ⟨36, _⟩ => ⟨S_, .f32⟩
  | .hbm, ⟨37, _⟩ => ⟨S32768x2816, .f32⟩
  | .hbm, ⟨38, _⟩ => ⟨S32768x2816, .f32⟩
  | .hbm, ⟨39, _⟩ => ⟨S32768x2816, .f32⟩
  | .hbm, ⟨40, _⟩ => ⟨S32768x2816, .f32⟩
  | .hbm, ⟨41, _⟩ => ⟨S32768x2816, .f32⟩
  | .hbm, ⟨42, _⟩ => ⟨S32768x1024, .f32⟩
  | .hbm, ⟨43, _⟩ => ⟨S32768x1024, .f32⟩
  | .hbm, ⟨44, _⟩ => ⟨S32768x1024, .f32⟩
  | .hbm, ⟨45, _⟩ => ⟨S_, .f32⟩
  | .hbm, ⟨46, _⟩ => ⟨S32768, .f32⟩
  | .hbm, ⟨47, _⟩ => ⟨S32768x1, .f32⟩
  | .hbm, ⟨48, _⟩ => ⟨S_, .f32⟩
  | .hbm, ⟨49, _⟩ => ⟨S32768x1, .f32⟩
  | .hbm, ⟨50, _⟩ => ⟨S32768x1, .f32⟩
  | .hbm, ⟨51, _⟩ => ⟨S_, .f32⟩
  | .hbm, ⟨52, _⟩ => ⟨S32768x1, .f32⟩
  | .hbm, ⟨53, _⟩ => ⟨S32768x1, .f32⟩
  | .hbm, ⟨54, _⟩ => ⟨S32768x1, .f32⟩
  | .hbm, ⟨55, _⟩ => ⟨S32768x1024, .f32⟩
  | .hbm, ⟨56, _⟩ => ⟨S32768x1024, .f32⟩
  | .hbm, ⟨57, _⟩ => ⟨S1x1024, .f32⟩
  | .hbm, ⟨58, _⟩ => ⟨S32768x1024, .f32⟩
  | .hbm, ⟨59, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_2 : Ref sig .tc := ⟨.hbm, 45, rfl⟩
abbrev main_v23 : Ref sig .tc := ⟨.hbm, 46, rfl⟩
abbrev main_v24 : Ref sig .tc := ⟨.hbm, 47, rfl⟩
abbrev main_cst_3 : Ref sig .tc := ⟨.hbm, 48, rfl⟩
abbrev main_v25 : Ref sig .tc := ⟨.hbm, 49, rfl⟩
abbrev main_v26 : Ref sig .tc := ⟨.hbm, 50, rfl⟩
abbrev main_cst_4 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩

abbrev nD : Nat := 1
abbrev τ : Topo := Topo.v7x

variable {F : FTy → Type} [FloatOps F]
-- ==== Da.lean ====
abbrev S512x256 : Shape := ⟨2, ![512, 256]⟩
abbrev S4x32 : Shape := ⟨2, ![4, 32]⟩
abbrev S64 : Shape := ⟨1, ![64]⟩
abbrev S32768x256 : Shape := ⟨2, ![32768, 256]⟩
abbrev S128x128 : Shape := ⟨2, ![128, 128]⟩
abbrev S_ : Shape := ⟨0, ![]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S16x4x8x256 : Shape := ⟨4, ![16, 4, 8, 256]⟩
abbrev S16x8x256 : Shape := ⟨3, ![16, 8, 256]⟩
abbrev S16x1x256 : Shape := ⟨3, ![16, 1, 256]⟩
abbrev S16x256 : Shape := ⟨2, ![16, 256]⟩
abbrev S16x2x128 : Shape := ⟨3, ![16, 2, 128]⟩
abbrev S16x2 : Shape := ⟨2, ![16, 2]⟩
abbrev S256x128 : Shape := ⟨2, ![256, 128]⟩
abbrev S2048x128 : Shape := ⟨2, ![2048, 128]⟩
abbrev S1x32 : Shape := ⟨2, ![1, 32]⟩
abbrev S1 : Shape := ⟨1, ![1]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩

abbrev nBuf : Space → Nat
  | .hbm => 44
  | .vmem => 11
  | .smem => 1
  | _ => 0

abbrev bufTy : (tb : Table) → Fin (tcTables nBuf tb) → BufTy
  | .hbm, ⟨0, _⟩ => ⟨S512x256, .f32⟩
  | .hbm, ⟨1, _⟩ => ⟨S4x32, .f32⟩
  | .hbm, ⟨2, _⟩ => ⟨S64, .f32⟩
  | .hbm, ⟨3, _⟩ => ⟨S32768x256, .f32⟩
  | .hbm, ⟨4, _⟩ => ⟨S32768x256, .f32⟩
  | .hbm, ⟨5, _⟩ => ⟨S32768x256, .f32⟩
  | .hbm, ⟨6, _⟩ => ⟨S128x128, .i32⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S_, .i32⟩
  | .hbm, ⟨12, _⟩ => ⟨S128x128, .i32⟩
  | .hbm, ⟨13, _⟩ => ⟨S128x128, .i32⟩
  | .hbm, ⟨14, _⟩ => ⟨S128x128, .i1⟩
  | .hbm, ⟨15, _⟩ => ⟨S128x128, .f32⟩
  | .hbm, ⟨16, _⟩ => ⟨S_, .f32⟩
  | .hbm, ⟨17, _⟩ => ⟨S128x128, .f32⟩
  | .hbm, ⟨18, _⟩ => ⟨S128x128, .f32⟩
  | .hbm, ⟨19, _⟩ => ⟨S128x128, .bf16⟩
  | .hbm, ⟨20, _⟩ => ⟨S1x64, .f32⟩
  | .hbm, ⟨21, _⟩ => ⟨S1x1x1x64, .f32⟩
  | .hbm, ⟨22, _⟩ => ⟨S1x1x2x64, .f32⟩
  | .hbm, ⟨23, _⟩ => ⟨S1x128, .f32⟩
  | .hbm, ⟨24, _⟩ => ⟨S32768x256, .bf16⟩
  | .hbm, ⟨25, _⟩ => ⟨S32768x256, .bf16⟩
  | .hbm, ⟨26, _⟩ => ⟨S16x4x8x256, .f32⟩
  | .hbm, ⟨27, _⟩ => ⟨S_, .f32⟩
  | .hbm, ⟨28, _⟩ => ⟨S16x8x256, .f32⟩
  | .hbm, ⟨29, _⟩ => ⟨S16x1x256, .f32⟩
  | .hbm, ⟨30, _⟩ => ⟨S16x256, .f32⟩
  | .hbm, ⟨31, _⟩ => ⟨S16x1x256, .f32⟩
  | .hbm, ⟨32, _⟩ => ⟨S16x256, .f32⟩
  | .hbm, ⟨33, _⟩ => ⟨S16x256, .f32⟩
  | .hbm, ⟨34, _⟩ => ⟨S16x2x128, .f32⟩
  | .hbm, ⟨35, _⟩ => ⟨S_, .f32⟩
  | .hbm, ⟨36, _⟩ => ⟨S16x2, .f32⟩
  | .hbm, ⟨37, _⟩ => ⟨S_, .f32⟩
  | .hbm, ⟨38, _⟩ => ⟨S16x2, .f32⟩
  | .hbm, ⟨39, _⟩ => ⟨S16x2, .f32⟩
  | .hbm, ⟨40, _⟩ => ⟨S_, .f32⟩
  | .hbm, ⟨41, _⟩ => ⟨S16x2, .f32⟩
  | .hbm, ⟨42, _⟩ => ⟨S16x2, .i1⟩
  | .hbm, ⟨43, _⟩ => ⟨S32768x256, .bf16⟩
  | .local _ .vmem, ⟨0, _⟩ => ⟨S4x32, .f32⟩
  | .local _ .vmem, ⟨1, _⟩ => ⟨S1x128, .f32⟩
  | .local _ .vmem, ⟨2, _⟩ => ⟨S128x128, .bf16⟩
  | .local _ .vmem, ⟨3, _⟩ => ⟨S256x128, .f32⟩
  | .local _ .vmem, ⟨4, _⟩ => ⟨S256x128, .f32⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .bf16⟩
  | .local _ .vmem, ⟨9, _⟩ => ⟨S256x128, .bf16⟩
  | .local _ .vmem, ⟨10, _⟩ => ⟨S256x128, .bf16⟩
  | .local _ .smem, ⟨0, _⟩ => ⟨S16x2, .i32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v31 : Ref sig .tc := ⟨.hbm, 43, rfl⟩
abbrev main_v30 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![16, 2, 8], ![false, false, false]⟩

abbrev pre0 : Pipeline.Prefetch sig := ⟨1, ![main_v30.idx], fun | 0 => main_v30.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v16 : Index := Scalar.indexCast arg0
  let arg1 : BitVec 32 := BitVec.ofNat 32 (i 1).val
  let v17 : Index := Scalar.indexCast arg1
  ![v16.toNat, v17.toNat]
def k0_cond1 (v18 : BitVec 32) : BitVec 1 :=
  let c1_i32 : BitVec 32 := 1#32
  let v19 : BitVec 1 := Scalar.cmpi .eq v18 c1_i32
  let v20 : BitVec 32 := Scalar.extui v19
  let c0_i32 : BitVec 32 := 0#32
  let v21 : BitVec 1 := Scalar.cmpi .ne v20 c0_i32
  v21

def k0_cond2 (v18 : BitVec 32) : BitVec 1 :=
  let c1_i32 : BitVec 32 := 1#32
  let v19 : BitVec 1 := Scalar.cmpi .eq v18 c1_i32
  let v_true : BitVec 1 := 1#1
  let v22 : BitVec 1 := Scalar.xori v19 v_true
  let v23 : BitVec 32 := Scalar.extui v22
  let c0_i32_3 : BitVec 32 := 0#32
  let v24 : BitVec 1 := Scalar.cmpi .ne v23 c0_i32_3
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .vmem S4x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== DaIdeal.lean ====
variable {F : FTy → Type} [FloatOps F] [Named F]
def κ : String → Option EReal := fun
  | "scale" => some (((Real.sqrt 32)⁻¹ * (Real.log 2)⁻¹ : ℝ) : EReal)
  | _ => none
-- ==== DaRefIdeal.lean ====
abbrev S512x256 : Shape := ⟨2, ![512, 256]⟩
abbrev S4x32 : Shape := ⟨2, ![4, 32]⟩
abbrev S64 : Shape := ⟨1, ![64]⟩
abbrev S32768x256 : Shape := ⟨2, ![32768, 256]⟩
abbrev S16x2048x4x2x32 : Shape := ⟨5, ![16, 2048, 4, 2, 32]⟩
abbrev S_ : Shape := ⟨0, ![]⟩
abbrev S16x2048x4x64 : Shape := ⟨4, ![16, 2048, 4, 64]⟩
abbrev S1x32 : Shape := ⟨2, ![1, 32]⟩
abbrev S32 : Shape := ⟨1, ![32]⟩
abbrev S16x4x2x2048x2048 : Shape := ⟨5, ![16, 4, 2, 2048, 2048]⟩
abbrev S16x4x2x2048 : Shape := ⟨4, ![16, 4, 2, 2048]⟩
abbrev S16x4x2x2048x1 : Shape := ⟨5, ![16, 4, 2, 2048, 1]⟩
abbrev S16x4x1x2048x2048 : Shape := ⟨5, ![16, 4, 1, 2048, 2048]⟩
abbrev S16x4x2048x2048 : Shape := ⟨4, ![16, 4, 2048, 2048]⟩
abbrev S16x4x64x2048 : Shape := ⟨4, ![16, 4, 64, 2048]⟩
abbrev S16x2048x4 : Shape := ⟨3, ![16, 2048, 4]⟩
abbrev S16x2048x4x1 : Shape := ⟨4, ![16, 2048, 4, 1]⟩
abbrev S1x1x1x64 : Shape := ⟨4, ![1, 1, 1, 64]⟩

abbrev nBuf : Space → Nat
  | .hbm => 77
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S4x32, .f32⟩
  | .hbm, ⟨2, _⟩ => ⟨S64, .f32⟩
  | .hbm, ⟨3, _⟩ => ⟨S32768x256, .f32⟩
  | .hbm, ⟨4, _⟩ => ⟨S32768x256, .f32⟩
  | .hbm, ⟨5, _⟩ => ⟨S32768x256, .f32⟩
  | .hbm, ⟨6, _⟩ => ⟨S16x2048x4x2x32, .f32⟩
  | .hbm, ⟨7, _⟩ => ⟨S_, .f32⟩
  | .hbm, ⟨8, _⟩ => ⟨S_, .f32⟩
  | .hbm, ⟨9, _⟩ => ⟨S16x2048x4x2x32, .f32⟩
  | .hbm, ⟨10, _⟩ => ⟨S16x2048x4x2x32, .f32⟩
  | .hbm, ⟨11, _⟩ => ⟨S16x2048x4x2x32, .f32⟩
  | .hbm, ⟨12, _⟩ => ⟨S16x2048x4x64, .f32⟩
  | .hbm, ⟨13, _⟩ => ⟨S1x32, .f32⟩
  | .hbm, ⟨14, _⟩ => ⟨S32, .f32⟩
  | .hbm, ⟨15, _⟩ => ⟨S1x32, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1x32, .f32⟩
  | .hbm, ⟨22, _⟩ => ⟨S32, .f32⟩
  | .hbm, ⟨23, _⟩ => ⟨S1x32, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S16x4x2x2048x2048, .f32⟩
  | .hbm, ⟨33, _⟩ => ⟨S_, .f32⟩
  | .hbm, ⟨34, _⟩ => ⟨S16x4x2x2048, .f32⟩
  | .hbm, ⟨35, _⟩ => ⟨S_, .f32⟩
  | .hbm, ⟨36, _⟩ => ⟨S16x4x2x2048, .f32⟩
  | .hbm, ⟨37, _⟩ => ⟨S16x4x2x2048, .f32⟩
  | .hbm, ⟨38, _⟩ => ⟨S16x4x2x2048x1, .f32⟩
  | .hbm, ⟨39, _⟩ => ⟨S16x4x2x2048x2048, .f32⟩
  | .hbm, ⟨40, _⟩ => ⟨S16x4x2x2048x2048, .f32⟩
  | .hbm, ⟨41, _⟩ => ⟨S16x4x2x2048x2048, .f32⟩
  | .hbm, ⟨42, _⟩ => ⟨S_, .f32⟩
  | .hbm, ⟨43, _⟩ => ⟨S16x4x2x2048, .f32⟩
  | .hbm, ⟨44, _⟩ => ⟨S16x4x2x2048x1, .f32⟩
  | .hbm, ⟨45, _⟩ => ⟨S16x4x2x2048x2048, .f32⟩
  | .hbm, ⟨46, _⟩ => ⟨S16x4x2x2048x2048, .f32⟩
  | .hbm, ⟨47, _⟩ => ⟨S16x4x1x2048x2048, .f32⟩
  | .hbm, ⟨48, _⟩ => ⟨S16x4x2048x2048, .f32⟩
  | .hbm, ⟨49, _⟩ => ⟨S16x4x1x2048x2048, .f32⟩
  | .hbm, ⟨50, _⟩ => ⟨S16x4x2048x2048, .f32⟩
  | .hbm, ⟨51, _⟩ => ⟨S16x4x2048x2048, .f32⟩
  | .hbm, ⟨52, _⟩ => ⟨S16x4x2048x2048, .f32⟩
  | .hbm, ⟨53, _⟩ => ⟨S16x4x2048x2048, .f32⟩
  | .hbm, ⟨54, _⟩ => ⟨S16x4x64x2048, .f32⟩
  | .hbm, ⟨55, _⟩ => ⟨S16x2048x4x64, .f32⟩
  | .hbm, ⟨56, _⟩ => ⟨S16x2048x4x64, .f32⟩
  | .hbm, ⟨57, _⟩ => ⟨S_, .f32⟩
  | .hbm, ⟨58, _⟩ => ⟨S16x2048x4, .f32⟩
  | .hbm, ⟨59, _⟩ => ⟨S16x2048x4x1, .f32⟩
  | .hbm, ⟨60, _⟩ => ⟨S_, .f32⟩
  | .hbm, ⟨61, _⟩ => ⟨S16x2048x4x1, .f32⟩
  | .hbm, ⟨62, _⟩ => ⟨S16x2048x4x1, .f32⟩
  | .hbm, ⟨63, _⟩ => ⟨S_, .f32⟩
  | .hbm, ⟨64, _⟩ => ⟨S16x2048x4x1, .f32⟩
  | .hbm, ⟨65, _⟩ => ⟨S16x2048x4x1, .f32⟩
  | .hbm, ⟨66, _⟩ => ⟨S16x2048x4x1, .f32⟩
  | .hbm, ⟨67, _⟩ => ⟨S16x2048x4x64, .f32⟩
  | .hbm, ⟨68, _⟩ => ⟨S16x2048x4x64, .f32⟩
  | .hbm, ⟨69, _⟩ => ⟨S1x1x1x64, .f32⟩
  | .hbm, ⟨70, _⟩ => ⟨S16x2048x4x64, .f32⟩
  | .hbm, ⟨71, _⟩ => ⟨S16x2048x4x64, .f32⟩
  | .hbm, ⟨72, _⟩ => ⟨S_, .f32⟩
  | .hbm, ⟨73, _⟩ => ⟨S16x2048x4x64, .f32⟩
  | .hbm, ⟨74, _⟩ => ⟨S16x2048x4x64, .f32⟩
  | .hbm, ⟨75, _⟩ => ⟨S32768x256, .f32⟩
  | .hbm, ⟨76, _⟩ => ⟨S32768x256, .bf16⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_9 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩

abbrev nD : Nat := 1
abbrev τ : Topo := Topo.v7x

variable {F : FTy → Type} [FloatOps F]
-- ==== In.lean ====
abbrev S32768x1024 : Shape := ⟨2, ![32768, 1024]⟩
abbrev S1024 : Shape := ⟨1, ![1024]⟩
abbrev S1024x2824 : Shape := ⟨2, ![1024, 2824]⟩
abbrev S128x128 : Shape := ⟨2, ![128, 128]⟩
abbrev S_ : Shape := ⟨0, ![]⟩
abbrev S1024x2944 : Shape := ⟨2, ![1024, 2944]⟩
abbrev S1x1024 : Shape := ⟨2, ![1, 1024]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S256x256 : Shape := ⟨2, ![256, 256]⟩
abbrev S1x64x1x64 : Shape := ⟨4, ![1, 64, 1, 64]⟩
abbrev S4x64x4x64 : Shape := ⟨4, ![4, 64, 4, 64]⟩
abbrev S256x512 : Shape := ⟨2, ![256, 512]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S32768x512 : Shape := ⟨2, ![32768, 512]⟩
abbrev S32768x256 : Shape := ⟨2, ![32768, 256]⟩
abbrev S32768x768 : Shape := ⟨2, ![32768, 768]⟩
abbrev S32768x128 : Shape := ⟨2, ![32768, 128]⟩
abbrev S512x256 : Shape := ⟨2, ![512, 256]⟩
abbrev S512x1024 : Shape := ⟨2, ![512, 1024]⟩
abbrev S512x128 : Shape := ⟨2, ![512, 128]⟩
abbrev S512x512 : Shape := ⟨2, ![512, 512]⟩
abbrev S512x768 : Shape := ⟨2, ![512, 768]⟩
abbrev S8x256 : Shape := ⟨2, ![8, 256]⟩
abbrev S512 : Shape := ⟨1, ![512]⟩
abbrev S512x1 : Shape := ⟨2, ![512, 1]⟩
abbrev S1024x256 : Shape := ⟨2, ![1024, 256]⟩
abbrev S1024x128 : Shape := ⟨2, ![1024, 128]⟩
abbrev S128 : Shape := ⟨1, ![128]⟩
abbrev S1x128 : Shape := ⟨2, ![1, 128]⟩
abbrev S1024x768 : Shape := ⟨2, ![1024, 768]⟩

abbrev nBuf : Space → Nat
  | .hbm => 103
  | .vmem => 34
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2824, .f32⟩
  | .hbm, ⟨3, _⟩ => ⟨S128x128, .i32⟩
  | .hbm, ⟨4, _⟩ => ⟨S_, .i32⟩
  | .hbm, ⟨5, _⟩ => ⟨S128x128, .i32⟩
  | .hbm, ⟨6, _⟩ => ⟨S128x128, .i32⟩
  | .hbm, ⟨7, _⟩ => ⟨S128x128, .i32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .i1⟩
  | .hbm, ⟨12, _⟩ => ⟨S128x128, .bf16⟩
  | .hbm, ⟨13, _⟩ => ⟨S_, .i32⟩
  | .hbm, ⟨14, _⟩ => ⟨S_, .f32⟩
  | .hbm, ⟨15, _⟩ => ⟨S1024x2944, .f32⟩
  | .hbm, ⟨16, _⟩ => ⟨S1024x2944, .bf16⟩
  | .hbm, ⟨17, _⟩ => ⟨S1x1024, .f32⟩
  | .hbm, ⟨18, _⟩ => ⟨S64, .i32⟩
  | .hbm, ⟨19, _⟩ => ⟨S64x1, .i32⟩
  | .hbm, ⟨20, _⟩ => ⟨S1x64, .i32⟩
  | .hbm, ⟨21, _⟩ => ⟨S64x64, .i32⟩
  | .hbm, ⟨22, _⟩ => ⟨S64x64, .i32⟩
  | .hbm, ⟨23, _⟩ => ⟨S64x64, .i32⟩
  | .hbm, ⟨24, _⟩ => ⟨S_, .i32⟩
  | .hbm, ⟨25, _⟩ => ⟨S64x64, .i32⟩
  | .hbm, ⟨26, _⟩ => ⟨S64x64, .i32⟩
  | .hbm, ⟨27, _⟩ => ⟨S64x64, .f32⟩
  | .hbm, ⟨28, _⟩ => ⟨S_, .f32⟩
  | .hbm, ⟨29, _⟩ => ⟨S64x64, .f32⟩
  | .hbm, ⟨30, _⟩ => ⟨S64x64, .f32⟩
  | .hbm, ⟨31, _⟩ => ⟨S256x256, .i32⟩
  | .hbm, ⟨32, _⟩ => ⟨S_, .i32⟩
  | .hbm, ⟨33, _⟩ => ⟨S256x256, .i32⟩
  | .hbm, ⟨34, _⟩ => ⟨S256x256, .i32⟩
  | .hbm, ⟨35, _⟩ => ⟨S256x256, .i32⟩
  | .hbm, ⟨36, _⟩ => ⟨S_, .i32⟩
  | .hbm, ⟨37, _⟩ => ⟨S256x256, .i32⟩
  | .hbm, ⟨38, _⟩ => ⟨S256x256, .i32⟩
  | .hbm, ⟨39, _⟩ => ⟨S256x256, .i1⟩
  | .hbm, ⟨40, _⟩ => ⟨S64x64, .f32⟩
  | .hbm, ⟨41, _⟩ => ⟨S1x64x1x64, .f32⟩
  | .hbm, ⟨42, _⟩ => ⟨S4x64x4x64, .f32⟩
  | .hbm, ⟨43, _⟩ => ⟨S256x256, .f32⟩
  | .hbm, ⟨44, _⟩ => ⟨S_, .f32⟩
  | .hbm, ⟨45, _⟩ => ⟨S_, .f32⟩
  | .hbm, ⟨46, _⟩ => ⟨S256x256, .f32⟩
  | .hbm, ⟨47, _⟩ => ⟨S256x256, .f32⟩
  | .hbm, ⟨48, _⟩ => ⟨S64x64, .f32⟩
  | .hbm, ⟨49, _⟩ => ⟨S1x64x1x64, .f32⟩
  | .hbm, ⟨50, _⟩ => ⟨S4x64x4x64, .f32⟩
  | .hbm, ⟨51, _⟩ => ⟨S256x256, .f32⟩
  | .hbm, ⟨52, _⟩ => ⟨S_, .f32⟩
  | .hbm, ⟨53, _⟩ => ⟨S_, .f32⟩
  | .hbm, ⟨54, _⟩ => ⟨S256x256, .f32⟩
  | .hbm, ⟨55, _⟩ => ⟨S256x256, .f32⟩
  | .hbm, ⟨56, _⟩ => ⟨S256x512, .f32⟩
  | .hbm, ⟨57, _⟩ => ⟨S_, .f32⟩
  | .hbm, ⟨58, _⟩ => ⟨S256x512, .f32⟩
  | .hbm, ⟨59, _⟩ => ⟨S256x512, .f32⟩
  | .hbm, ⟨60, _⟩ => ⟨S256x512, .bf16⟩
  | .hbm, ⟨61, _⟩ => ⟨S2048, .f32⟩
  | .hbm, ⟨62, _⟩ => ⟨S16, .f32⟩
  | .hbm, ⟨63, _⟩ => ⟨S16, .f32⟩
  | .hbm, ⟨64, _⟩ => ⟨S_, .f32⟩
  | .hbm, ⟨65, _⟩ => ⟨S16, .f32⟩
  | .hbm, ⟨66, _⟩ => ⟨S16, .f32⟩
  | .hbm, ⟨67, _⟩ => ⟨S_, .f32⟩
  | .hbm, ⟨68, _⟩ => ⟨S16, .f32⟩
  | .hbm, ⟨69, _⟩ => ⟨S16, .f32⟩
  | .hbm, ⟨70, _⟩ => ⟨S2048x1, .f32⟩
  | .hbm, ⟨71, _⟩ => ⟨S1x16, .f32⟩
  | .hbm, ⟨72, _⟩ => ⟨S2048x16, .f32⟩
  | .hbm, ⟨73, _⟩ => ⟨S2048x16, .f32⟩
  | .hbm, ⟨74, _⟩ => ⟨S2048x16, .f32⟩
  | .hbm, ⟨75, _⟩ => ⟨S2048x16, .f32⟩
  | .hbm, ⟨76, _⟩ => ⟨S2048x16, .f32⟩
  | .hbm, ⟨77, _⟩ => ⟨S_, .f32⟩
  | .hbm, ⟨78, _⟩ => ⟨S2048x16, .f32⟩
  | .hbm, ⟨79, _⟩ => ⟨S2048x32, .f32⟩
  | .hbm, ⟨80, _⟩ => ⟨S1x2048x1x32, .f32⟩
  | .hbm, ⟨81, _⟩ => ⟨S1x2048x4x32, .f32⟩
  | .hbm, ⟨82, _⟩ => ⟨S2048x128, .f32⟩
  | .hbm, ⟨83, _⟩ => ⟨S2048x16, .f32⟩
  | .hbm, ⟨84, _⟩ => ⟨S2048x32, .f32⟩
  | .hbm, ⟨85, _⟩ => ⟨S1x2048x1x32, .f32⟩
  | .hbm, ⟨86, _⟩ => ⟨S1x2048x4x32, .f32⟩
  | .hbm, ⟨87, _⟩ => ⟨S2048x128, .f32⟩
  | .hbm, ⟨88, _⟩ => ⟨S2048x32, .f32⟩
  | .hbm, ⟨89, _⟩ => ⟨S1x2048x1x32, .f32⟩
  | .hbm, ⟨90, _⟩ => ⟨S1x2048x4x32, .f32⟩
  | .hbm, ⟨91, _⟩ => ⟨S2048x128, .f32⟩
  | .hbm, ⟨92, _⟩ => ⟨S32768x512, .bf16⟩
  | .hbm, ⟨93, _⟩ => ⟨S32768x256, .bf16⟩
  | .hbm, ⟨94, _⟩ => ⟨S32768x256, .bf16⟩
  | .hbm, ⟨95, _⟩ => ⟨S32768x256, .bf16⟩
  | .hbm, ⟨96, _⟩ => ⟨S32768x256, .bf16⟩
  | .hbm, ⟨97, _⟩ => ⟨S32768x256, .bf16⟩
  | .hbm, ⟨98, _⟩ => ⟨S32768x256, .bf16⟩
  | .hbm, ⟨99, _⟩ => ⟨S32768x256, .bf16⟩
  | .hbm, ⟨100, _⟩ => ⟨S32768x768, .f32⟩
  | .hbm, ⟨101, _⟩ => ⟨S32768x128, .f32⟩
  | .hbm, ⟨102, _⟩ => ⟨S512x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2944, .bf16⟩
  | .local _ .vmem, ⟨4, _⟩ => ⟨S256x512, .bf16⟩
  | .local _ .vmem, ⟨5, _⟩ => ⟨S128x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x512, .bf16⟩
  | .local _ .vmem, ⟨13, _⟩ => ⟨S512x512, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S512x256, .bf16⟩
  | .local _ .vmem, ⟨23, _⟩ => ⟨S512x256, .bf16⟩
  | .local _ .vmem, ⟨24, _⟩ => ⟨S512x256, .bf16⟩
  | .local _ .vmem, ⟨25, _⟩ => ⟨S512x256, .bf16⟩
  | .local _ .vmem, ⟨26, _⟩ => ⟨S512x256, .bf16⟩
  | .local _ .vmem, ⟨27, _⟩ => ⟨S512x256, .bf16⟩
  | .local _ .vmem, ⟨28, _⟩ => ⟨S512x768, .f32⟩
  | .local _ .vmem, ⟨29, _⟩ => ⟨S512x768, .f32⟩
  | .local _ .vmem, ⟨30, _⟩ => ⟨S512x128, .f32⟩
  | .local _ .vmem, ⟨31, _⟩ => ⟨S512x128, .f32⟩
  | .local _ .vmem, ⟨32, _⟩ => ⟨S8x256, .f32⟩
  | .local _ .vmem, ⟨33, _⟩ => ⟨S8x256, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_call0_v0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_call1_v0 : Ref sig .tc := ⟨.hbm, 45, rfl⟩
abbrev main_call1_v1 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_call2_v0 : Ref sig .tc := ⟨.hbm, 53, rfl⟩
abbrev main_call2_v1 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_8 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71_0 : Ref sig .tc := ⟨.hbm, 92, rfl⟩
abbrev main_v71_1 : Ref sig .tc := ⟨.hbm, 93, rfl⟩
abbrev main_v71_2 : Ref sig .tc := ⟨.hbm, 94, rfl⟩
abbrev main_v71_3 : Ref sig .tc := ⟨.hbm, 95, rfl⟩
abbrev main_v71_4 : Ref sig .tc := ⟨.hbm, 96, rfl⟩
abbrev main_v71_5 : Ref sig .tc := ⟨.hbm, 97, rfl⟩
abbrev main_v71_6 : Ref sig .tc := ⟨.hbm, 98, rfl⟩
abbrev main_v71_7 : Ref sig .tc := ⟨.hbm, 99, rfl⟩
abbrev main_v71_8 : Ref sig .tc := ⟨.hbm, 100, rfl⟩
abbrev main_v71_9 : Ref sig .tc := ⟨.hbm, 101, rfl⟩
abbrev main_v71_10 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.subi arg0 c0_i32
  let c4_i32 : BitVec 32 := 4#32
  let v1 : BitVec 32 := Scalar.remsi v0 c4_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.subi arg0 c0_i32
  let c4_i32 : BitVec 32 := 4#32
  let v1 : BitVec 32 := Scalar.remsi v0 c4_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.subi arg0 c0_i32
  let c4_i32 : BitVec 32 := 4#32
  let v1 : BitVec 32 := Scalar.remsi v0 c4_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x768 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S8x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== InRefIdeal.lean ====
abbrev S32768x1024 : Shape := ⟨2, ![32768, 1024]⟩
abbrev S1024 : Shape := ⟨1, ![1024]⟩
abbrev S1024x2824 : Shape := ⟨2, ![1024, 2824]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2824 : Shape := ⟨2, ![32768, 2824]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S32768x256 : Shape := ⟨2, ![32768, 256]⟩
abbrev S32768x4x64 : Shape := ⟨3, ![32768, 4, 64]⟩
abbrev S16x2048x4x2x32 : Shape := ⟨5, ![16, 2048, 4, 2, 32]⟩
abbrev S16 : Shape := ⟨1, ![16]⟩
abbrev S2048 : Shape := ⟨1, ![2048]⟩
abbrev S2048x1 : Shape := ⟨2, ![2048, 1]⟩
abbrev S1x16 : Shape := ⟨2, ![1, 16]⟩
abbrev S2048x16 : Shape := ⟨2, ![2048, 16]⟩
abbrev S1x2048x1x1x16 : Shape := ⟨5, ![1, 2048, 1, 1, 16]⟩
abbrev S16x2048x4x2x16 : Shape := ⟨5, ![16, 2048, 4, 2, 16]⟩
abbrev S32768x512 : Shape := ⟨2, ![32768, 512]⟩
abbrev S32768x768 : Shape := ⟨2, ![32768, 768]⟩
abbrev S32768x8 : Shape := ⟨2, ![32768, 8]⟩
abbrev S32768x128 : Shape := ⟨2, ![32768, 128]⟩

abbrev nBuf : Space → Nat
  | .hbm => 137
  | .vmem => 0
  | .smem => 0
  | _ => 0

abbrev hbmTy0_0 (i : Nat) : BufTy := match i % 128 with
  | 0 => ⟨S32768x1024, .f32⟩
  | 1 => ⟨S1024, .f32⟩
  | 2 => ⟨S1024x2824, .f32⟩
  | 3 => ⟨S32768x1024, .f32⟩
  | 4 => ⟨S_, .f32⟩
  | 5 => ⟨S32768, .f32⟩
  | 6 => ⟨S32768x1, .f32⟩
  | 7 => ⟨S_, .f32⟩
  | 8 => ⟨S32768x1, .f32⟩
  | 9 => ⟨S32768x1, .f32⟩
  | 10 => ⟨S_, .f32⟩
  | 11 => ⟨S32768x1, .f32⟩
  | 12 => ⟨S32768x1, .f32⟩
  | 13 => ⟨S32768x1, .f32⟩
  | 14 => ⟨S32768x1024, .f32⟩
  | 15 => ⟨S32768x1024, .f32⟩
  | 16 => ⟨S1x1024, .f32⟩
  | 17 => ⟨S32768x1024, .f32⟩
  | 18 => ⟨S32768x1024, .f32⟩
  | 19 => ⟨S32768x2824, .f32⟩
  | 20 => ⟨S64, .i32⟩
  | 21 => ⟨S64x1, .i32⟩
  | 22 => ⟨S1x64, .i32⟩
  | 23 => ⟨S64x64, .i32⟩
  | 24 => ⟨S64x64, .i32⟩
  | 25 => ⟨S64x64, .i32⟩
  | 26 => ⟨S_, .i32⟩
  | 27 => ⟨S64x64, .i32⟩
  | 28 => ⟨S64x64, .i32⟩
  | 29 => ⟨S64x64, .f32⟩
  | 30 => ⟨S_, .f32⟩
  | 31 => ⟨S64x64, .f32⟩
  | 32 => ⟨S64x64, .f32⟩
  | 33 => ⟨S32768x256, .f32⟩
  | 34 => ⟨S32768x4x64, .f32⟩
  | 35 => ⟨S64x64, .f32⟩
  | 36 => ⟨S_, .f32⟩
  | 37 => ⟨S64x64, .f32⟩
  | 38 => ⟨S64x64, .f32⟩
  | 39 => ⟨S32768x4x64, .f32⟩
  | 40 => ⟨S32768x256, .f32⟩
  | 41 => ⟨S64x64, .f32⟩
  | 42 => ⟨S_, .f32⟩
  | 43 => ⟨S64x64, .f32⟩
  | 44 => ⟨S64x64, .f32⟩
  | 45 => ⟨S32768x4x64, .f32⟩
  | 46 => ⟨S32768x256, .f32⟩
  | 47 => ⟨S32768x256, .f32⟩
  | 48 => ⟨S16x2048x4x2x32, .f32⟩
  | 49 => ⟨S16, .f32⟩
  | 50 => ⟨S16, .f32⟩
  | 51 => ⟨S_, .f32⟩
  | 52 => ⟨S16, .f32⟩
  | 53 => ⟨S16, .f32⟩
  | 54 => ⟨S_, .f32⟩
  | 55 => ⟨S16, .f32⟩
  | 56 => ⟨S16, .f32⟩
  | 57 => ⟨S2048, .f32⟩
  | 58 => ⟨S2048x1, .f32⟩
  | 59 => ⟨S1x16, .f32⟩
  | 60 => ⟨S2048x16, .f32⟩
  | 61 => ⟨S2048x16, .f32⟩
  | 62 => ⟨S2048x16, .f32⟩
  | 63 => ⟨S2048x16, .f32⟩
  | 64 => ⟨S1x2048x1x1x16, .f32⟩
  | 65 => ⟨S2048x16, .f32⟩
  | 66 => ⟨S1x2048x1x1x16, .f32⟩
  | 67 => ⟨S16x2048x4x2x16, .f32⟩
  | 68 => ⟨S16x2048x4x2x16, .f32⟩
  | 69 => ⟨S16x2048x4x2x16, .f32⟩
  | 70 => ⟨S16x2048x4x2x16, .f32⟩
  | 71 => ⟨S16x2048x4x2x16, .f32⟩
  | 72 => ⟨S16x2048x4x2x16, .f32⟩
  | 73 => ⟨S16x2048x4x2x16, .f32⟩
  | 74 => ⟨S16x2048x4x2x16, .f32⟩
  | 75 => ⟨S16x2048x4x2x16, .f32⟩
  | 76 => ⟨S16x2048x4x2x16, .f32⟩
  | 77 => ⟨S16x2048x4x2x16, .f32⟩
  | 78 => ⟨S16x2048x4x2x16, .f32⟩
  | 79 => ⟨S16x2048x4x2x32, .f32⟩
  | 80 => ⟨S_, .f32⟩
  | 81 => ⟨S16x2048x4x2x32, .f32⟩
  | 82 => ⟨S16x2048x4x2x32, .f32⟩
  | 83 => ⟨S32768x256, .f32⟩
  | 84 => ⟨S16x2048x4x2x32, .f32⟩
  | 85 => ⟨S16, .f32⟩
  | 86 => ⟨S16, .f32⟩
  | 87 => ⟨S_, .f32⟩
  | 88 => ⟨S16, .f32⟩
  | 89 => ⟨S16, .f32⟩
  | 90 => ⟨S_, .f32⟩
  | 91 => ⟨S16, .f32⟩
  | 92 => ⟨S16, .f32⟩
  | 93 => ⟨S2048, .f32⟩
  | 94 => ⟨S2048x1, .f32⟩
  | 95 => ⟨S1x16, .f32⟩
  | 96 => ⟨S2048x16, .f32⟩
  | 97 => ⟨S2048x16, .f32⟩
  | 98 => ⟨S2048x16, .f32⟩
  | 99 => ⟨S2048x16, .f32⟩
  | 100 => ⟨S1x2048x1x1x16, .f32⟩
  | 101 => ⟨S2048x16, .f32⟩
  | 102 => ⟨S1x2048x1x1x16, .f32⟩
  | 103 => ⟨S16x2048x4x2x16, .f32⟩
  | 104 => ⟨S16x2048x4x2x16, .f32⟩
  | 105 => ⟨S16x2048x4x2x16, .f32⟩
  | 106 => ⟨S16x2048x4x2x16, .f32⟩
  | 107 => ⟨S16x2048x4x2x16, .f32⟩
  | 108 => ⟨S16x2048x4x2x16, .f32⟩
  | 109 => ⟨S16x2048x4x2x16, .f32⟩
  | 110 => ⟨S16x2048x4x2x16, .f32⟩
  | 111 => ⟨S16x2048x4x2x16, .f32⟩
  | 112 => ⟨S16x2048x4x2x16, .f32⟩
  | 113 => ⟨S16x2048x4x2x16, .f32⟩
  | 114 => ⟨S16x2048x4x2x16, .f32⟩
  | 115 => ⟨S16x2048x4x2x32, .f32⟩
  | 116 => ⟨S32768x512, .f32⟩
  | 117 => ⟨S32768x512, .bf16⟩
  | 118 => ⟨S32768x256, .f32⟩
  | 119 => ⟨S32768x256, .bf16⟩
  | 120 => ⟨S32768x256, .f32⟩
  | 121 => ⟨S32768x256, .bf16⟩
  | 122 => ⟨S32768x256, .f32⟩
  | 123 => ⟨S32768x256, .bf16⟩
  | 124 => ⟨S32768x256, .f32⟩
  | 125 => ⟨S32768x256, .bf16⟩
  | 126 => ⟨S32768x256, .f32⟩
  | 127 => ⟨S32768x256, .bf16⟩
  | _ => ⟨S32768x1024, .f32⟩

abbrev hbmTy0_1 (i : Nat) : BufTy := match i % 128 with
  | 0 => ⟨S32768x256, .f32⟩
  | 1 => ⟨S32768x256, .bf16⟩
  | 2 => ⟨S32768x256, .f32⟩
  | 3 => ⟨S32768x256, .bf16⟩
  | 4 => ⟨S32768x768, .f32⟩
  | 5 => ⟨S32768x8, .f32⟩
  | 6 => ⟨S_, .i32⟩
  | 7 => ⟨S_, .f32⟩
  | 8 => ⟨S32768x128, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_cst_7 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_cst_8 : Ref sig .tc := ⟨.hbm, 87, rfl⟩
abbrev main_v74 : Ref sig .tc := ⟨.hbm, 88, rfl⟩
abbrev main_v75 : Ref sig .tc := ⟨.hbm, 89, rfl⟩
abbrev main_cst_9 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_c_10 : Ref sig .tc := ⟨.hbm, 134, rfl⟩
abbrev main_call0_v0 : Ref sig .tc := ⟨.hbm, 135, rfl⟩
abbrev main_v119 : Ref sig .tc := ⟨.hbm, 136, rfl⟩

abbrev nD : Nat := 1
abbrev τ : Topo := Topo.v7x

variable {F : FTy → Type} [FloatOps F]
-- ==== Cv.lean ====
abbrev S32768x768 : Shape := ⟨2, ![32768, 768]⟩
abbrev S5x768 : Shape := ⟨2, ![5, 768]⟩
abbrev S768 : Shape := ⟨1, ![768]⟩
abbrev S_ : Shape := ⟨0, ![]⟩
abbrev S8x768 : Shape := ⟨2, ![8, 768]⟩
abbrev S1x768 : Shape := ⟨2, ![1, 768]⟩
abbrev S512x768 : Shape := ⟨2, ![512, 768]⟩
abbrev S528x768 : Shape := ⟨2, ![528, 768]⟩
abbrev S64x768 : Shape := ⟨2, ![64, 768]⟩

abbrev nBuf : Space → Nat
  | .hbm => 8
  | .vmem => 11
  | .smem => 0
  | _ => 0

abbrev bufTy : (tb : Table) → Fin (tcTables nBuf tb) → BufTy
  | .hbm, ⟨0, _⟩ => ⟨S32768x768, .f32⟩
  | .hbm, ⟨1, _⟩ => ⟨S5x768, .f32⟩
  | .hbm, ⟨2, _⟩ => ⟨S768, .f32⟩
  | .hbm, ⟨3, _⟩ => ⟨S_, .i32⟩
  | .hbm, ⟨4, _⟩ => ⟨S_, .f32⟩
  | .hbm, ⟨5, _⟩ => ⟨S8x768, .f32⟩
  | .hbm, ⟨6, _⟩ => ⟨S1x768, .f32⟩
  | .hbm, ⟨7, _⟩ => ⟨S32768x768, .bf16⟩
  | .local _ .vmem, ⟨0, _⟩ => ⟨S8x768, .f32⟩
  | .local _ .vmem, ⟨1, _⟩ => ⟨S1x768, .f32⟩
  | .local _ .vmem, ⟨2, _⟩ => ⟨S8x768, .f32⟩
  | .local _ .vmem, ⟨3, _⟩ => ⟨S8x768, .f32⟩
  | .local _ .vmem, ⟨4, _⟩ => ⟨S512x768, .f32⟩
  | .local _ .vmem, ⟨5, _⟩ => ⟨S512x768, .f32⟩
  | .local _ .vmem, ⟨6, _⟩ => ⟨S8x768, .f32⟩
  | .local _ .vmem, ⟨7, _⟩ => ⟨S8x768, .f32⟩
  | .local _ .vmem, ⟨8, _⟩ => ⟨S512x768, .bf16⟩
  | .local _ .vmem, ⟨9, _⟩ => ⟨S512x768, .bf16⟩
  | .local _ .vmem, ⟨10, _⟩ => ⟨S528x768, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CvRefIdeal.lean ====
abbrev S32768x768 : Shape := ⟨2, ![32768, 768]⟩
abbrev S5x768 : Shape := ⟨2, ![5, 768]⟩
abbrev S768 : Shape := ⟨1, ![768]⟩
abbrev S16x2048x768 : Shape := ⟨3, ![16, 2048, 768]⟩
abbrev S_ : Shape := ⟨0, ![]⟩
abbrev S16x2052x768 : Shape := ⟨3, ![16, 2052, 768]⟩
abbrev S1x768 : Shape := ⟨2, ![1, 768]⟩
abbrev S1x1x768 : Shape := ⟨3, ![1, 1, 768]⟩

abbrev nBuf : Space → Nat
  | .hbm => 58
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S5x768, .f32⟩
  | .hbm, ⟨2, _⟩ => ⟨S768, .f32⟩
  | .hbm, ⟨3, _⟩ => ⟨S16x2048x768, .f32⟩
  | .hbm, ⟨4, _⟩ => ⟨S_, .i32⟩
  | .hbm, ⟨5, _⟩ => ⟨S_, .f32⟩
  | .hbm, ⟨6, _⟩ => ⟨S16x2052x768, .f32⟩
  | .hbm, ⟨7, _⟩ => ⟨S16x2048x768, .f32⟩
  | .hbm, ⟨8, _⟩ => ⟨S1x768, .f32⟩
  | .hbm, ⟨9, _⟩ => ⟨S768, .f32⟩
  | .hbm, ⟨10, _⟩ => ⟨S1x1x768, .f32⟩
  | .hbm, ⟨11, _⟩ => ⟨S16x2048x768, .f32⟩
  | .hbm, ⟨12, _⟩ => ⟨S16x2048x768, .f32⟩
  | .hbm, ⟨13, _⟩ => ⟨S_, .f32⟩
  | .hbm, ⟨14, _⟩ => ⟨S16x2048x768, .f32⟩
  | .hbm, ⟨15, _⟩ => ⟨S16x2048x768, .f32⟩
  | .hbm, ⟨16, _⟩ => ⟨S16x2048x768, .f32⟩
  | .hbm, ⟨17, _⟩ => ⟨S1x768, .f32⟩
  | .hbm, ⟨18, _⟩ => ⟨S768, .f32⟩
  | .hbm, ⟨19, _⟩ => ⟨S1x1x768, .f32⟩
  | .hbm, ⟨20, _⟩ => ⟨S16x2048x768, .f32⟩
  | .hbm, ⟨21, _⟩ => ⟨S16x2048x768, .f32⟩
  | .hbm, ⟨22, _⟩ => ⟨S16x2048x768, .f32⟩
  | .hbm, ⟨23, _⟩ => ⟨S16x2048x768, .f32⟩
  | .hbm, ⟨24, _⟩ => ⟨S1x768, .f32⟩
  | .hbm, ⟨25, _⟩ => ⟨S768, .f32⟩
  | .hbm, ⟨26, _⟩ => ⟨S1x1x768, .f32⟩
  | .hbm, ⟨27, _⟩ => ⟨S16x2048x768, .f32⟩
  | .hbm, ⟨28, _⟩ => ⟨S16x2048x768, .f32⟩
  | .hbm, ⟨29, _⟩ => ⟨S16x2048x768, .f32⟩
  | .hbm, ⟨30, _⟩ => ⟨S16x2048x768, .f32⟩
  | .hbm, ⟨31, _⟩ => ⟨S1x768, .f32⟩
  | .hbm, ⟨32, _⟩ => ⟨S768, .f32⟩
  | .hbm, ⟨33, _⟩ => ⟨S1x1x768, .f32⟩
  | .hbm, ⟨34, _⟩ => ⟨S16x2048x768, .f32⟩
  | .hbm, ⟨35, _⟩ => ⟨S16x2048x768, .f32⟩
  | .hbm, ⟨36, _⟩ => ⟨S16x2048x768, .f32⟩
  | .hbm, ⟨37, _⟩ => ⟨S16x2048x768, .f32⟩
  | .hbm, ⟨38, _⟩ => ⟨S1x768, .f32⟩
  | .hbm, ⟨39, _⟩ => ⟨S768, .f32⟩
  | .hbm, ⟨40, _⟩ => ⟨S1x1x768, .f32⟩
  | .hbm, ⟨41, _⟩ => ⟨S16x2048x768, .f32⟩
  | .hbm, ⟨42, _⟩ => ⟨S16x2048x768, .f32⟩
  | .hbm, ⟨43, _⟩ => ⟨S16x2048x768, .f32⟩
  | .hbm, ⟨44, _⟩ => ⟨S1x1x768, .f32⟩
  | .hbm, ⟨45, _⟩ => ⟨S16x2048x768, .f32⟩
  | .hbm, ⟨46, _⟩ => ⟨S16x2048x768, .f32⟩
  | .hbm, ⟨47, _⟩ => ⟨S16x2048x768, .f32⟩
  | .hbm, ⟨48, _⟩ => ⟨S16x2048x768, .f32⟩
  | .hbm, ⟨49, _⟩ => ⟨S_, .f32⟩
  | .hbm, ⟨50, _⟩ => ⟨S16x2048x768, .f32⟩
  | .hbm, ⟨51, _⟩ => ⟨S16x2048x768, .f32⟩
  | .hbm, ⟨52, _⟩ => ⟨S_, .f32⟩
  | .hbm, ⟨53, _⟩ => ⟨S16x2048x768, .f32⟩
  | .hbm, ⟨54, _⟩ => ⟨S16x2048x768, .f32⟩
  | .hbm, ⟨55, _⟩ => ⟨S16x2048x768, .f32⟩
  | .hbm, ⟨56, _⟩ => ⟨S32768x768, .f32⟩
  | .hbm, ⟨57, _⟩ => ⟨S32768x768, .bf16⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_call1_v0 : Ref sig .tc := ⟨.hbm, 47, rfl⟩
abbrev main_call1_v1 : Ref sig .tc := ⟨.hbm, 48, rfl⟩
abbrev main_call1_cst : Ref sig .tc := ⟨.hbm, 49, rfl⟩
abbrev main_call1_v2 : Ref sig .tc := ⟨.hbm, 50, rfl⟩
abbrev main_call1_v3 : Ref sig .tc := ⟨.hbm, 51, rfl⟩
abbrev main_call1_cst_0 : Ref sig .tc := ⟨.hbm, 52, rfl⟩
abbrev main_call1_v4 : Ref sig .tc := ⟨.hbm, 53, rfl⟩
abbrev main_call1_v5 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Fn.lean ====
abbrev S32768x512 : Shape := ⟨2, ![32768, 512]⟩
abbrev S256x256 : Shape := ⟨2, ![256, 256]⟩
abbrev S_ : Shape := ⟨0, ![]⟩
abbrev S2048 : Shape := ⟨1, ![2048]⟩
abbrev S1x2048 : Shape := ⟨2, ![1, 2048]⟩
abbrev S32 : Shape := ⟨1, ![32]⟩
abbrev S32x1 : Shape := ⟨2, ![32, 1]⟩
abbrev S64 : Shape := ⟨1, ![64]⟩
abbrev S64x1 : Shape := ⟨2, ![64, 1]⟩
abbrev S32x2048 : Shape := ⟨2, ![32, 2048]⟩
abbrev S64x2048 : Shape := ⟨2, ![64, 2048]⟩
abbrev S32x1x2048 : Shape := ⟨3, ![32, 1, 2048]⟩
abbrev S1x64x2048 : Shape := ⟨3, ![1, 64, 2048]⟩
abbrev S32x64x2048 : Shape := ⟨3, ![32, 64, 2048]⟩
abbrev S2048x2048 : Shape := ⟨2, ![2048, 2048]⟩
abbrev S2048x4096 : Shape := ⟨2, ![2048, 4096]⟩
abbrev S32768x256 : Shape := ⟨2, ![32768, 256]⟩
abbrev S512x4096 : Shape := ⟨2, ![512, 4096]⟩
abbrev S2048x512 : Shape := ⟨2, ![2048, 512]⟩
abbrev S512x256 : Shape := ⟨2, ![512, 256]⟩
abbrev S512x2048 : Shape := ⟨2, ![512, 2048]⟩
abbrev S2048x256 : Shape := ⟨2, ![2048, 256]⟩

abbrev nBuf : Space → Nat
  | .hbm => 85
  | .vmem => 7
  | .smem => 0
  | _ => 0

abbrev bufTy : (tb : Table) → Fin (tcTables nBuf tb) → BufTy
  | .hbm, ⟨0, _⟩ => ⟨S32768x512, .f32⟩
  | .hbm, ⟨1, _⟩ => ⟨S256x256, .f32⟩
  | .hbm, ⟨2, _⟩ => ⟨S_, .f32⟩
  | .hbm, ⟨3, _⟩ => ⟨S32768x512, .bf16⟩
  | .hbm, ⟨4, _⟩ => ⟨S2048, .i32⟩
  | .hbm, ⟨5, _⟩ => ⟨S1x2048, .i32⟩
  | .hbm, ⟨6, _⟩ => ⟨S32, .i32⟩
  | .hbm, ⟨7, _⟩ => ⟨S32x1, .i32⟩
  | .hbm, ⟨8, _⟩ => ⟨S_, .i32⟩
  | .hbm, ⟨9, _⟩ => ⟨S32x1, .i32⟩
  | .hbm, ⟨10, _⟩ => ⟨S32x1, .i32⟩
  | .hbm, ⟨11, _⟩ => ⟨S64, .i32⟩
  | .hbm, ⟨12, _⟩ => ⟨S64x1, .i32⟩
  | .hbm, ⟨13, _⟩ => ⟨S32x2048, .i32⟩
  | .hbm, ⟨14, _⟩ => ⟨S32x2048, .i32⟩
  | .hbm, ⟨15, _⟩ => ⟨S32x2048, .i32⟩
  | .hbm, ⟨16, _⟩ => ⟨S_, .i32⟩
  | .hbm, ⟨17, _⟩ => ⟨S32x2048, .i32⟩
  | .hbm, ⟨18, _⟩ => ⟨S32x2048, .i32⟩
  | .hbm, ⟨19, _⟩ => ⟨S32x2048, .f32⟩
  | .hbm, ⟨20, _⟩ => ⟨S32x2048, .f32⟩
  | .hbm, ⟨21, _⟩ => ⟨S32x2048, .f32⟩
  | .hbm, ⟨22, _⟩ => ⟨S32x2048, .f32⟩
  | .hbm, ⟨23, _⟩ => ⟨S32x2048, .i32⟩
  | .hbm, ⟨24, _⟩ => ⟨S32x2048, .i32⟩
  | .hbm, ⟨25, _⟩ => ⟨S32x2048, .i32⟩
  | .hbm, ⟨26, _⟩ => ⟨S_, .i32⟩
  | .hbm, ⟨27, _⟩ => ⟨S32x2048, .i32⟩
  | .hbm, ⟨28, _⟩ => ⟨S32x2048, .i32⟩
  | .hbm, ⟨29, _⟩ => ⟨S32x2048, .f32⟩
  | .hbm, ⟨30, _⟩ => ⟨S32x2048, .f32⟩
  | .hbm, ⟨31, _⟩ => ⟨S32x2048, .f32⟩
  | .hbm, ⟨32, _⟩ => ⟨S32x2048, .f32⟩
  | .hbm, ⟨33, _⟩ => ⟨S64x2048, .i32⟩
  | .hbm, ⟨34, _⟩ => ⟨S64x2048, .i32⟩
  | .hbm, ⟨35, _⟩ => ⟨S64x2048, .i32⟩
  | .hbm, ⟨36, _⟩ => ⟨S_, .i32⟩
  | .hbm, ⟨37, _⟩ => ⟨S64x2048, .i32⟩
  | .hbm, ⟨38, _⟩ => ⟨S64x2048, .i32⟩
  | .hbm, ⟨39, _⟩ => ⟨S64x2048, .f32⟩
  | .hbm, ⟨40, _⟩ => ⟨S64x2048, .f32⟩
  | .hbm, ⟨41, _⟩ => ⟨S64x2048, .f32⟩
  | .hbm, ⟨42, _⟩ => ⟨S64x2048, .f32⟩
  | .hbm, ⟨43, _⟩ => ⟨S64x2048, .i32⟩
  | .hbm, ⟨44, _⟩ => ⟨S64x2048, .i32⟩
  | .hbm, ⟨45, _⟩ => ⟨S64x2048, .i32⟩
  | .hbm, ⟨46, _⟩ => ⟨S_, .i32⟩
  | .hbm, ⟨47, _⟩ => ⟨S64x2048, .i32⟩
  | .hbm, ⟨48, _⟩ => ⟨S64x2048, .i32⟩
  | .hbm, ⟨49, _⟩ => ⟨S64x2048, .f32⟩
  | .hbm, ⟨50, _⟩ => ⟨S64x2048, .f32⟩
  | .hbm, ⟨51, _⟩ => ⟨S64x2048, .f32⟩
  | .hbm, ⟨52, _⟩ => ⟨S64x2048, .f32⟩
  | .hbm, ⟨53, _⟩ => ⟨S32x1x2048, .f32⟩
  | .hbm, ⟨54, _⟩ => ⟨S1x64x2048, .f32⟩
  | .hbm, ⟨55, _⟩ => ⟨S32x64x2048, .f32⟩
  | .hbm, ⟨56, _⟩ => ⟨S32x64x2048, .f32⟩
  | .hbm, ⟨57, _⟩ => ⟨S32x64x2048, .f32⟩
  | .hbm, ⟨58, _⟩ => ⟨S32x1x2048, .f32⟩
  | .hbm, ⟨59, _⟩ => ⟨S1x64x2048, .f32⟩
  | .hbm, ⟨60, _⟩ => ⟨S32x64x2048, .f32⟩
  | .hbm, ⟨61, _⟩ => ⟨S32x64x2048, .f32⟩
  | .hbm, ⟨62, _⟩ => ⟨S32x64x2048, .f32⟩
  | .hbm, ⟨63, _⟩ => ⟨S32x64x2048, .f32⟩
  | .hbm, ⟨64, _⟩ => ⟨S32x1x2048, .f32⟩
  | .hbm, ⟨65, _⟩ => ⟨S1x64x2048, .f32⟩
  | .hbm, ⟨66, _⟩ => ⟨S32x64x2048, .f32⟩
  | .hbm, ⟨67, _⟩ => ⟨S32x64x2048, .f32⟩
  | .hbm, ⟨68, _⟩ => ⟨S32x64x2048, .f32⟩
  | .hbm, ⟨69, _⟩ => ⟨S32x1x2048, .f32⟩
  | .hbm, ⟨70, _⟩ => ⟨S1x64x2048, .f32⟩
  | .hbm, ⟨71, _⟩ => ⟨S32x64x2048, .f32⟩
  | .hbm, ⟨72, _⟩ => ⟨S32x64x2048, .f32⟩
  | .hbm, ⟨73, _⟩ => ⟨S32x64x2048, .f32⟩
  | .hbm, ⟨74, _⟩ => ⟨S32x64x2048, .f32⟩
  | .hbm, ⟨75, _⟩ => ⟨S2048x2048, .f32⟩
  | .hbm, ⟨76, _⟩ => ⟨S2048x2048, .f32⟩
  | .hbm, ⟨77, _⟩ => ⟨S2048x2048, .f32⟩
  | .hbm, ⟨78, _⟩ => ⟨S2048x4096, .f32⟩
  | .hbm, ⟨79, _⟩ => ⟨S_, .f32⟩
  | .hbm, ⟨80, _⟩ => ⟨S2048x4096, .f32⟩
  | .hbm, ⟨81, _⟩ => ⟨S2048x4096, .f32⟩
  | .hbm, ⟨82, _⟩ => ⟨S2048x4096, .bf16⟩
  | .hbm, ⟨83, _⟩ => ⟨S256x256, .bf16⟩
  | .hbm, ⟨84, _⟩ => ⟨S32768x256, .bf16⟩
  | .local _ .vmem, ⟨0, _⟩ => ⟨S512x4096, .bf16⟩
  | .local _ .vmem, ⟨1, _⟩ => ⟨S512x4096, .bf16⟩
  | .local _ .vmem, ⟨2, _⟩ => ⟨S2048x512, .bf16⟩
  | .local _ .vmem, ⟨3, _⟩ => ⟨S2048x512, .bf16⟩
  | .local _ .vmem, ⟨4, _⟩ => ⟨S256x256, .bf16⟩
  | .local _ .vmem, ⟨5, _⟩ => ⟨S512x256, .bf16⟩
  | .local _ .vmem, ⟨6, _⟩ => ⟨S512x256, .bf16⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_c_2 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_c_3 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_cst : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let v1 : BitVec 32 := Scalar.addi v0 arg0
  let c0_i32 : BitVec 32 := 0#32
  let c0_i32_0 : BitVec 32 := 0#32
  ![v1.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FnRefIdeal.lean ====
abbrev S32768x512 : Shape := ⟨2, ![32768, 512]⟩
abbrev S256x256 : Shape := ⟨2, ![256, 256]⟩
abbrev S_ : Shape := ⟨0, ![]⟩
abbrev S16x2048x512 : Shape := ⟨3, ![16, 2048, 512]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S16x2048x256 : Shape := ⟨3, ![16, 2048, 256]⟩
abbrev S16x256x2048 : Shape := ⟨3, ![16, 256, 2048]⟩
abbrev S32768x256 : Shape := ⟨2, ![32768, 256]⟩

abbrev nBuf : Space → Nat
  | .hbm => 29
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S256x256, .f32⟩
  | .hbm, ⟨2, _⟩ => ⟨S_, .f32⟩
  | .hbm, ⟨3, _⟩ => ⟨S16x2048x512, .f32⟩
  | .hbm, ⟨4, _⟩ => ⟨S2048, .i32⟩
  | .hbm, ⟨5, _⟩ => ⟨S2048x1, .i32⟩
  | .hbm, ⟨6, _⟩ => ⟨S1x2048, .i32⟩
  | .hbm, ⟨7, _⟩ => ⟨S2048x2048, .i32⟩
  | .hbm, ⟨8, _⟩ => ⟨S2048x2048, .i32⟩
  | .hbm, ⟨9, _⟩ => ⟨S2048x2048, .i32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S16x2048x256, .f32⟩
  | .hbm, ⟨15, _⟩ => ⟨S16x256x2048, .f32⟩
  | .hbm, ⟨16, _⟩ => ⟨S16x2048x256, .f32⟩
  | .hbm, ⟨17, _⟩ => ⟨S2048x2048, .f32⟩
  | .hbm, ⟨18, _⟩ => ⟨S2048x2048, .f32⟩
  | .hbm, ⟨19, _⟩ => ⟨S16x2048x256, .f32⟩
  | .hbm, ⟨20, _⟩ => ⟨S16x256x2048, .f32⟩
  | .hbm, ⟨21, _⟩ => ⟨S16x2048x256, .f32⟩
  | .hbm, ⟨22, _⟩ => ⟨S16x2048x256, .f32⟩
  | .hbm, ⟨23, _⟩ => ⟨S_, .f32⟩
  | .hbm, ⟨24, _⟩ => ⟨S16x2048x256, .f32⟩
  | .hbm, ⟨25, _⟩ => ⟨S16x2048x256, .f32⟩
  | .hbm, ⟨26, _⟩ => ⟨S32768x256, .f32⟩
  | .hbm, ⟨27, _⟩ => ⟨S32768x256, .f32⟩
  | .hbm, ⟨28, _⟩ => ⟨S32768x256, .bf16⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩

abbrev nD : Nat := 1
abbrev τ : Topo := Topo.v7x

variable {F : FTy → Type} [FloatOps F]
-- ==== Mid.lean ====
abbrev S32768x1024 : Shape := ⟨2, ![32768, 1024]⟩
abbrev S32768x256 : Shape := ⟨2, ![32768, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S256x2816 : Shape := ⟨2, ![256, 2816]⟩

abbrev nBuf : Space → Nat
  | .hbm => 22
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S32768x256, .f32⟩
  | .hbm, ⟨3, _⟩ => ⟨S32768x256, .f32⟩
  | .hbm, ⟨4, _⟩ => ⟨S32768x256, .f32⟩
  | .hbm, ⟨5, _⟩ => ⟨S1024x1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S1024, .f32⟩
  | .hbm, ⟨11, _⟩ => ⟨S32768x256, .bf16⟩
  | .hbm, ⟨12, _⟩ => ⟨S32768x256, .bf16⟩
  | .hbm, ⟨13, _⟩ => ⟨S32768x256, .bf16⟩
  | .hbm, ⟨14, _⟩ => ⟨S32768x256, .bf16⟩
  | .hbm, ⟨15, _⟩ => ⟨S1024x1024, .bf16⟩
  | .hbm, ⟨16, _⟩ => ⟨S1x1024, .f32⟩
  | .hbm, ⟨17, _⟩ => ⟨S1024x2816, .bf16⟩
  | .hbm, ⟨18, _⟩ => ⟨S1024x2816, .bf16⟩
  | .hbm, ⟨19, _⟩ => ⟨S2816x1024, .bf16⟩
  | .hbm, ⟨20, _⟩ => ⟨S1x1024, .f32⟩
  | .hbm, ⟨21, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S1024x1024, .bf16⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MidRefIdeal.lean ====
abbrev S32768x1024 : Shape := ⟨2, ![32768, 1024]⟩
abbrev S32768x256 : Shape := ⟨2, ![32768, 256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 44
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x256, .f32⟩
  | .hbm, ⟨2, _⟩ => ⟨S32768x256, .f32⟩
  | .hbm, ⟨3, _⟩ => ⟨S32768x256, .f32⟩
  | .hbm, ⟨4, _⟩ => ⟨S32768x256, .f32⟩
  | .hbm, ⟨5, _⟩ => ⟨S1024x1024, .f32⟩
  | .hbm, ⟨6, _⟩ => ⟨S1024, .f32⟩
  | .hbm, ⟨7, _⟩ => ⟨S1024x2816, .f32⟩
  | .hbm, ⟨8, _⟩ => ⟨S1024x2816, .f32⟩
  | .hbm, ⟨9, _⟩ => ⟨S2816x1024, .f32⟩
  | .hbm, ⟨10, _⟩ => ⟨S1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S_, .f32⟩
  | .hbm, ⟨16, _⟩ => ⟨S32768, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S_, .f32⟩
  | .hbm, ⟨22, _⟩ => ⟨S32768x1, .f32⟩
  | .hbm, ⟨23, _⟩ => ⟨S32768x1, .f32⟩
  | .hbm, ⟨24, _⟩ => ⟨S32768x1, .f32⟩
  | .hbm, ⟨25, _⟩ => ⟨S32768x1024, .f32⟩
  | .hbm, ⟨26, _⟩ => ⟨S32768x1024, .f32⟩
  | .hbm, ⟨27, _⟩ => ⟨S1x1024, .f32⟩
  | .hbm, ⟨28, _⟩ => ⟨S32768x1024, .f32⟩
  | .hbm, ⟨29, _⟩ => ⟨S32768x1024, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S_, .f32⟩
  | .hbm, ⟨34, _⟩ => ⟨S32768x2816, .f32⟩
  | .hbm, ⟨35, _⟩ => ⟨S32768x2816, .f32⟩
  | .hbm, ⟨36, _⟩ => ⟨S_, .f32⟩
  | .hbm, ⟨37, _⟩ => ⟨S32768x2816, .f32⟩
  | .hbm, ⟨38, _⟩ => ⟨S32768x2816, .f32⟩
  | .hbm, ⟨39, _⟩ => ⟨S32768x2816, .f32⟩
  | .hbm, ⟨40, _⟩ => ⟨S32768x2816, .f32⟩
  | .hbm, ⟨41, _⟩ => ⟨S32768x2816, .f32⟩
  | .hbm, ⟨42, _⟩ => ⟨S32768x1024, .f32⟩
  | .hbm, ⟨43, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩

abbrev nD : Nat := 1
abbrev τ : Topo := Topo.v7x

variable {F : FTy → Type} [FloatOps F]
-- ==== Bt.lean ====
abbrev S4x15x31 : Shape := ⟨3, ![4, 15, 31]⟩
abbrev S64 : Shape := ⟨1, ![64]⟩
abbrev S64x1 : Shape := ⟨2, ![64, 1]⟩
abbrev S1x64 : Shape := ⟨2, ![1, 64]⟩
abbrev S_ : Shape := ⟨0, ![]⟩
abbrev S64x64 : Shape := ⟨2, ![64, 64]⟩
abbrev S4096 : Shape := ⟨1, ![4096]⟩
abbrev S128 : Shape := ⟨1, ![128]⟩
abbrev S128x1 : Shape := ⟨2, ![128, 1]⟩
abbrev S1x4096 : Shape := ⟨2, ![1, 4096]⟩
abbrev S128x4096 : Shape := ⟨2, ![128, 4096]⟩
abbrev S60x31 : Shape := ⟨2, ![60, 31]⟩
abbrev S64x128 : Shape := ⟨2, ![64, 128]⟩
abbrev S64x4096 : Shape := ⟨2, ![64, 4096]⟩
abbrev S60x4096 : Shape := ⟨2, ![60, 4096]⟩
abbrev S4x15x64x64 : Shape := ⟨4, ![4, 15, 64, 64]⟩
abbrev S4x8x64x64 : Shape := ⟨4, ![4, 8, 64, 64]⟩
abbrev S4x64x8x64 : Shape := ⟨4, ![4, 64, 8, 64]⟩
abbrev S1x4x64x8x64 : Shape := ⟨5, ![1, 4, 64, 8, 64]⟩
abbrev S8x4x64x8x64 : Shape := ⟨5, ![8, 4, 64, 8, 64]⟩
abbrev S8x2x128x512 : Shape := ⟨4, ![8, 2, 128, 512]⟩

abbrev nBuf : Space → Nat
  | .hbm => 84
  | .vmem => 4
  | .smem => 0
  | _ => 0

abbrev bufTy : (tb : Table) → Fin (tcTables nBuf tb) → BufTy
  | .hbm, ⟨0, _⟩ => ⟨S4x15x31, .f32⟩
  | .hbm, ⟨1, _⟩ => ⟨S64, .i32⟩
  | .hbm, ⟨2, _⟩ => ⟨S64x1, .i32⟩
  | .hbm, ⟨3, _⟩ => ⟨S64, .i32⟩
  | .hbm, ⟨4, _⟩ => ⟨S1x64, .i32⟩
  | .hbm, ⟨5, _⟩ => ⟨S_, .i32⟩
  | .hbm, ⟨6, _⟩ => ⟨S64x1, .i32⟩
  | .hbm, ⟨7, _⟩ => ⟨S64x1, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S64x1, .i32⟩
  | .hbm, ⟨12, _⟩ => ⟨S64x1, .i32⟩
  | .hbm, ⟨13, _⟩ => ⟨S_, .i32⟩
  | .hbm, ⟨14, _⟩ => ⟨S64x1, .i32⟩
  | .hbm, ⟨15, _⟩ => ⟨S64x1, .i32⟩
  | .hbm, ⟨16, _⟩ => ⟨S64x64, .i32⟩
  | .hbm, ⟨17, _⟩ => ⟨S64x64, .i32⟩
  | .hbm, ⟨18, _⟩ => ⟨S64x64, .i1⟩
  | .hbm, ⟨19, _⟩ => ⟨S_, .i32⟩
  | .hbm, ⟨20, _⟩ => ⟨S64x1, .i32⟩
  | .hbm, ⟨21, _⟩ => ⟨S64x1, .i32⟩
  | .hbm, ⟨22, _⟩ => ⟨S64x64, .i32⟩
  | .hbm, ⟨23, _⟩ => ⟨S64x64, .i32⟩
  | .hbm, ⟨24, _⟩ => ⟨S64x64, .i1⟩
  | .hbm, ⟨25, _⟩ => ⟨S64x64, .i1⟩
  | .hbm, ⟨26, _⟩ => ⟨S4096, .i1⟩
  | .hbm, ⟨27, _⟩ => ⟨S64x64, .i32⟩
  | .hbm, ⟨28, _⟩ => ⟨S64x64, .i32⟩
  | .hbm, ⟨29, _⟩ => ⟨S64x64, .i32⟩
  | .hbm, ⟨30, _⟩ => ⟨S_, .i32⟩
  | .hbm, ⟨31, _⟩ => ⟨S64x64, .i32⟩
  | .hbm, ⟨32, _⟩ => ⟨S64x64, .i32⟩
  | .hbm, ⟨33, _⟩ => ⟨S4096, .i32⟩
  | .hbm, ⟨34, _⟩ => ⟨S128, .i32⟩
  | .hbm, ⟨35, _⟩ => ⟨S128x1, .i32⟩
  | .hbm, ⟨36, _⟩ => ⟨S1x4096, .i32⟩
  | .hbm, ⟨37, _⟩ => ⟨S128x4096, .i32⟩
  | .hbm, ⟨38, _⟩ => ⟨S128x4096, .i32⟩
  | .hbm, ⟨39, _⟩ => ⟨S128x4096, .i1⟩
  | .hbm, ⟨40, _⟩ => ⟨S1x4096, .i1⟩
  | .hbm, ⟨41, _⟩ => ⟨S128x4096, .i1⟩
  | .hbm, ⟨42, _⟩ => ⟨S128x4096, .i1⟩
  | .hbm, ⟨43, _⟩ => ⟨S_, .f32⟩
  | .hbm, ⟨44, _⟩ => ⟨S_, .f32⟩
  | .hbm, ⟨45, _⟩ => ⟨S4096, .f32⟩
  | .hbm, ⟨46, _⟩ => ⟨S4096, .f32⟩
  | .hbm, ⟨47, _⟩ => ⟨S4096, .f32⟩
  | .hbm, ⟨48, _⟩ => ⟨S1x4096, .f32⟩
  | .hbm, ⟨49, _⟩ => ⟨S60x31, .f32⟩
  | .hbm, ⟨50, _⟩ => ⟨S_, .i32⟩
  | .hbm, ⟨51, _⟩ => ⟨S_, .f32⟩
  | .hbm, ⟨52, _⟩ => ⟨S64x128, .f32⟩
  | .hbm, ⟨53, _⟩ => ⟨S128x4096, .bf16⟩
  | .hbm, ⟨54, _⟩ => ⟨S1x4096, .f32⟩
  | .hbm, ⟨55, _⟩ => ⟨S64x4096, .f32⟩
  | .hbm, ⟨56, _⟩ => ⟨S60x4096, .f32⟩
  | .hbm, ⟨57, _⟩ => ⟨S4x15x64x64, .f32⟩
  | .hbm, ⟨58, _⟩ => ⟨S4x8x64x64, .f32⟩
  | .hbm, ⟨59, _⟩ => ⟨S4x64x8x64, .f32⟩
  | .hbm, ⟨60, _⟩ => ⟨S4x8x64x64, .f32⟩
  | .hbm, ⟨61, _⟩ => ⟨S4x64x8x64, .f32⟩
  | .hbm, ⟨62, _⟩ => ⟨S4x8x64x64, .f32⟩
  | .hbm, ⟨63, _⟩ => ⟨S4x64x8x64, .f32⟩
  | .hbm, ⟨64, _⟩ => ⟨S4x8x64x64, .f32⟩
  | .hbm, ⟨65, _⟩ => ⟨S4x64x8x64, .f32⟩
  | .hbm, ⟨66, _⟩ => ⟨S4x8x64x64, .f32⟩
  | .hbm, ⟨67, _⟩ => ⟨S4x64x8x64, .f32⟩
  | .hbm, ⟨68, _⟩ => ⟨S4x8x64x64, .f32⟩
  | .hbm, ⟨69, _⟩ => ⟨S4x64x8x64, .f32⟩
  | .hbm, ⟨70, _⟩ => ⟨S4x8x64x64, .f32⟩
  | .hbm, ⟨71, _⟩ => ⟨S4x64x8x64, .f32⟩
  | .hbm, ⟨72, _⟩ => ⟨S4x8x64x64, .f32⟩
  | .hbm, ⟨73, _⟩ => ⟨S4x64x8x64, .f32⟩
  | .hbm, ⟨74, _⟩ => ⟨S1x4x64x8x64, .f32⟩
  | .hbm, ⟨75, _⟩ => ⟨S1x4x64x8x64, .f32⟩
  | .hbm, ⟨76, _⟩ => ⟨S1x4x64x8x64, .f32⟩
  | .hbm, ⟨77, _⟩ => ⟨S1x4x64x8x64, .f32⟩
  | .hbm, ⟨78, _⟩ => ⟨S1x4x64x8x64, .f32⟩
  | .hbm, ⟨79, _⟩ => ⟨S1x4x64x8x64, .f32⟩
  | .hbm, ⟨80, _⟩ => ⟨S1x4x64x8x64, .f32⟩
  | .hbm, ⟨81, _⟩ => ⟨S1x4x64x8x64, .f32⟩
  | .hbm, ⟨82, _⟩ => ⟨S8x4x64x8x64, .f32⟩
  | .hbm, ⟨83, _⟩ => ⟨S8x2x128x512, .f32⟩
  | .local _ .vmem, ⟨0, _⟩ => ⟨S64x128, .f32⟩
  | .local _ .vmem, ⟨1, _⟩ => ⟨S128x4096, .bf16⟩
  | .local _ .vmem, ⟨2, _⟩ => ⟨S1x4096, .f32⟩
  | .local _ .vmem, ⟨3, _⟩ => ⟨S64x4096, .f32⟩
  | _, _ => ⟨S4x15x31, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_c_0 : Ref sig .tc := ⟨.hbm, 8, rfl⟩
abbrev main_c_1 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst : Ref sig .tc := ⟨.hbm, 43, rfl⟩
abbrev main_cst_4 : Ref sig .tc := ⟨.hbm, 44, rfl⟩
abbrev main_call1_v0 : Ref sig .tc := ⟨.hbm, 45, rfl⟩
abbrev main_call1_v1 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_5 : Ref sig .tc := ⟨.hbm, 50, rfl⟩
abbrev main_call2_v0 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== BtRefIdeal.lean ====
abbrev S4x15x31 : Shape := ⟨3, ![4, 15, 31]⟩
abbrev S64 : Shape := ⟨1, ![64]⟩
abbrev S1x64 : Shape := ⟨2, ![1, 64]⟩
abbrev S_ : Shape := ⟨0, ![]⟩
abbrev S64x1 : Shape := ⟨2, ![64, 1]⟩
abbrev S64x64 : Shape := ⟨2, ![64, 64]⟩
abbrev S8 : Shape := ⟨1, ![8]⟩
abbrev S1x8 : Shape := ⟨2, ![1, 8]⟩
abbrev S8x1 : Shape := ⟨2, ![8, 1]⟩
abbrev S8x8 : Shape := ⟨2, ![8, 8]⟩
abbrev S8x1x8x1 : Shape := ⟨4, ![8, 1, 8, 1]⟩
abbrev S1x64x1x64 : Shape := ⟨4, ![1, 64, 1, 64]⟩
abbrev S8x64x8x64 : Shape := ⟨4, ![8, 64, 8, 64]⟩
abbrev S8x64x8x64x1 : Shape := ⟨5, ![8, 64, 8, 64, 1]⟩
abbrev S8x64x8x64x2 : Shape := ⟨5, ![8, 64, 8, 64, 2]⟩
abbrev S4x8x64x8x64 : Shape := ⟨5, ![4, 8, 64, 8, 64]⟩
abbrev S8x4x64x8x64 : Shape := ⟨5, ![8, 4, 64, 8, 64]⟩
abbrev S64x1x64 : Shape := ⟨3, ![64, 1, 64]⟩
abbrev S8x2x128x512 : Shape := ⟨4, ![8, 2, 128, 512]⟩

abbrev nBuf : Space → Nat
  | .hbm => 84
  | .vmem => 0
  | .smem => 0
  | _ => 0

abbrev bufTy : (tb : Table) → Fin (tcTables nBuf tb) → BufTy
  | .hbm, ⟨0, _⟩ => ⟨S4x15x31, .f32⟩
  | .hbm, ⟨1, _⟩ => ⟨S64, .i32⟩
  | .hbm, ⟨2, _⟩ => ⟨S64, .i32⟩
  | .hbm, ⟨3, _⟩ => ⟨S1x64, .i32⟩
  | .hbm, ⟨4, _⟩ => ⟨S_, .i32⟩
  | .hbm, ⟨5, _⟩ => ⟨S64, .i32⟩
  | .hbm, ⟨6, _⟩ => ⟨S64, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S64x1, .i32⟩
  | .hbm, ⟨16, _⟩ => ⟨S64x64, .i32⟩
  | .hbm, ⟨17, _⟩ => ⟨S64x64, .i32⟩
  | .hbm, ⟨18, _⟩ => ⟨S64x64, .i1⟩
  | .hbm, ⟨19, _⟩ => ⟨S_, .i32⟩
  | .hbm, ⟨20, _⟩ => ⟨S64x1, .i32⟩
  | .hbm, ⟨21, _⟩ => ⟨S64x1, .i32⟩
  | .hbm, ⟨22, _⟩ => ⟨S64x64, .i32⟩
  | .hbm, ⟨23, _⟩ => ⟨S64x64, .i32⟩
  | .hbm, ⟨24, _⟩ => ⟨S64x64, .i1⟩
  | .hbm, ⟨25, _⟩ => ⟨S64x64, .i1⟩
  | .hbm, ⟨26, _⟩ => ⟨S8, .i32⟩
  | .hbm, ⟨27, _⟩ => ⟨S1x8, .i32⟩
  | .hbm, ⟨28, _⟩ => ⟨S8, .i32⟩
  | .hbm, ⟨29, _⟩ => ⟨S8x1, .i32⟩
  | .hbm, ⟨30, _⟩ => ⟨S8x8, .i32⟩
  | .hbm, ⟨31, _⟩ => ⟨S8x8, .i32⟩
  | .hbm, ⟨32, _⟩ => ⟨S8x8, .i32⟩
  | .hbm, ⟨33, _⟩ => ⟨S_, .i32⟩
  | .hbm, ⟨34, _⟩ => ⟨S8x8, .i32⟩
  | .hbm, ⟨35, _⟩ => ⟨S8x8, .i32⟩
  | .hbm, ⟨36, _⟩ => ⟨S64x1, .i32⟩
  | .hbm, ⟨37, _⟩ => ⟨S64x64, .i32⟩
  | .hbm, ⟨38, _⟩ => ⟨S64x64, .i32⟩
  | .hbm, ⟨39, _⟩ => ⟨S64x64, .i32⟩
  | .hbm, ⟨40, _⟩ => ⟨S_, .i32⟩
  | .hbm, ⟨41, _⟩ => ⟨S64x64, .i32⟩
  | .hbm, ⟨42, _⟩ => ⟨S64x64, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S64x64, .i32⟩
  | .hbm, ⟨47, _⟩ => ⟨S64x64, .i32⟩
  | .hbm, ⟨48, _⟩ => ⟨S_, .i32⟩
  | .hbm, ⟨49, _⟩ => ⟨S64x64, .i32⟩
  | .hbm, ⟨50, _⟩ => ⟨S64x64, .i32⟩
  | .hbm, ⟨51, _⟩ => ⟨S8x1x8x1, .i32⟩
  | .hbm, ⟨52, _⟩ => ⟨S1x64x1x64, .i32⟩
  | .hbm, ⟨53, _⟩ => ⟨S_, .i32⟩
  | .hbm, ⟨54, _⟩ => ⟨S8x1x8x1, .i32⟩
  | .hbm, ⟨55, _⟩ => ⟨S8x1x8x1, .i1⟩
  | .hbm, ⟨56, _⟩ => ⟨S_, .i32⟩
  | .hbm, ⟨57, _⟩ => ⟨S8x1x8x1, .i32⟩
  | .hbm, ⟨58, _⟩ => ⟨S8x1x8x1, .i32⟩
  | .hbm, ⟨59, _⟩ => ⟨S8x1x8x1, .i32⟩
  | .hbm, ⟨60, _⟩ => ⟨S_, .i32⟩
  | .hbm, ⟨61, _⟩ => ⟨S1x64x1x64, .i32⟩
  | .hbm, ⟨62, _⟩ => ⟨S1x64x1x64, .i1⟩
  | .hbm, ⟨63, _⟩ => ⟨S_, .i32⟩
  | .hbm, ⟨64, _⟩ => ⟨S1x64x1x64, .i32⟩
  | .hbm, ⟨65, _⟩ => ⟨S1x64x1x64, .i32⟩
  | .hbm, ⟨66, _⟩ => ⟨S1x64x1x64, .i32⟩
  | .hbm, ⟨67, _⟩ => ⟨S8x64x8x64, .i32⟩
  | .hbm, ⟨68, _⟩ => ⟨S8x64x8x64, .i32⟩
  | .hbm, ⟨69, _⟩ => ⟨S8x64x8x64x1, .i32⟩
  | .hbm, ⟨70, _⟩ => ⟨S8x64x8x64x1, .i32⟩
  | .hbm, ⟨71, _⟩ => ⟨S8x64x8x64x2, .i32⟩
  | .hbm, ⟨72, _⟩ => ⟨S4x8x64x8x64, .f32⟩
  | .hbm, ⟨73, _⟩ => ⟨S8x4x64x8x64, .f32⟩
  | .hbm, ⟨74, _⟩ => ⟨S64x1x64, .i1⟩
  | .hbm, ⟨75, _⟩ => ⟨S_, .f32⟩
  | .hbm, ⟨76, _⟩ => ⟨S8x4x64x8x64, .f32⟩
  | .hbm, ⟨77, _⟩ => ⟨S8x4x64x8x64, .f32⟩
  | .hbm, ⟨78, _⟩ => ⟨S_, .f32⟩
  | .hbm, ⟨79, _⟩ => ⟨S_, .f32⟩
  | .hbm, ⟨80, _⟩ => ⟨S8x4x64x8x64, .i1⟩
  | .hbm, ⟨81, _⟩ => ⟨S8x4x64x8x64, .f32⟩
  | .hbm, ⟨82, _⟩ => ⟨S8x4x64x8x64, .f32⟩
  | .hbm, ⟨83, _⟩ => ⟨S8x2x128x512, .f32⟩
  | _, _ => ⟨S4x15x31, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_c : Ref sig .tc := ⟨.hbm, 4, rfl⟩
abbrev main_v3 : Ref sig .tc := ⟨.hbm, 5, rfl⟩
abbrev main_v4 : Ref sig .tc := ⟨.hbm, 6, rfl⟩
abbrev main_c_0 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_c_5 : Ref sig .tc := ⟨.hbm, 43, rfl⟩
abbrev main_c_6 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_9 : Ref sig .tc := ⟨.hbm, 60, rfl⟩
abbrev main_v39 : Ref sig .tc := ⟨.hbm, 61, rfl⟩
abbrev main_v40 : Ref sig .tc := ⟨.hbm, 62, rfl⟩
abbrev main_c_10 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_v54 : Ref sig .tc := ⟨.hbm, 82, rfl⟩
abbrev main_v55 : Ref sig .tc := ⟨.hbm, 83, rfl⟩

abbrev nD : Nat := 1
abbrev τ : Topo := Topo.v7x

variable {F : FTy → Type} [FloatOps F]
-- ==== Proof.DaIdealRun.lean ====
/- The run of the differential-attention launch `DaIdeal`: the tables' contents, the blocks its body finds, what the
   body leaves in the result's block at every grid point (by cases on the flag word the point reads from the
   prefetched table), the body's triple, and the run of the whole program from them. -/
module

public import proofs.«01_k».proof.Proof.Gen.DaIdeal.Launch
public import proofs.«01_k».proof.Proof.Gen.DaIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

-- the elaborator recurses once per coordinate of the long axes
set_option maxRecDepth 16384

noncomputable section

namespace Cert.DaIdeal.Run

open Cert.DaIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers when the launch starts: after the host operations before it. -/
abbrev V (c : Dev nD) (b : Ref sig .tc) : Buf (Elt F) ((c : Thread nD τ).loc b) := StableHlo.after hostOps0 (fun b => m (c, b)) b

theorem ops_fresh : (hostOps0 : List (HloOp τ sig (Elt F))).Forall fun op => op.fresh = ∅ := by
  simp only [List.Forall]; repeat' constructor

set_option maxHeartbeats 1600000 in
/-- The program up to the launch. -/
theorem to_launch (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub ops_fresh main_chain

/-- No host operation writes argument 0. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- No host operation writes argument 1. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- No host operation writes argument 2. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- No host operation writes argument 3. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- No host operation writes argument 4. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- No host operation writes argument 5. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes,
      StableHlo.ternary_writes, StableHlo.reshape_writes, Finset.mem_singleton]
    repeat' apply And.intro
    all_goals exact StableHlo.devRef_ne_of_ne (by decide)))

/-- The flag table's contents at the launch (one core). -/
abbrev tab : Vec F S16x2 .i32 := V m (0 : Dev nD) main_v30

/-- The launch pinned at the flag table's contents. -/
def adm : (p : Fin 1) → (pcfgs (F := F) p).Adm := fun _ => ⟨fun | 0 => tab m | ⟨_ + 1, h⟩ => absurd h (Nat.not_lt.2 (Nat.le_add_left _ _)), trivial⟩

/-- The pinned pipeline. -/
abbrev pipe := cfg0 (adm m 0)

/-- Window `w`'s block at point `t`, read off its array as the launch finds it. -/
def iblk (c : Dev nD) (w : Fin (pipe m).W) (t : Fin (pipe m).N) : (((pipe m).win w).xblock ((pipe m).grid.coords t)).Idx → Elt F ((pipe m).win w).elt :=
  (((pipe m).win w).blk t).view.read (Elt F) (V m c (Pipeline.arrRef spec0 w))

/-! ## The body's accesses -/

abbrev rq : Rect S256x128 := Rect.unit (s := S256x128) ![0, 0] S256x128.size inb_S256x128_S256x128_0_0
abbrev rkv : Rect S2048x128 := Rect.unit (s := S2048x128) ![0, 0] S2048x128.size inb_S2048x128_S2048x128_0_0
abbrev rg : Rect S1x128 := Rect.unit (s := S1x128) ![0, 0] S1x128.size inb_S1x128_S1x128_0_0
abbrev rgm : Rect S128x128 := Rect.unit (s := S128x128) ![0, 0] S128x128.size inb_S128x128_S128x128_0_0
abbrev rlam : Rect S4x32 := Rect.unit (s := S4x32) ![0, 0] S4x32.size inb_S4x32_S4x32_0_0

/-- The flag word the point at coordinates `i` reads. -/
def word (tb : Vec F S16x2 .i32) (i : grid0.Coords) : Elt F .i32 :=
  View.ld tb (Rect.unit (s := S16x2) (k0_off1 i) S1x1.size (k0_off1_inb i)) (Shape.Idx.first (numel1_S1x1.symm ▸ Nat.one_pos))

/-- The block the body leaves where the flag says that the scores need no shift, of the lambda vectors, the gain,
    the averaging matrix and the blocks of q, k and v. -/
def plain (x0 : Vec F S4x32 .f32) (x1 : Vec F S1x128 .f32) (x2 : Vec F S128x128 .bf16) (x3 : Vec F S256x128 .f32) (x4 : Vec F S2048x128 .bf16) (x5 : Vec F S2048x128 .bf16) : FVec F S256x128 .bf16 :=
  k0_pay2 (k0_pay11 (k0_pay1 (View.ld x0 rlam)) (k0_pay4 (View.ld x3 rq)) (k0_pay5 (View.ld x4 rkv)) (k0_pay6 (View.ld x5 rkv)) (iota .tc S256x128 32 [1] iota_S256x128_d1_w32) (k0_pay7 (View.ld x3 rq) (View.ld x4 rkv)) (k0_pay8 (View.ld x3 rq) (View.ld x4 rkv)) (k0_pay9 (View.ld x3 rq) (View.ld x4 rkv)) k0_pay10 (Scalar.ofBits .bf16 0x0000#16)) (k0_pay13 (k0_pay1 (View.ld x0 rlam)) (k0_pay4 (View.ld x3 rq)) (k0_pay5 (View.ld x4 rkv)) (k0_pay6 (View.ld x5 rkv)) (iota .tc S256x128 32 [1] iota_S256x128_d1_w32) (k0_pay7 (View.ld x3 rq) (View.ld x4 rkv)) (k0_pay8 (View.ld x3 rq) (View.ld x4 rkv)) (k0_pay9 (View.ld x3 rq) (View.ld x4 rkv)) k0_pay10 (Scalar.ofBits .bf16 0x0000#16))
    (k0_pay14 (k0_pay1 (View.ld x0 rlam)) (k0_pay4 (View.ld x3 rq)) (k0_pay5 (View.ld x4 rkv)) (k0_pay6 (View.ld x5 rkv)) (iota .tc S256x128 32 [1] iota_S256x128_d1_w32) (k0_pay7 (View.ld x3 rq) (View.ld x4 rkv)) (k0_pay8 (View.ld x3 rq) (View.ld x4 rkv)) (k0_pay9 (View.ld x3 rq) (View.ld x4 rkv)) k0_pay10 (Scalar.ofBits .bf16 0x0000#16)) (View.ld x2 rgm) (View.ld x1 rg)

/-- The block the body leaves where the scores are shifted by their row maximum. -/
def shifted (x0 : Vec F S4x32 .f32) (x1 : Vec F S1x128 .f32) (x2 : Vec F S128x128 .bf16) (x3 : Vec F S256x128 .f32) (x4 : Vec F S2048x128 .bf16) (x5 : Vec F S2048x128 .bf16) : FVec F S256x128 .bf16 :=
  k0_pay3 (k0_pay17 (View.ld x5 rkv)) (k0_pay22 (iota .tc S256x128 32 [1] iota_S256x128_d1_w32)) (k0_pay23 (k0_pay1 (View.ld x0 rlam)) (k0_pay17 (View.ld x5 rkv)) (k0_pay18 (View.ld x3 rq) (View.ld x4 rkv)) (k0_pay19 (View.ld x3 rq) (View.ld x4 rkv))) (k0_pay24 (k0_pay20 (View.ld x3 rq) (View.ld x4 rkv)))
    (k0_pay25 (k0_pay15 (View.ld x3 rq)) (k0_pay16 (View.ld x4 rkv)) k0_pay21 (Scalar.ofBits .bf16 0x0000#16)) (k0_pay26 (k0_pay20 (View.ld x3 rq) (View.ld x4 rkv))) (k0_pay27 (k0_pay1 (View.ld x0 rlam)) (k0_pay15 (View.ld x3 rq)) (k0_pay16 (View.ld x4 rkv)) (k0_pay20 (View.ld x3 rq) (View.ld x4 rkv)) k0_pay21 (Scalar.ofBits .bf16 0x0000#16)) (View.ld x2 rgm) (View.ld x1 rg)

/-- The block the body leaves, by the flag word it reads. -/
def out0_6 (tb : Vec F S16x2 .i32) (i : grid0.Coords) (x0 : Vec F S4x32 .f32) (x1 : Vec F S1x128 .f32) (x2 : Vec F S128x128 .bf16) (x3 : Vec F S256x128 .f32) (x4 : Vec F S2048x128 .bf16) (x5 : Vec F S2048x128 .bf16) : Vec F S256x128 .bf16 :=
  if k0_cond1 (word tb i) = 1#1 then View.canon [⟨rq, plain x0 x1 x2 x3 x4 x5⟩]
  else View.canon [⟨rq, shifted x0 x1 x2 x3 x4 x5⟩]

/-- Its one store covers the block. -/
theorem cover0_6 (p0 : Vec F S256x128 .bf16) (y : S256x128.Idx) :
    ∃ pc ∈ ([⟨rq, p0⟩] : List (View.Piece (Elt F) S256x128 .bf16)), y ∈ pc.1.set :=
  View.cover_of_tiled [⟨rq, p0⟩] S256x128.size (by rfl) y

/-- Of the two conditions on the flag word exactly one holds. -/
theorem cond_xor (v : BitVec 32) : k0_cond2 v = 1#1 ↔ ¬ k0_cond1 v = 1#1 := by
  have key : ∀ b : BitVec 1, Scalar.cmpi .ne (Scalar.extui (Scalar.xori b 1#1) : BitVec 32) 0#32 = 1#1 ↔
      ¬ Scalar.cmpi .ne (Scalar.extui b : BitVec 32) 0#32 = 1#1 := by decide +kernel
  exact key _

set_option maxHeartbeats 2000000 in
/-- The body on whole staging buffers, the inputs at contents `xW` and the table at `tb`, leaves the inputs as they
    were and the result's buffer at `out0_6` of them. -/
theorem sound_kernel (c : Dev nD) (E : Set ℕ) (sh : PosShare TreeShare) (i : grid0.Coords) (arg3 : Memref sig .tc .smem S16x2 .i32) (harg3 : arg3.IsWhole) (arg4 : Memref sig .tc .vmem S4x32 .f32) (harg4 : arg4.IsWhole) (arg5 : Memref sig .tc .vmem S1x128 .f32) (harg5 : arg5.IsWhole) (arg6 : Memref sig .tc .vmem S128x128 .bf16) (harg6 : arg6.IsWhole) (arg7 : Memref sig .tc .vmem S256x128 .f32) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S256x128 .bf16) (harg10 : arg10.IsWhole)
    (tb : Vec F S16x2 .i32) (x0 : Vec F S4x32 .f32) (x1 : Vec F S1x128 .f32) (x2 : Vec F S128x128 .bf16) (x3 : Vec F S256x128 .f32) (x4 : Vec F S2048x128 .bf16) (x5 : Vec F S2048x128 .bf16) (K : PUnit → sProp 𝕄) :
    iprop(owns (c : Thread nD τ) arg3 sh tb ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ (∃ d, owns (c : Thread nD τ) arg10 fullShare d)
        ∗ (iprop(owns (c : Thread nD τ) arg3 sh tb ∗ owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare (out0_6 tb i x0 x1 x2 x3 x4 x5)) -∗ K ⟨⟩))
      ⊢ wp frame (wpE (defs₀ (F := F)) Variants.none c none) E (cc0_diff_attn_2048 i arg3 harg3 arg4 harg4 arg5 harg5 arg6 harg6 arg7 harg7 arg8 harg8 arg9 harg9 arg10 harg10) K := by
  simp only [cc0_diff_attn_2048_eq_skeleton]; unfold cc0_diff_attn_2048_skel
  simp only [k0_part1_eq_skeleton, k0_part2_eq_skeleton, k0_part3_eq_skeleton, k0_part4_eq_skeleton]
  unfold owns
  iintro ⟨⟨%ft, %hft, Ht⟩, ⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hft hf0 hf1 hf2 hf3 hf4 hf5
  by_cases h1 : k0_cond1 (word (arg3.view.read (Elt F) ft) i) = 1#1
  · have h2 : ¬ k0_cond2 (word (arg3.view.read (Elt F) ft) i) = 1#1 := fun h => (cond_xor _).mp h h1
    unfold out0_6; rw [if_pos h1]
    sl_exec
    sl_step
    iapply Hk
    isplitl [Ht]
    · iexists ft; isplitr; · ipureintro; rfl
      iexact Ht
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists _; isplitr
    swap; · iexact H6
    ipureintro
    exact View.read_writes_eq_canon _ _ _ (cover0_6 _)
  · have h2 : k0_cond2 (word (arg3.view.read (Elt F) ft) i) = 1#1 := (cond_xor _).mpr h1
    unfold out0_6; rw [if_neg h1]
    sl_exec
    sl_step
    iapply Hk
    isplitl [Ht]
    · iexists ft; isplitr; · ipureintro; rfl
      iexact Ht
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists _; isplitr
    swap; · iexact H6
    ipureintro
    exact View.read_writes_eq_canon _ _ _ (cover0_6 _)
/-- What the result's buffer holds after the body at point `t`. -/
@[irreducible] def outAt (c : Dev nD) (t : Fin (pipe m).N) : ((pipe m).win 6).block.Idx → Elt F ((pipe m).win 6).elt := out0_6 (tab m) (grid0.coords t) (iblk m c 0 t) (iblk m c 1 t) (iblk m c 2 t) (iblk m c 3 t) (iblk m c 4 t) (iblk m c 5 t)

/-! ## The pipeline's proof data -/

/-- What the arrays hold when the launch starts, what each staging buffer holds after the body at each point, and what
    the body may use besides: the core's own state and the table. -/
def dats (_ : Fin 1) (c : Dev nD) : Dat τ (Elt F) Unit ℕ (UR sig nD τ) ℕ (pipe m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
    | ⟨_ + 7, h⟩ => absurd h (Nat.not_lt.2 (Nat.le_add_left _ _))
  Φ _ := iprop(Pipeline.ΦA spec0 c ∗ Pipeline.ΦT pre0 (adm m 0).1 c)
  q _ := fullShare
  owed _ := 0

theorem A_eq (c : Dev nD) (w : Fin (pipe m).W) : (dats m 0 c).A w = V m c (Pipeline.arrRef spec0 w) := by
  dsimp only [dats]

theorem after0_0 (c : Dev nD) (t : Fin (pipe m).N) : (dats m 0 c).after 0 t = iblk m c 0 t := rfl
theorem after0_1 (c : Dev nD) (t : Fin (pipe m).N) : (dats m 0 c).after 1 t = iblk m c 1 t := rfl
theorem after0_2 (c : Dev nD) (t : Fin (pipe m).N) : (dats m 0 c).after 2 t = iblk m c 2 t := rfl
theorem after0_3 (c : Dev nD) (t : Fin (pipe m).N) : (dats m 0 c).after 3 t = iblk m c 3 t := rfl
theorem after0_4 (c : Dev nD) (t : Fin (pipe m).N) : (dats m 0 c).after 4 t = iblk m c 4 t := rfl
theorem after0_5 (c : Dev nD) (t : Fin (pipe m).N) : (dats m 0 c).after 5 t = iblk m c 5 t := rfl
theorem after0_6 (c : Dev nD) (t : Fin (pipe m).N) : (dats m 0 c).after 6 t = outAt m c t := rfl

/-- Window 0's buffer holds its block when the body starts. -/
theorem before0_0 (c : Dev nD) (t : Fin (pipe m).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- Window 1's buffer holds its block when the body starts. -/
theorem before0_1 (c : Dev nD) (t : Fin (pipe m).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
/-- Window 2's buffer holds its block when the body starts. -/
theorem before0_2 (c : Dev nD) (t : Fin (pipe m).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
/-- Window 3's buffer holds its block when the body starts. -/
theorem before0_3 (c : Dev nD) (t : Fin (pipe m).N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
/-- Window 4's buffer holds its block when the body starts. -/
theorem before0_4 (c : Dev nD) (t : Fin (pipe m).N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
/-- Window 5's buffer holds its block when the body starts. -/
theorem before0_5 (c : Dev nD) (t : Fin (pipe m).N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
abbrev st0_0 (t : Fin (pipe m).N) := ((pipe m).win 0).stage ((pipe m).slots t 0)
abbrev st0_1 (t : Fin (pipe m).N) := ((pipe m).win 1).stage ((pipe m).slots t 1)
abbrev st0_2 (t : Fin (pipe m).N) := ((pipe m).win 2).stage ((pipe m).slots t 2)
abbrev st0_3 (t : Fin (pipe m).N) := ((pipe m).win 3).stage ((pipe m).slots t 3)
abbrev st0_4 (t : Fin (pipe m).N) := ((pipe m).win 4).stage ((pipe m).slots t 4)
abbrev st0_5 (t : Fin (pipe m).N) := ((pipe m).win 5).stage ((pipe m).slots t 5)
abbrev st0_6 (t : Fin (pipe m).N) := ((pipe m).win 6).stage ((pipe m).slots t 6)

/-- The body as the pipeline calls it at point `t`. -/
abbrev bodyAt (t : Fin (pipe m).N) : Prog (TpuEff nD τ sig (Elt F) Λ₀ .tc) PUnit :=
  cc0_diff_attn_2048 (grid0.coords t) (Memref.whole main_v30) (Memref.isWhole_whole _) (spec0_0.stage ((pipe m).slots t 0)) (hstage0_0 (((pipe m).slots t 0).cast nbuf0_0)) (spec0_1.stage ((pipe m).slots t 1)) (hstage0_1 (((pipe m).slots t 1).cast nbuf0_1)) (spec0_2.stage ((pipe m).slots t 2)) (hstage0_2 (((pipe m).slots t 2).cast nbuf0_2)) (spec0_3.stage ((pipe m).slots t 3)) (hstage0_3 (((pipe m).slots t 3).cast nbuf0_3)) (spec0_4.stage ((pipe m).slots t 4)) (hstage0_4 (((pipe m).slots t 4).cast nbuf0_4)) (spec0_5.stage ((pipe m).slots t 5)) (hstage0_5 (((pipe m).slots t 5).cast nbuf0_5)) (spec0_6.stage ((pipe m).slots t 6)) (hstage0_6 (((pipe m).slots t 6).cast nbuf0_6))

theorem row (t : Fin (pipe m).N) :
    defs₀ (F := F) .tc (pipe m).body ((pipe m).bodyArgs t ((pipe m).slots t)) = bodyAt m t := by
  unfold defs₀; rw [Defs.onTc_tc]

/-- The table as the pipeline hands it to the body is the whole buffer at half share. -/
theorem held (c : Dev nD) : (Pipeline.ΦT pre0 (adm m 0).1 c : sProp 𝕄) = owns (c : Thread nD τ) (Memref.whole main_v30) fullShare.right (tab m) := by
  rw [owns_whole]
  show Pipeline.prefHeld pre0 c _ _ = _
  unfold Pipeline.prefHeld
  rw [show (Finset.univ : Finset (Fin 1)) = {0} from rfl, bigSep_singleton]
  rfl

/-- The body leaves something at every point. -/
theorem idle6 (i : grid0.Coords) : (pipe m).idle 6 i = false := by
  show (!(k0_cond1 _ == 1#1) && !(k0_cond2 _ == 1#1)) = false
  generalize (adm m 0).1.atD 0 (k0_off1 i) = v
  by_cases h : k0_cond1 v = 1#1
  · simp [h]
  · simp [(cond_xor v).mpr h]

/-- What the pipeline hands the body at point `t`. -/
def bodyPre (c : Dev nD) (t : Fin (pipe m).N) : sProp 𝕄 :=
  iprop((dats m 0 c).Φ t.castSucc ∗ (dats m 0 c).owesAt () t.castSucc
    ∗ (∃ d, owns (c : Thread nD τ) (st0_0 m t) fullShare ((dats m 0 c).before 0 t d))
    ∗ (∃ d, owns (c : Thread nD τ) (st0_1 m t) fullShare ((dats m 0 c).before 1 t d))
    ∗ (∃ d, owns (c : Thread nD τ) (st0_2 m t) fullShare ((dats m 0 c).before 2 t d))
    ∗ (∃ d, owns (c : Thread nD τ) (st0_3 m t) fullShare ((dats m 0 c).before 3 t d))
    ∗ (∃ d, owns (c : Thread nD τ) (st0_4 m t) fullShare ((dats m 0 c).before 4 t d))
    ∗ (∃ d, owns (c : Thread nD τ) (st0_5 m t) fullShare ((dats m 0 c).before 5 t d))
    ∗ (∃ d, owns (c : Thread nD τ) (st0_6 m t) fullShare ((dats m 0 c).before 6 t d)))

/-- What the body hands back. -/
def bodyPost (c : Dev nD) (t : Fin (pipe m).N) : sProp 𝕄 :=
  iprop((dats m 0 c).Φ t.succ ∗ (dats m 0 c).owesAt () t.succ
    ∗ owns (c : Thread nD τ) (st0_0 m t) fullShare ((dats m 0 c).after 0 t)
    ∗ owns (c : Thread nD τ) (st0_1 m t) fullShare ((dats m 0 c).after 1 t)
    ∗ owns (c : Thread nD τ) (st0_2 m t) fullShare ((dats m 0 c).after 2 t)
    ∗ owns (c : Thread nD τ) (st0_3 m t) fullShare ((dats m 0 c).after 3 t)
    ∗ owns (c : Thread nD τ) (st0_4 m t) fullShare ((dats m 0 c).after 4 t)
    ∗ owns (c : Thread nD τ) (st0_5 m t) fullShare ((dats m 0 c).after 5 t)
    ∗ owns (c : Thread nD τ) (st0_6 m t) fullShare ((dats m 0 c).after 6 t))

set_option maxHeartbeats 1000000 in
/-- The body at any point. -/
theorem sound_body (c : Dev nD) (t : Fin (pipe m).N) :
    bodyPre m c t ⊢ wp frame (wpE (defs₀ (F := F)) Variants.none c none) Set.univ (bodyAt m t) (fun _ => bodyPost m c t) := by
  unfold bodyPre bodyPost bodyAt
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    show (dats m 0 c).Φ t.castSucc = iprop(Pipeline.ΦA spec0 c ∗ Pipeline.ΦT pre0 (adm m 0).1 c) from rfl, held,
    after0_0, after0_1, after0_2, after0_3, after0_4, after0_5, after0_6]
  unfold outAt
  iintro ⟨⟨HΦ, Ht⟩, Ho, ⟨%d0, H0⟩, ⟨%d1, H1⟩, ⟨%d2, H2⟩, ⟨%d3, H3⟩, ⟨%d4, H4⟩, ⟨%d5, H5⟩, ⟨%d6, H6⟩⟩
  iapply (sound_kernel c Set.univ fullShare.right (grid0.coords t) _ _ _ _ _ _ _ _ _ _ _ _ _ _ _ _ (tab m) (iblk m c 0 t) (iblk m c 1 t) (iblk m c 2 t) (iblk m c 3 t) (iblk m c 4 t) (iblk m c 5 t) _)
  isplitl [Ht]; · iexact Ht
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨Ht, H0, H1, H2, H3, H4, H5, H6⟩
  isplitl [HΦ Ht]
  · isplitl [HΦ]; · iexact HΦ
    iexact Ht
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every point. -/
theorem body_obligation (c : Dev nD) : BodyObligation (dats (F := F) m 0 c) (defs₀ (F := F)) Variants.none () Set.univ := fun t => by
  rw [bigSep_W0, bigSep_W0, row]
  refine triple_restated (sound_body m c t) rfl .rfl fun _ => ?_
  have h6 : (pipe m).idle 6 ((pipe m).grid.coords t) = false := idle6 m _
  unfold bodyPost
  refine sep_mono .rfl (sep_mono .rfl (sep_mono .rfl (sep_mono .rfl (sep_mono .rfl (sep_mono .rfl (sep_mono .rfl (sep_mono .rfl ?_)))))))
  have key : ∀ b : Bool, b = false → ∀ P A : sProp 𝕄, P ⊢ (match b with | true => A | false => P) := by
    intro b hb P A; subst hb; exact .rfl
  exact key _ h6 _ _

/-! ## The run and the frame -/

theorem tab_eq (c : Dev nD) (k : Fin 1) : V m c (pre0.ref k) = (adm m 0).1 k := by
  fin_cases k
  rw [Subsingleton.elim c (0 : Dev nD)]
  rfl

set_option backward.isDefEq.respectTransparency.types false in
set_option maxHeartbeats 1600000 in
/-- Every execution terminates, with every array of the launch at what its blocks' final contents give and every other
    buffer as the launch found it, all semaphores back at zero. -/
theorem run_main : θ_run defs (onTc (τ := τ) (main (F := F))) (s₀ m ρ)
    (fun r => (Pipeline.FramePost (Pipeline.pin pcfgs (adm m)) (dats m) 0 (V m)) r ∧ r.2.sem = fun _ => 0) :=
  Pipeline.θ_run_frameP (Q' := _) pcfgs (adm m) (dats m) (0 : Fin 1) launch0 defs₀ Variants.none m ρ main
    (hbody := fun c => (body_obligation m c).loose) (hshare := fun c => (dats m 0 c).share_full fun _ => rfl)
    (howed := fun _ _ => rfl) (V := V m) (hmain := to_launch m Variants.none) (hA := A_eq m)
    (hpf := fun c k => tab_eq m c k) (hΦ := fun _ _ => rfl)

/-- The result's array after the launch. -/
abbrev final (c : Dev nD) := (dats m 0 c).arrAt 6 (Fin.last (pipe m).N)

/-- Every execution terminates with the result at `final`, the arguments unchanged and all semaphores at zero. -/
theorem run_result : θ_run defs (onTc (τ := τ) (main (F := F))) ⟨m, fun _ => 0, ρ⟩ (fun r => (∀ c : Dev nD,
      r.2.mem ((c.tc : Thread nD τ).loc main_v31) = final m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1 6, ((h.1 c).2 main_arg0 (Pipeline.mem_restRefs_of main_arg0 (by decide) (show ∀ w : Fin 7, (spec0 w).arr.view.ref ≠ main_arg0 by decide))).trans (V_arg0 m c),
    ((h.1 c).1 0).trans (((dats m 0 c).arrAt_in 0 rfl _).trans ((A_eq m c 0).trans (V_arg1 m c))),
    ((h.1 c).2 main_arg2 (Pipeline.mem_restRefs_of main_arg2 (by decide) (show ∀ w : Fin 7, (spec0 w).arr.view.ref ≠ main_arg2 by decide))).trans (V_arg2 m c),
    ((h.1 c).1 3).trans (((dats m 0 c).arrAt_in 3 rfl _).trans ((A_eq m c 3).trans (V_arg3 m c))),
    ((h.1 c).2 main_arg4 (Pipeline.mem_restRefs_of main_arg4 (by decide) (show ∀ w : Fin 7, (spec0 w).arr.view.ref ≠ main_arg4 by decide))).trans (V_arg4 m c),
    ((h.1 c).2 main_arg5 (Pipeline.mem_restRefs_of main_arg5 (by decide) (show ∀ w : Fin 7, (spec0 w).arr.view.ref ≠ main_arg5 by decide))).trans (V_arg5 m c)⟩, h.2⟩) (run_main m ρ)

/-- Every execution terminates with the arguments unchanged and all semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (run_result m ρ)

end Cert.DaIdeal.Run

end
-- ==== Proof.FfnRow.lean ====
module

public import Idealize.ShloMosaic.Lib.Pointwise

/-! One row (one token) of the layer's tail, over the extended reals: the mixers' outputs through
    the output projection and the residual, the RMS normalisation, the gated feed-forward network
    with its residual, and the last RMS normalisation. Both programs are compared with these
    functions of a row. -/

@[expose] public section
noncomputable section
open Idealize.ShloMosaic
namespace Cert.FfnRow

/-- Four rows of 256 numbers put side by side, read at position `k` of 1024. -/
def side (a b c d : Fin 256 → EReal) (k : Fin 1024) : EReal :=
  if h : k.val < 256 then a ⟨k.val, h⟩
  else if h : k.val - 256 < 256 then b ⟨k.val - 256, h⟩
  else if h : k.val - 256 - 256 < 256 then c ⟨k.val - 256 - 256, h⟩
  else d ⟨k.val - 256 - 256 - 256, by omega⟩

/-- The residual stream after the mixers: `x + [a b c d] · w`. -/
def mix (x : Fin 1024 → EReal) (a b c d : Fin 256 → EReal) (w : Fin 1024 → Fin 1024 → EReal)
    (j : Fin 1024) : EReal :=
  x j + ∑ k, side a b c d k * w k j

/-- RMS normalisation of a row: `x · rsqrt(mean(x²) + ε) · g`. -/
def rms (x g : Fin 1024 → EReal) (j : Fin 1024) : EReal :=
  x j * Ideal.rsqrt (Ideal.div (∑ k, x k * x k) (Ideal.ofBits FTy.f32 0x44800000#32)
    + Ideal.ofBits FTy.f32 0x358637BD#32) * g j

/-- A row through a matrix with 1024 rows and 2816 columns. -/
def proj (x : Fin 1024 → EReal) (w : Fin 1024 → Fin 2816 → EReal) (j : Fin 2816) : EReal :=
  ∑ k, x k * w k j

/-- The gated feed-forward step with its residual: `x + (silu(u) · v) · w`. -/
def gated (x : Fin 1024 → EReal) (u v : Fin 2816 → EReal) (w : Fin 2816 → Fin 1024 → EReal)
    (j : Fin 1024) : EReal :=
  x j + ∑ k, u k * Ideal.logistic (u k) * v k * w k j

/-- The whole tail of a row. -/
def tail (x : Fin 1024 → EReal) (a b c d : Fin 256 → EReal) (wo : Fin 1024 → Fin 1024 → EReal)
    (g : Fin 1024 → EReal) (wg wu : Fin 1024 → Fin 2816 → EReal) (wd : Fin 2816 → Fin 1024 → EReal)
    (gf : Fin 1024 → EReal) : Fin 1024 → EReal :=
  rms (gated (mix x a b c d wo) (proj (rms (mix x a b c d wo) g) wg)
    (proj (rms (mix x a b c d wo) g) wu) wd) gf

end Cert.FfnRow
end
-- ==== Proof.FfnRefValue.lean ====
module

public import proofs.«01_k».proof.Proof.FfnRow
public import proofs.«01_k».proof.Proof.Gen.FfnRefIdeal.Run

/-! The reference of the layer's tail: the array its operations compute is, row by row,
    `Cert.FfnRow.tail`. -/

@[expose] public section
set_option maxRecDepth 16384
noncomputable section
open Idealize.ShloMosaic Idealize.ShloMosaic.TcCoe Idealize.SL.Sem
namespace Cert.FfnRefIdeal.Rows
open Cert.FfnRefIdeal Cert.FfnRefIdeal.Gen Cert.FfnRow

/-- The residual stream after the output projection. -/
def stream (x : FVec Ideal S32768x1024 .f32) (a b c d : FVec Ideal S32768x256 .f32)
    (w : FVec Ideal S1024x1024 .f32) : FVec Ideal S32768x1024 .f32 :=
  addf x (Host.dotGeneral dot_S32768x1024_S1024x1024_S32768x1024_1_0_0_1_n_n none
    (concatenate S32768x1024 1 [⟨S32768x256, a⟩, ⟨S32768x256, b⟩, ⟨S32768x256, c⟩, ⟨S32768x256, d⟩]
      concatenates_S32768x256_S32768x256_S32768x256_S32768x256_S32768x1024_d1) w)

/-- RMS normalisation of every row. -/
def normed (x : FVec Ideal S32768x1024 .f32) (g : FVec Ideal S1024 .f32) : FVec Ideal S32768x1024 .f32 :=
  mulf (mulf x (broadcastInDim S32768x1024 ![0, 1] bcast_S32768x1_S32768x1024_0_1 (Host.rsqrt (addf
    (Host.divf (broadcastInDim S32768x1 ![0] bcast_S32768_S32768x1_0
      (Host.reduceAdd (mulf x x) (constant S_ .f32 0x00000000#32) reducesTo_S32768x1024_S32768_d1 h_S_))
      (broadcastInDim S32768x1 ![] bcast_S_S32768x1 (constant S_ .f32 0x44800000#32)))
    (broadcastInDim S32768x1 ![] bcast_S_S32768x1 (constant S_ .f32 0x358637BD#32))))))
    (broadcastInDim S32768x1024 ![0, 1] bcast_S1x1024_S32768x1024_0_1
      (broadcastInDim S1x1024 ![1] bcast_S1024_S1x1024_1 g))

/-- The feed-forward network's first products. -/
def hidden (h : FVec Ideal S32768x1024 .f32) (w : FVec Ideal S1024x2816 .f32) : FVec Ideal S32768x2816 .f32 :=
  Host.dotGeneral dot_S32768x1024_S1024x2816_S32768x2816_1_0_0_1_n_n none h w

/-- The gated feed-forward step with its residual. -/
def ffn (x : FVec Ideal S32768x1024 .f32) (u v : FVec Ideal S32768x2816 .f32)
    (w : FVec Ideal S2816x1024 .f32) : FVec Ideal S32768x1024 .f32 :=
  addf x (Host.dotGeneral dot_S32768x2816_S2816x1024_S32768x1024_1_0_0_1_n_n none
    (mulf (mulf u (Host.divf (broadcastInDim S32768x2816 ![] bcast_S_S32768x2816 (constant S_ .f32 0x3F800000#32))
      (addf (broadcastInDim S32768x2816 ![] bcast_S_S32768x2816 (constant S_ .f32 0x3F800000#32))
        (Host.exp (Host.negf u))))) v) w)

/-- The reference's result, stage by stage. -/
def result (x : FVec Ideal S32768x1024 .f32) (a b c d : FVec Ideal S32768x256 .f32)
    (wo : FVec Ideal S1024x1024 .f32) (g : FVec Ideal S1024 .f32) (wg wu : FVec Ideal S1024x2816 .f32)
    (wd : FVec Ideal S2816x1024 .f32) (gf : FVec Ideal S1024 .f32) : FVec Ideal S32768x1024 .f32 :=
  normed (ffn (stream x a b c d wo) (hidden (normed (stream x a b c d wo) g) wg)
    (hidden (normed (stream x a b c d wo) g) wu) wd) gf

theorem stream_at (x : FVec Ideal S32768x1024 .f32) (a b c d : FVec Ideal S32768x256 .f32)
    (w : FVec Ideal S1024x1024 .f32) (r : Fin 32768) (j : Fin 1024) :
    stream x a b c d w (ix2 r j) = mix (fun k => x (ix2 r k)) (fun k => a (ix2 r k)) (fun k => b (ix2 r k))
      (fun k => c (ix2 r k)) (fun k => d (ix2 r k)) (fun k j => w (ix2 k j)) j := by
  pointwise [stream, mix, side]

theorem normed_at (x : FVec Ideal S32768x1024 .f32) (g : FVec Ideal S1024 .f32) (r : Fin 32768) (j : Fin 1024) :
    normed x g (ix2 r j) = rms (fun k => x (ix2 r k)) (fun k => g (ix1 k)) j := by
  pointwise [normed, rms]

theorem hidden_at (h : FVec Ideal S32768x1024 .f32) (w : FVec Ideal S1024x2816 .f32) (r : Fin 32768) (j : Fin 2816) :
    hidden h w (ix2 r j) = proj (fun k => h (ix2 r k)) (fun k j => w (ix2 k j)) j := by
  pointwise [hidden, proj]

theorem ffn_at (x : FVec Ideal S32768x1024 .f32) (u v : FVec Ideal S32768x2816 .f32)
    (w : FVec Ideal S2816x1024 .f32) (r : Fin 32768) (j : Fin 1024) :
    ffn x u v w (ix2 r j) = gated (fun k => x (ix2 r k)) (fun k => u (ix2 r k)) (fun k => v (ix2 r k))
      (fun k j => w (ix2 k j)) j := by
  pointwise [ffn, gated]
  rfl

/-- Row `r` of the reference's result is the tail of row `r`. -/
theorem result_at (x : FVec Ideal S32768x1024 .f32) (a b c d : FVec Ideal S32768x256 .f32)
    (wo : FVec Ideal S1024x1024 .f32) (g : FVec Ideal S1024 .f32) (wg wu : FVec Ideal S1024x2816 .f32)
    (wd : FVec Ideal S2816x1024 .f32) (gf : FVec Ideal S1024 .f32) (r : Fin 32768) (j : Fin 1024) :
    result x a b c d wo g wg wu wd gf (ix2 r j)
      = tail (fun k => x (ix2 r k)) (fun k => a (ix2 r k)) (fun k => b (ix2 r k))
          (fun k => c (ix2 r k)) (fun k => d (ix2 r k)) (fun k j => wo (ix2 k j)) (fun k => g (ix1 k))
          (fun k j => wg (ix2 k j)) (fun k j => wu (ix2 k j)) (fun k j => wd (ix2 k j)) (fun k => gf (ix1 k)) j := by
  unfold result tail
  rw [normed_at]
  simp only [ffn_at, hidden_at, normed_at, stream_at]

/-- The reference's run ends with `result` of its arguments. -/
theorem res_eq (m : (ℓ : Loc nD τ sig) → Buf (Elt Ideal) ℓ) (c : Dev nD) :
    Value.res_out0 m c = result (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) (m ((c.tc : Thread nD τ).loc main_arg9))
      (m ((c.tc : Thread nD τ).loc main_arg10)) := rfl

end Cert.FfnRefIdeal.Rows
end
-- ==== Proof.FfnValue.lean ====
module

public import proofs.«01_k».proof.Proof.FfnRefValue
public import proofs.«01_k».proof.Proof.Gen.FfnIdeal.Frame
public import Idealize.ShloMosaic.Lib.Pipeline.ValueKit
public import Idealize.ShloMosaic.Lib.Claim

/-! The kernel of the layer's tail: every grid point works on 256 rows, and what it stores in a row
    is `Cert.FfnRow.tail` of that row, so the whole array is the reference's. -/

@[expose] public section
set_option maxRecDepth 16384
noncomputable section
open Idealize.ShloMosaic Idealize.ShloMosaic.TcCoe Idealize.SL.Sem
open Idealize.ShloMosaic.Pipeline (Dat)
namespace Cert.FfnIdeal.Rows
open Cert.FfnIdeal Cert.FfnIdeal.Gen Cert.FfnRow

theorem pay2_at (o1 o2 o3 o4 : FVec Ideal S256x256 .bf16) (x : FVec Ideal S256x1024 .f32)
    (w : FVec Ideal S1024x1024 .bf16) (i : Fin 256) (j : Fin 1024) :
    k0_pay2 (F := Ideal) o1 o2 o3 o4 x w (ix2 i j) = mix (fun k => x (ix2 i k)) (fun k => o1 (ix2 i k))
      (fun k => o2 (ix2 i k)) (fun k => o3 (ix2 i k)) (fun k => o4 (ix2 i k)) (fun k j => w (ix2 k j)) j := by
  pointwise [k0_pay2, mix, side]

theorem pay3_at (o1 o2 o3 o4 : FVec Ideal S256x256 .bf16) (x : FVec Ideal S256x1024 .f32)
    (w : FVec Ideal S1024x1024 .bf16) (g : FVec Ideal S1x1024 .f32) (i : Fin 256) (j : Fin 1024) :
    k0_pay3 (F := Ideal) o1 o2 o3 o4 x w g (ix2 i j)
      = rms (fun k => k0_pay2 (F := Ideal) o1 o2 o3 o4 x w (ix2 i k)) (fun k => g (ix2 0 k)) j := by
  unfold k0_pay3
  generalize k0_pay2 (F := Ideal) o1 o2 o3 o4 x w = y
  pointwise [rms]

theorem pay4_at (o1 o2 o3 o4 : FVec Ideal S256x256 .bf16) (x : FVec Ideal S256x1024 .f32)
    (w : FVec Ideal S1024x1024 .bf16) (g : FVec Ideal S1x1024 .f32) (u : FVec Ideal S1024x2816 .bf16)
    (i : Fin 256) (j : Fin 2816) :
    k0_pay4 (F := Ideal) o1 o2 o3 o4 x w g u (ix2 i j)
      = proj (fun k => k0_pay3 (F := Ideal) o1 o2 o3 o4 x w g (ix2 i k)) (fun k j => u (ix2 k j)) j := by
  unfold k0_pay4
  generalize k0_pay3 (F := Ideal) o1 o2 o3 o4 x w g = y
  pointwise [proj]

theorem pay5_at (o1 o2 o3 o4 : FVec Ideal S256x256 .bf16) (x : FVec Ideal S256x1024 .f32)
    (w : FVec Ideal S1024x1024 .bf16) (g : FVec Ideal S1x1024 .f32) (u : FVec Ideal S1024x2816 .bf16)
    (i : Fin 256) (j : Fin 2816) :
    k0_pay5 (F := Ideal) o1 o2 o3 o4 x w g u (ix2 i j)
      = proj (fun k => k0_pay3 (F := Ideal) o1 o2 o3 o4 x w g (ix2 i k)) (fun k j => u (ix2 k j)) j := by
  unfold k0_pay5
  generalize k0_pay3 (F := Ideal) o1 o2 o3 o4 x w g = y
  pointwise [proj]

theorem pay1_at (y : FVec Ideal S256x1024 .f32) (u v : FVec Ideal S256x2816 .f32)
    (w : FVec Ideal S2816x1024 .bf16) (g : FVec Ideal S1x1024 .f32) (i : Fin 256) (j : Fin 1024) :
    k0_pay1 (F := Ideal) y u v w g (ix2 i j)
      = rms (gated (fun k => y (ix2 i k)) (fun k => u (ix2 i k)) (fun k => v (ix2 i k)) (fun k j => w (ix2 k j)))
          (fun k => g (ix2 0 k)) j := by
  pointwise [k0_pay1, rms, gated]

/-- What the body stores in row `i` of its block is the tail of row `i` of its blocks. -/
theorem body_at (o1 o2 o3 o4 : FVec Ideal S256x256 .bf16) (x : FVec Ideal S256x1024 .f32)
    (wo : FVec Ideal S1024x1024 .bf16) (g : FVec Ideal S1x1024 .f32) (wg wu : FVec Ideal S1024x2816 .bf16)
    (wd : FVec Ideal S2816x1024 .bf16) (gf : FVec Ideal S1x1024 .f32) (i : Fin 256) (j : Fin 1024) :
    k0_pay1 (F := Ideal) (k0_pay2 o1 o2 o3 o4 x wo) (k0_pay4 o1 o2 o3 o4 x wo g wg)
        (k0_pay5 o1 o2 o3 o4 x wo g wu) wd gf (ix2 i j)
      = tail (fun k => x (ix2 i k)) (fun k => o1 (ix2 i k)) (fun k => o2 (ix2 i k))
          (fun k => o3 (ix2 i k)) (fun k => o4 (ix2 i k)) (fun k j => wo (ix2 k j)) (fun k => g (ix2 0 k))
          (fun k j => wg (ix2 k j)) (fun k j => wu (ix2 k j)) (fun k j => wd (ix2 k j)) (fun k => gf (ix2 0 k)) j := by
  rw [pay1_at]
  unfold tail
  simp only [pay4_at, pay5_at, pay3_at, pay2_at]

/-- Which block of its array every window takes at a grid point. -/
theorem idx : ∀ t : Fin cfg0.N,
    win0_0.index t = ![t.val, 0] ∧ win0_1.index t = ![t.val, 0] ∧ win0_2.index t = ![t.val, 0]
    ∧ win0_3.index t = ![t.val, 0] ∧ win0_4.index t = ![t.val, 0] ∧ win0_5.index t = ![0, 0]
    ∧ win0_6.index t = ![0, 0] ∧ win0_7.index t = ![0, 0] ∧ win0_8.index t = ![0, 0]
    ∧ win0_9.index t = ![0, 0] ∧ win0_10.index t = ![0, 0] ∧ win0_11.index t = ![t.val, 0] :=
  (by decide +kernel : ∀ t : Fin grid0.N, _)

variable (m : (ℓ : Loc nD τ sig) → Buf (Elt Ideal) ℓ)

/-- The reference's result over the kernel's arguments. -/
abbrev goal (c : Dev nD) : FVec Ideal Cert.FfnRefIdeal.S32768x1024 .f32 :=
  Cert.FfnRefIdeal.Rows.result (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))
    (m ((c : Thread nD τ).loc main_arg8)) (m ((c : Thread nD τ).loc main_arg9))
    (m ((c : Thread nD τ).loc main_arg10))

theorem point (c : Dev nD) (t : Fin cfg0.N) (i : Fin 256) (j : Fin 1024) (y : S256x1024.Idx) (hy : y = ix2 i j) :
    k0_pay1 (F := Ideal)
        (k0_pay2 (iblk m c 1 t) (iblk m c 2 t) (iblk m c 3 t) (iblk m c 4 t) (iblk m c 0 t) (iblk m c 5 t))
        (k0_pay4 (iblk m c 1 t) (iblk m c 2 t) (iblk m c 3 t) (iblk m c 4 t) (iblk m c 0 t) (iblk m c 5 t) (iblk m c 6 t) (iblk m c 7 t))
        (k0_pay5 (iblk m c 1 t) (iblk m c 2 t) (iblk m c 3 t) (iblk m c 4 t) (iblk m c 0 t) (iblk m c 5 t) (iblk m c 6 t) (iblk m c 8 t))
        (iblk m c 9 t) (iblk m c 10 t) y
      = goal m c (((cfg0.win 11).blk t).view.emb y) := by
  subst hy
  have hr : t.val * 256 + i.val < 32768 := by
    have := t.isLt; have : cfg0.N = 128 := by decide +kernel
    omega
  have he : (((cfg0.win 11).blk t).view.emb (ix2 i j : S256x1024.Idx)) = (ix2 (⟨t.val * 256 + i.val, hr⟩ : Fin 32768) j) := by
    blk_ext [idx t]
  rw [he]
  refine (body_at _ _ _ _ _ _ _ _ _ _ _ i j).trans (Eq.trans ?_ (Cert.FfnRefIdeal.Rows.result_at _ _ _ _ _ _ _ _ _ _ _ ⟨t.val * 256 + i.val, hr⟩ j).symm)
  congr 1 <;> funext k
  all_goals (try funext k')
  all_goals blk_point [iblk, V, idx t]

/-- The kernel's result array after its run is the reference's result of the same arguments. -/
theorem final (c : Dev nD) : (dats m 0 c).arrAt 11 (cfgs 0).N = goal m c := by
  refine (dats m 0 c).arrAt_eq_of_covers 11 _ (by decide +kernel) fun t _ y => ?_
  blk_simp
  rw [after0_11]; frame_out
  idx_vars y
  exact point m c t _ _ _ rfl

end Cert.FfnIdeal.Rows
end
-- ==== Proof.FfnClaims.lean ====
module

public import proofs.«01_k».proof.Defs
public import proofs.«01_k».proof.Proof.Gen.FfnIdeal.Value
public import proofs.«01_k».proof.Proof.Gen.FfnRefIdeal.Run
public import proofs.«01_k».proof.Proof.FfnValue
public import Idealize.ShloMosaic.Lib.Quiescent

/-! The claims about the layer's tail: the reference leaves its arguments unchanged and every counter
    at zero, and the kernel's result array is the reference's. -/

@[expose] public section
set_option maxRecDepth 16384
noncomputable section
open Idealize.ShloMosaic Idealize.ShloMosaic.TcCoe Idealize.SL.Sem
namespace Cert.Proof

/-- The reference's run: the arguments unchanged, every semaphore counter back at zero. -/
theorem ffnRef_frame : Cert.quiescent_FfnRefIdeal (hFfnRefIdeal := Cert.FfnRefIdeal.Gen.facts) := by
  intro m g _
  exact (θ_run _ _ _).mono (fun r h => ⟨fun c => (h c).2, sem_eq_zero_of_no_sems (by decide) r.2⟩)
    (Cert.FfnRefIdeal.Value.run m g)

/-- Kernel and reference end with the same array, from memories that agree on the arguments. -/
theorem ffn_algebraic : Cert.algebraic_FfnIdeal_FfnRefIdeal (hFfnIdeal := Cert.FfnIdeal.Gen.facts)
    (hFfnRefIdeal := Cert.FfnRefIdeal.Gen.facts) := by
  intro m g m' g' _ hag
  refine ⟨fun c => Cert.FfnIdeal.Rows.goal m c, ?_, ?_⟩
  · exact (θ_run _ _ _).mono (fun r h c => ⟨(h c).1.trans (Cert.FfnIdeal.Rows.final m c), (h c).2⟩)
      (Cert.FfnIdeal.Value.run_blocks m g)
  · refine (θ_run _ _ _).mono (fun r h c => ⟨(h c).1.trans ?_, (h c).2⟩) (Cert.FfnRefIdeal.Value.run m' g')
    obtain ⟨h0, h1, h2, h3, h4, h5, h6, h7, h8, h9, h10⟩ := hag c
    refine (Cert.FfnRefIdeal.Rows.res_eq m' c).trans ?_
    rw [h0, h1, h2, h3, h4, h5, h6, h7, h8, h9, h10]

end Cert.Proof
end
-- ==== Proof.DaStages.lean ====
module

public import proofs.«01_k».proof.Proof.DaIdealRun
public import Idealize.ShloMosaic.Lib.Pointwise

/-! The block that the differential-attention body stores, written in stages: scores of a pair of
    lanes' ranges, their shift by the row maximum, one head's difference of two softmaxes applied to
    the values, and the normalisation of every head's output. Both branches of the body are these
    stages, with and without the shift. -/

@[expose] public section
set_option maxRecDepth 16384
noncomputable section
open Idealize.ShloMosaic Idealize.ShloMosaic.TcCoe Idealize.SL.Sem
namespace Cert.DaIdeal.Rows
open Cert.DaIdeal Cert.DaIdeal.Gen Cert.DaIdeal.Run

/-- The lanes from `lo` to `hi`. -/
def lanes (lo hi : BitVec 32) : IVec S256x128 1 :=
  andi (cmpi .sge (iota .tc S256x128 32 [1] iota_S256x128_d1_w32) (broadcast S256x128 lo))
    (cmpi .slt (iota .tc S256x128 32 [1] iota_S256x128_d1_w32) (broadcast S256x128 hi))

/-- The scores of a block of queries, cut to some lanes and scaled, against all keys. -/
def score (w : IVec S256x128 1) (q : FVec Ideal S256x128 .f32) (k : FVec Ideal S2048x128 .bf16) :
    FVec Ideal S256x2048 .f32 :=
  matmul dot_S256x128_S2048x128_S256x2048_1_1_0_0_n_n none
    (select w (truncf .bf16 (mulf q (broadcast S256x128 (Named.named κ "scale" 0x3E8293EE#32 : Ideal .f32)))
      bitsLt_bf16_f32) (broadcast S256x128 (Scalar.ofBits .bf16 0x0000#16 : Ideal .bf16)))
    (shapeCast S2048x128 k shapeCasts_S2048x128_S2048x128) (constant S256x2048 .f32 0x00000000#32)

/-- Scores less their row's maximum. -/
def lowered (s : FVec Ideal S256x2048 .f32) : FVec Ideal S256x2048 .f32 :=
  subf s (broadcastTo S256x2048 (shapeCast S256x1
    (multiReduction .maximumf [1] S256 s 0xFF800000#32 reduces_S256x2048_S256 (.inl rfl) rfl)
    shapeCasts_S256_S256x1) broadcasts_S256x1_S256x2048)

/-- The sum of every row. -/
def total (e : FVec Ideal S256x2048 .f32) : FVec Ideal S256x1 .f32 :=
  shapeCast S256x1 (multiReduction .add [1] S256 e 0x00000000#32 reduces_S256x2048_S256 (.inl rfl) rfl)
    shapeCasts_S256_S256x1

/-- One head: the difference of the two maps, the second weighted by `lam`, applied to the values. -/
def head (lam : FVec Ideal S1x1 .f32) (e0 e1 : FVec Ideal S256x2048 .f32) (v : FVec Ideal S2048x128 .bf16) :
    FVec Ideal S256x128 .f32 :=
  mulf (matmul dot_S256x2048_S2048x128_S256x128_1_0_0_1_n_n none
    (truncf .bf16 (subf e0 (mulf (broadcastTo S256x2048 (divf (mulf (broadcastTo S256x1 lam broadcasts_S1x1_S256x1)
      (total e0)) (total e1)) broadcasts_S256x1_S256x2048) e1)) bitsLt_bf16_f32)
    (shapeCast S2048x128 v shapeCasts_S2048x128_S2048x128) (constant S256x128 .f32 0x00000000#32))
    (broadcastTo S256x128 (divf (broadcast S256x1 (Scalar.ofBits .f32 0x3F800000#32 : Ideal .f32)) (total e0))
      broadcasts_S256x1_S256x128)

/-- The two heads of a block, one in the first 64 lanes and one in the others. -/
def heads (a b : FVec Ideal S256x128 .f32) : FVec Ideal S256x128 .f32 :=
  select (cmpi .slt (iota .tc S256x128 32 [1] iota_S256x128_d1_w32) (broadcast S256x128 64#32)) a b

/-- The normalisation of every head's output, with the mean square from a product with `gm`. -/
def normed (o : FVec Ideal S256x128 .f32) (gm : FVec Ideal S128x128 .bf16) (g : FVec Ideal S1x128 .f32) :
    FVec Ideal S256x128 .bf16 :=
  truncf .bf16 (mulf (mulf (mulf o (rsqrt (addf (addf
    (matmul dot_S256x128_S128x128_S256x128_1_0_0_1_n_n none (truncf .bf16 (mulf o o) bitsLt_bf16_f32)
      (shapeCast S128x128 gm shapeCasts_S128x128_S128x128) (constant S256x128 .f32 0x00000000#32))
    (matmul dot_S256x128_S128x128_S256x128_1_0_0_1_n_n none
      (truncf .bf16 (subf (mulf o o) (extf .f32 (truncf .bf16 (mulf o o) bitsLt_bf16_f32) bitsLt_bf16_f32)) bitsLt_bf16_f32)
      (shapeCast S128x128 gm shapeCasts_S128x128_S128x128) (constant S256x128 .f32 0x00000000#32)))
    (broadcast S256x128 (Scalar.ofBits .f32 0x358637BD#32 : Ideal .f32)))))
    (broadcastTo S256x128 (shapeCast S1x128 g shapeCasts_S1x128_S1x128) broadcasts_S1x128_S256x128))
    (broadcast S256x128 (Scalar.ofBits .f32 0x3EE34C57#32 : Ideal .f32))) bitsLt_bf16_f32

/-- A load of a whole block is the block. -/
theorem ld_q (x : Vec Ideal S256x128 .f32) : View.ld x rq = x := by
  funext y; idx_vars y; pointwise
theorem ld_kv (x : Vec Ideal S2048x128 .bf16) : View.ld x rkv = x := by
  funext y; idx_vars y; pointwise
theorem ld_g (x : Vec Ideal S1x128 .f32) : View.ld x rg = x := by
  funext y; idx_vars y; pointwise
  rw [Fin.fin_one_eq_zero y0]
theorem ld_gm (x : Vec Ideal S128x128 .bf16) : View.ld x rgm = x := by
  funext y; idx_vars y; pointwise
theorem ld_lam (x : Vec Ideal S4x32 .f32) : View.ld x rlam = x := by
  funext y; idx_vars y; pointwise

/-- The branch without a shift, in stages. -/
theorem plain_eq (x0 : Vec Ideal S4x32 .f32) (x1 : Vec Ideal S1x128 .f32) (x2 : Vec Ideal S128x128 .bf16)
    (x3 : Vec Ideal S256x128 .f32) (x4 x5 : Vec Ideal S2048x128 .bf16) :
    plain x0 x1 x2 x3 x4 x5 = normed (heads
      (head (k0_pay1 x0) (exp2 (score (lanes 0#32 32#32) x3 x4)) (exp2 (score (lanes 32#32 64#32) x3 x4)) x5)
      (head (k0_pay1 x0) (exp2 (score (lanes 64#32 96#32) x3 x4)) (exp2 (score (lanes 96#32 128#32) x3 x4)) x5)) x2 x1 := by
  unfold plain
  rw [ld_q, ld_kv, ld_kv, ld_g, ld_gm, ld_lam]
  rfl

/-- The branch with the shift, in stages. -/
theorem shifted_eq (x0 : Vec Ideal S4x32 .f32) (x1 : Vec Ideal S1x128 .f32) (x2 : Vec Ideal S128x128 .bf16)
    (x3 : Vec Ideal S256x128 .f32) (x4 x5 : Vec Ideal S2048x128 .bf16) :
    shifted x0 x1 x2 x3 x4 x5 = normed (heads
      (head (k0_pay1 x0) (exp2 (lowered (score (lanes 0#32 32#32) x3 x4))) (exp2 (lowered (score (lanes 32#32 64#32) x3 x4))) x5)
      (head (k0_pay1 x0) (exp2 (lowered (score (lanes 64#32 96#32) x3 x4))) (exp2 (lowered (score (lanes 96#32 128#32) x3 x4))) x5)) x2 x1 := by
  unfold shifted
  rw [ld_q, ld_kv, ld_kv, ld_g, ld_gm, ld_lam]
  rfl

end Cert.DaIdeal.Rows
end
-- ==== Proof.DaStagesAt.lean ====
module

public import proofs.«01_k».proof.Proof.DaStages

/-! The stages of the differential-attention body, each read at an index. -/

@[expose] public section
set_option maxRecDepth 16384
noncomputable section
open Idealize.ShloMosaic Idealize.ShloMosaic.TcCoe Idealize.SL.Sem
namespace Cert.DaIdeal.Rows
open Cert.DaIdeal Cert.DaIdeal.Gen Cert.DaIdeal.Run

/-- The lanes' mask at a lane. -/
theorem lanes_at (lo hi : BitVec 32) (i : Fin 256) (j : Fin 128) :
    lanes lo hi (ix2 i j) = IntOp.andi (IntOp.cmpi .sge (BitVec.ofNat 32 j) lo) (IntOp.cmpi .slt (BitVec.ofNat 32 j) hi) := by
  pointwise [lanes]

/-- A score. -/
theorem score_at (w : IVec S256x128 1) (q : FVec Ideal S256x128 .f32) (k : FVec Ideal S2048x128 .bf16)
    (i : Fin 256) (j : Fin 2048) :
    score w q k (ix2 i j) = ∑ x : Fin 128, Scalar.select (w (ix2 i x))
      (q (ix2 i x) * (Named.named κ "scale" 0x3E8293EE#32 : Ideal .f32)) 0 * k (ix2 j x) := by
  pointwise [score]

/-- A lowered score. -/
theorem lowered_at (s : FVec Ideal S256x2048 .f32) (i : Fin 256) (j : Fin 2048) :
    lowered s (ix2 i j) = s (ix2 i j) -
      Finset.univ.fold max (Ideal.ofBits .f32 0xFF800000#32) (fun x => s (ix2 i x)) := by
  pointwise [lowered]

/-- A head's output. -/
theorem head_at (lam : FVec Ideal S1x1 .f32) (e0 e1 : FVec Ideal S256x2048 .f32) (v : FVec Ideal S2048x128 .bf16)
    (i : Fin 256) (j : Fin 128) :
    head lam e0 e1 v (ix2 i j) = (∑ x : Fin 2048, (e0 (ix2 i x) - Ideal.div (lam (ix2 0 0) * ∑ x : Fin 2048, e0 (ix2 i x))
      (∑ x : Fin 2048, e1 (ix2 i x)) * e1 (ix2 i x)) * v (ix2 x j)) * Ideal.div 1 (∑ x : Fin 2048, e0 (ix2 i x)) := by
  pointwise [head, total]

/-- The two heads of a block, at a lane. -/
theorem heads_at (a b : FVec Ideal S256x128 .f32) (i : Fin 256) (j : Fin 128) :
    heads a b (ix2 i j) = Scalar.select (IntOp.cmpi .slt (BitVec.ofNat 32 j) 64#32) (a (ix2 i j)) (b (ix2 i j)) := by
  pointwise [heads]

/-- A normalised lane. -/
theorem normed_at (o : FVec Ideal S256x128 .f32) (gm : FVec Ideal S128x128 .bf16) (g : FVec Ideal S1x128 .f32)
    (i : Fin 256) (j : Fin 128) :
    normed o gm g (ix2 i j) = o (ix2 i j) * Ideal.rsqrt (∑ x : Fin 128, o (ix2 i x) * o (ix2 i x) * gm (ix2 x j) +
      ∑ x : Fin 128, (o (ix2 i x) * o (ix2 i x) - o (ix2 i x) * o (ix2 i x)) * gm (ix2 x j) +
      Ideal.ofBits .f32 0x358637BD#32) * g (ix2 0 j) * Ideal.ofBits .f32 0x3EE34C57#32 := by
  pointwise [normed]

/-- The weight of the second map, from the four rows of its parameters. -/
theorem lam_at (x : FVec Ideal S4x32 .f32) :
    (k0_pay1 (F := Ideal) x) (ix2 0 0) = Ideal.exp (∑ d : Fin 32, x (ix2 0 d) * x (ix2 1 d)) -
      Ideal.exp (∑ d : Fin 32, x (ix2 2 d) * x (ix2 3 d)) + Ideal.ofBits .f32 0x3F0E59D5#32 := by
  pointwise [k0_pay1]

end Cert.DaIdeal.Rows
end
-- ==== Proof.DaRow.lean ====
module

public import Idealize.ShloMosaic.Lib.Pointwise
public import Mathlib.Analysis.SpecialFunctions.Pow.Real

/-! The mathematics of one row of differential attention over the reals: finite values stay finite, a
    softmax does not see a shift of its scores, and the difference of two softmaxes applied to the values
    may be divided by the sums before or after the product. -/

@[expose] public section
noncomputable section
open Idealize.ShloMosaic
namespace Cert.DaRow

variable {ι : Type} [Fintype ι]

/-- A sum of reals is the same sum among the extended reals. -/
theorem coe_sum (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

/-- The maximum of a row of reals is a real. -/
theorem fold_max_coe [Nonempty ι] (f : ι → ℝ) :
    ∃ M : ℝ, Finset.univ.fold max (⊥ : EReal) (fun i => (f i : EReal)) = (M : EReal) := by
  classical
  have h : ∀ s : Finset ι, (s.fold max (⊥ : EReal) (fun i => (f i : EReal)) = ⊥ ∧ s = ∅) ∨
      ∃ M : ℝ, s.fold max (⊥ : EReal) (fun i => (f i : EReal)) = (M : EReal) := by
    intro s
    induction s using Finset.induction_on with
    | empty => left; simp
    | insert a s h ih =>
      right
      rw [Finset.fold_insert h]
      rcases ih with ⟨h0, _⟩ | ⟨M, hM⟩
      · exact ⟨f a, by rw [h0]; simp⟩
      · exact ⟨max (f a) M, by rw [hM]; exact (EReal.coe_strictMono.monotone.map_max).symm⟩
  rcases h Finset.univ with ⟨_, h0⟩ | h1
  · exact absurd h0 Finset.univ_nonempty.ne_empty
  · exact h1

/-- The difference of two softmaxes, the second weighted by `lam`, applied to a column of values. -/
def mix (lam : ℝ) (s0 s1 v : ι → ℝ) : ℝ :=
  ∑ j, (Real.exp (s0 j) / ∑ x, Real.exp (s0 x) - lam * (Real.exp (s1 j) / ∑ x, Real.exp (s1 x))) * v j

/-- The sum of the exponentials of a row is positive. -/
theorem exp_sum_pos [Nonempty ι] (s : ι → ℝ) : 0 < ∑ x, Real.exp (s x) :=
  Finset.sum_pos (fun _ _ => Real.exp_pos _) Finset.univ_nonempty

/-- A softmax does not see a shift. -/
theorem softmax_shift (s : ι → ℝ) (a : ℝ) (j : ι) :
    Real.exp (s j - a) / ∑ x, Real.exp (s x - a) = Real.exp (s j) / ∑ x, Real.exp (s x) := by
  simp only [Real.exp_sub]
  rw [← Finset.sum_div]
  exact div_div_div_cancel_right₀ (Real.exp_pos a).ne' _ _

/-- The mix as a quotient taken late: the sums of both rows enter once a row. -/
theorem late_eq [Nonempty ι] (lam : ℝ) (s0 s1 v : ι → ℝ) (a0 a1 : ℝ) :
    (∑ x, (((Real.exp (s0 x - a0) : ℝ) : EReal) - Ideal.div ((lam : EReal) * ∑ x, ((Real.exp (s0 x - a0) : ℝ) : EReal))
        (∑ x, ((Real.exp (s1 x - a1) : ℝ) : EReal)) * ((Real.exp (s1 x - a1) : ℝ) : EReal)) * (v x : EReal)) *
      Ideal.div 1 (∑ x, ((Real.exp (s0 x - a0) : ℝ) : EReal)) = (mix lam s0 s1 v : EReal) := by
  have h0 := (exp_sum_pos fun x => s0 x - a0).ne'
  have h1 := (exp_sum_pos fun x => s1 x - a1).ne'
  rw [coe_sum, coe_sum, Ideal.div_coe h0, Ideal.div_coe h1]
  simp only [one_mul, ← EReal.coe_mul, ← EReal.coe_sub, coe_sum]
  rw [EReal.coe_eq_coe_iff]
  unfold mix
  rw [Finset.sum_mul]
  refine Finset.sum_congr rfl fun j _ => ?_
  rw [← softmax_shift s0 a0 j, ← softmax_shift s1 a1 j]
  field_simp

/-- The mix as a quotient taken early: each map is a softmax. -/
theorem early_eq [Nonempty ι] (lam : ℝ) (s0 s1 v : ι → ℝ) (a0 a1 : ℝ) :
    (∑ x, (v x : EReal) * (Ideal.div ((Real.exp (s0 x - a0) : ℝ) : EReal) (∑ x, ((Real.exp (s0 x - a0) : ℝ) : EReal)) -
        (lam : EReal) * Ideal.div ((Real.exp (s1 x - a1) : ℝ) : EReal) (∑ x, ((Real.exp (s1 x - a1) : ℝ) : EReal)))) =
      (mix lam s0 s1 v : EReal) := by
  have h0 := (exp_sum_pos fun x => s0 x - a0).ne'
  have h1 := (exp_sum_pos fun x => s1 x - a1).ne'
  rw [coe_sum, coe_sum]
  simp only [Ideal.div_coe h0, Ideal.div_coe h1]
  simp only [← EReal.coe_mul, ← EReal.coe_sub, coe_sum]
  rw [EReal.coe_eq_coe_iff]
  unfold mix
  refine Finset.sum_congr rfl fun j _ => ?_
  rw [← softmax_shift s0 a0 j, ← softmax_shift s1 a1 j]
  field_simp

/-- The factor that carries a score to base two. -/
def scale : ℝ := (Real.sqrt 32)⁻¹ * (Real.log 2)⁻¹

/-- A power of two with the scaled score is an exponential of the score over the root of 32. -/
theorem exp2_scale (x : ℝ) : Ideal.exp2 ((x * scale : ℝ) : EReal) = ((Real.exp (x / Real.sqrt 32 - 0) : ℝ) : EReal) := by
  have hl : Real.log 2 ≠ 0 := (Real.log_pos one_lt_two).ne'
  rw [Ideal.exp2_coe, EReal.coe_eq_coe_iff, Real.rpow_eq_pow, Real.rpow_def_of_pos two_pos]
  congr 1
  unfold scale
  field_simp
  ring

/-- The same with the scores lowered by a number. -/
theorem exp2_scale_sub (x M : ℝ) : Ideal.exp2 (((x * scale : ℝ) : EReal) - (M : EReal)) =
    ((Real.exp (x / Real.sqrt 32 - M * Real.log 2) : ℝ) : EReal) := by
  have hl : Real.log 2 ≠ 0 := (Real.log_pos one_lt_two).ne'
  rw [← EReal.coe_sub, Ideal.exp2_coe, EReal.coe_eq_coe_iff, Real.rpow_eq_pow, Real.rpow_def_of_pos two_pos]
  congr 1
  unfold scale
  field_simp

/-- The score of a query against a key. -/
def dot (q k : Fin 32 → ℝ) : ℝ := (∑ d, q d * k d) / Real.sqrt 32

/-- One head's output, from the queries and keys of its two maps and its values. -/
def headOut (lam : ℝ) (q : Fin 2 → Fin 32 → ℝ) (k : Fin 2 → Fin 2048 → Fin 32 → ℝ) (v : Fin 2048 → Fin 64 → ℝ)
    (d : Fin 64) : ℝ :=
  mix lam (fun s => dot (q 0) (k 0 s)) (fun s => dot (q 1) (k 1 s)) (fun s => v s d)

/-- A head's output, normalised by its root mean square, with a gain and the layer's factor. -/
def finish (o : Fin 64 → ℝ) (d : Fin 64) (g : EReal) : EReal :=
  (o d : EReal) * Ideal.rsqrt (Ideal.div (∑ x, (o x : EReal) * (o x : EReal)) (Ideal.ofBits .f32 0x42800000#32) +
    Ideal.ofBits .f32 0x358637BD#32) * g * Ideal.ofBits .f32 0x3EE34C57#32

/-- A sum over 128 lanes that reads zero outside of 32 of them is a sum over the 32. -/
theorem sum_lanes (o : Nat) (ho : o + 32 ≤ 128) (f : Fin 128 → EReal) :
    (∑ x : Fin 128, if o ≤ x.val ∧ x.val < o + 32 then f x else 0) = ∑ d : Fin 32, f ⟨o + d, by omega⟩ := by
  rw [← Finset.sum_filter]
  symm
  refine Finset.sum_bij (fun d _ => (⟨o + d, by omega⟩ : Fin 128)) ?_ ?_ ?_ ?_
  · intro d _; simp
  · intro d _ d' _ h; have := Fin.mk.inj_iff.mp h; ext; omega
  · intro x hx
    have hx' := (Finset.mem_filter.mp hx).2
    exact ⟨⟨x.val - o, by omega⟩, Finset.mem_univ _, by ext; simp; omega⟩
  · intro d _; rfl

/-- A sum over 128 lanes that reads zero outside of one half is a sum over the half. -/
theorem sum_half (o : Nat) (ho : o + 64 ≤ 128) (f : Fin 128 → EReal) :
    (∑ x : Fin 128, if o ≤ x.val ∧ x.val < o + 64 then f x else 0) = ∑ d : Fin 64, f ⟨o + d, by omega⟩ := by
  rw [← Finset.sum_filter]
  symm
  refine Finset.sum_bij (fun d _ => (⟨o + d, by omega⟩ : Fin 128)) ?_ ?_ ?_ ?_
  · intro d _; simp
  · intro d _ d' _ h; have := Fin.mk.inj_iff.mp h; ext; omega
  · intro x hx
    have hx' := (Finset.mem_filter.mp hx).2
    exact ⟨⟨x.val - o, by omega⟩, Finset.mem_univ _, by ext; simp; omega⟩
  · intro d _; rfl

end Cert.DaRow
end
-- ==== Proof.DaBlock.lean ====
module

public import proofs.«01_k».proof.Proof.DaStagesAt
public import proofs.«01_k».proof.Proof.DaRow

/-! One head of one row of the block that the differential-attention body stores, for finite queries,
    keys and values: it is `Cert.DaRow.finish` of `Cert.DaRow.headOut`, in the branch with the shift of
    the scores and in the branch without it. -/

@[expose] public section
set_option maxRecDepth 16384
noncomputable section
open Idealize.ShloMosaic Idealize.ShloMosaic.TcCoe Idealize.SL.Sem
namespace Cert.DaIdeal.Rows
open Cert.DaIdeal Cert.DaIdeal.Gen Cert.DaIdeal.Run Cert.DaRow

/-- The named factor of the scores. -/
theorem scale_named : (Named.named κ "scale" (0x3E8293EE#32 : BitVec (FTy.bits .f32)) : Ideal .f32) = ((scale : ℝ) : EReal) := by
  have h : κ "scale" = some ((((Real.sqrt 32)⁻¹ * (Real.log 2)⁻¹ : ℝ)) : EReal) := rfl
  rw [IdealRules.named_const.ideal_named_scalar κ "scale" (φ := .f32) 0x3E8293EE#32 _ h]
  unfold scale
  rfl

/-- A scaled score of finite queries and keys. -/
theorem score_coe (lo hi : BitVec 32) (o : Nat) (ho : o + 32 ≤ 128)
    (hm : ∀ x : Fin 128, IntOp.andi (IntOp.cmpi .sge (BitVec.ofNat 32 x) lo) (IntOp.cmpi .slt (BitVec.ofNat 32 x) hi)
      = if o ≤ x.val ∧ x.val < o + 32 then 1#1 else 0#1)
    (x3 : FVec Ideal S256x128 .f32) (x4 : FVec Ideal S2048x128 .bf16) (i : Fin 256) (s : Fin 2048)
    (q k : Fin 32 → ℝ) (hq : ∀ d : Fin 32, x3 (ix2 i ⟨o + d, by omega⟩) = (q d : EReal))
    (hk : ∀ d : Fin 32, x4 (ix2 s ⟨o + d, by omega⟩) = (k d : EReal)) :
    score (lanes lo hi) x3 x4 (ix2 i s) = (((∑ d, q d * k d) * scale : ℝ) : EReal) := by
  have h : score (lanes lo hi) x3 x4 (ix2 i s) = ∑ x : Fin 128, if o ≤ x.val ∧ x.val < o + 32 then
      x3 (ix2 i x) * ((scale : ℝ) : EReal) * x4 (ix2 s x) else 0 := by
    rw [score_at]
    refine Finset.sum_congr rfl fun x _ => ?_
    rw [lanes_at, hm, scale_named]
    by_cases hx : o ≤ x.val ∧ x.val < o + 32
    · rw [if_pos hx, if_pos hx]; rfl
    · rw [if_neg hx, if_neg hx]; exact zero_mul _
  rw [h, sum_lanes o ho (fun x => x3 (ix2 i x) * ((scale : ℝ) : EReal) * x4 (ix2 s x))]
  simp only [hq, hk, ← EReal.coe_mul, coe_sum]
  rw [EReal.coe_eq_coe_iff, Finset.sum_mul]
  exact Finset.sum_congr rfl fun d _ => by ring

/-- The exponential of a score, in the branch without the shift. -/
theorem plain_exp (lo hi : BitVec 32) (o : Nat) (ho : o + 32 ≤ 128)
    (hm : ∀ x : Fin 128, IntOp.andi (IntOp.cmpi .sge (BitVec.ofNat 32 x) lo) (IntOp.cmpi .slt (BitVec.ofNat 32 x) hi)
      = if o ≤ x.val ∧ x.val < o + 32 then 1#1 else 0#1)
    (x3 : FVec Ideal S256x128 .f32) (x4 : FVec Ideal S2048x128 .bf16) (i : Fin 256)
    (q : Fin 32 → ℝ) (k : Fin 2048 → Fin 32 → ℝ) (hq : ∀ d : Fin 32, x3 (ix2 i ⟨o + d, by omega⟩) = (q d : EReal))
    (hk : ∀ (s : Fin 2048) (d : Fin 32), x4 (ix2 s ⟨o + d, by omega⟩) = (k s d : EReal)) (s : Fin 2048) :
    exp2 (score (lanes lo hi) x3 x4) (ix2 i s) = ((Real.exp (dot q (k s) - 0) : ℝ) : EReal) := by
  show Ideal.exp2 (score (lanes lo hi) x3 x4 (ix2 i s)) = _
  rw [score_coe lo hi o ho hm x3 x4 i s q (k s) hq (hk s), exp2_scale]
  rfl

/-- The exponential of a score, in the branch with the shift: a row is lowered by one number. -/
theorem shifted_exp (lo hi : BitVec 32) (o : Nat) (ho : o + 32 ≤ 128)
    (hm : ∀ x : Fin 128, IntOp.andi (IntOp.cmpi .sge (BitVec.ofNat 32 x) lo) (IntOp.cmpi .slt (BitVec.ofNat 32 x) hi)
      = if o ≤ x.val ∧ x.val < o + 32 then 1#1 else 0#1)
    (x3 : FVec Ideal S256x128 .f32) (x4 : FVec Ideal S2048x128 .bf16) (i : Fin 256)
    (q : Fin 32 → ℝ) (k : Fin 2048 → Fin 32 → ℝ) (hq : ∀ d : Fin 32, x3 (ix2 i ⟨o + d, by omega⟩) = (q d : EReal))
    (hk : ∀ (s : Fin 2048) (d : Fin 32), x4 (ix2 s ⟨o + d, by omega⟩) = (k s d : EReal)) :
    ∃ a : ℝ, ∀ s : Fin 2048, exp2 (lowered (score (lanes lo hi) x3 x4)) (ix2 i s)
      = ((Real.exp (dot q (k s) - a) : ℝ) : EReal) := by
  obtain ⟨M, hM⟩ := fold_max_coe fun s : Fin 2048 => (∑ d, q d * k s d) * scale
  refine ⟨M * Real.log 2, fun s => ?_⟩
  show Ideal.exp2 (lowered (score (lanes lo hi) x3 x4) (ix2 i s)) = _
  have hb : Ideal.ofBits .f32 0xFF800000#32 = (⊥ : EReal) := by simp [Ideal.ofBits, Ideal.ieee]
  rw [lowered_at, hb]
  simp only [score_coe lo hi o ho hm x3 x4 i _ q (k _) hq (hk _)]
  rw [hM, exp2_scale_sub]
  rfl

/-- A head's output for exponentials of finite scores. -/
theorem head_coe (lam : ℝ) (x0 : FVec Ideal S1x1 .f32) (hl : x0 (ix2 0 0) = (lam : EReal))
    (e0 e1 : FVec Ideal S256x2048 .f32) (x5 : FVec Ideal S2048x128 .bf16) (i : Fin 256) (j : Fin 128)
    (s0 s1 v : Fin 2048 → ℝ) (a0 a1 : ℝ)
    (h0 : ∀ s, e0 (ix2 i s) = ((Real.exp (s0 s - a0) : ℝ) : EReal))
    (h1 : ∀ s, e1 (ix2 i s) = ((Real.exp (s1 s - a1) : ℝ) : EReal))
    (hv : ∀ s, x5 (ix2 s j) = (v s : EReal)) :
    head x0 e0 e1 x5 (ix2 i j) = (mix lam s0 s1 v : EReal) := by
  rw [head_at]
  simp only [h0, h1, hl, hv]
  exact late_eq lam s0 s1 v a0 a1

/-- The mean of the squares of 64 finite lanes, as a quotient and as a product with a matrix of 1/64. -/
theorem mean_eq (o : Fin 64 → ℝ) :
    (∑ x, (o x : EReal) * (o x : EReal) * ((1 / 64 : ℝ) : EReal)) =
      Ideal.div (∑ x, (o x : EReal) * (o x : EReal)) (Ideal.ofBits .f32 0x42800000#32) := by
  have h64 : Ideal.ofBits .f32 0x42800000#32 = ((64 : ℝ) : EReal) := by
    simp [Ideal.ofBits, Ideal.ieee, -EReal.coe_mul]; norm_num
  rw [h64, Ideal.div_coe (by norm_num : (64 : ℝ) ≠ 0)]
  simp only [← EReal.coe_mul, coe_sum]
  rw [Finset.sum_mul]

/-- The norm of a head whose lanes are finite, the matrix reading 1/64 inside of a head. -/
theorem normed_coe (O : FVec Ideal S256x128 .f32) (gm : FVec Ideal S128x128 .bf16) (g : FVec Ideal S1x128 .f32)
    (i : Fin 256) (h : Nat) (hh : h < 2) (o : Fin 64 → ℝ)
    (ho : ∀ d : Fin 64, O (ix2 i ⟨h * 64 + d, by omega⟩) = (o d : EReal))
    (hgm : ∀ x j : Fin 128, gm (ix2 x j) = if x.val / 64 = j.val / 64 then ((1 / 64 : ℝ) : EReal) else 0)
    (d : Fin 64) :
    normed O gm g (ix2 i ⟨h * 64 + d, by omega⟩) = finish o d (g (ix2 0 ⟨h * 64 + d, by omega⟩)) := by
  have e1 : (∑ x : Fin 128, O (ix2 i x) * O (ix2 i x) * gm (ix2 x ⟨h * 64 + d, by omega⟩)) =
      Ideal.div (∑ x, (o x : EReal) * (o x : EReal)) (Ideal.ofBits .f32 0x42800000#32) := by
    rw [← mean_eq]
    have : ∀ x : Fin 128, O (ix2 i x) * O (ix2 i x) * gm (ix2 x ⟨h * 64 + d, by omega⟩) =
        if h * 64 ≤ x.val ∧ x.val < h * 64 + 64 then O (ix2 i x) * O (ix2 i x) * ((1 / 64 : ℝ) : EReal) else 0 := by
      intro x
      rw [hgm]
      by_cases hx : h * 64 ≤ x.val ∧ x.val < h * 64 + 64
      · rw [if_pos hx, if_pos (by show x.val / 64 = (h * 64 + d.val) / 64; omega)]
      · rw [if_neg hx, if_neg (by show ¬ x.val / 64 = (h * 64 + d.val) / 64; omega), mul_zero]
    rw [Finset.sum_congr rfl fun x _ => this x,
      sum_half (h * 64) (by omega) fun x => O (ix2 i x) * O (ix2 i x) * ((1 / 64 : ℝ) : EReal)]
    exact Finset.sum_congr rfl fun x _ => by rw [ho]
  have e2 : (∑ x : Fin 128, (O (ix2 i x) * O (ix2 i x) - O (ix2 i x) * O (ix2 i x)) *
      gm (ix2 x ⟨h * 64 + d, by omega⟩)) = 0 := by
    refine Finset.sum_eq_zero fun x _ => ?_
    rw [hgm]
    by_cases hx : x.val / 64 = (⟨h * 64 + d.val, by omega⟩ : Fin 128).val / 64
    · have hx' : h * 64 ≤ x.val ∧ x.val < h * 64 + 64 := by
        have : x.val / 64 = (h * 64 + d.val) / 64 := hx
        omega
      have hO := ho ⟨x.val - h * 64, by omega⟩
      have hf : (⟨h * 64 + (x.val - h * 64), by omega⟩ : Fin 128) = x := Fin.ext (by dsimp only; omega)
      rw [show (⟨h * 64 + (⟨x.val - h * 64, by omega⟩ : Fin 64).val, by simp; omega⟩ : Fin 128) = x from hf] at hO
      rw [hO, ← EReal.coe_mul, ← EReal.coe_sub, sub_self, EReal.coe_zero, zero_mul]
    · rw [if_neg hx, mul_zero]
  rw [normed_at, e1, e2, add_zero, ho]
  rfl

/-- The first half of the lanes is the first head's. -/
theorem heads_fst (a b : FVec Ideal S256x128 .f32) (i : Fin 256) (d : Fin 64) :
    heads a b (ix2 i ⟨0 * 64 + d, by omega⟩) = a (ix2 i ⟨0 * 64 + d, by omega⟩) := by
  rw [heads_at, show IntOp.cmpi .slt (BitVec.ofNat 32 (0 * 64 + d.val)) 64#32 = 1#1 from
    (by decide : ∀ d : Fin 64, IntOp.cmpi .slt (BitVec.ofNat 32 (0 * 64 + d.val)) 64#32 = 1#1) d]
  rfl

/-- The other half is the second head's. -/
theorem heads_snd (a b : FVec Ideal S256x128 .f32) (i : Fin 256) (d : Fin 64) :
    heads a b (ix2 i ⟨1 * 64 + d, by omega⟩) = b (ix2 i ⟨1 * 64 + d, by omega⟩) := by
  rw [heads_at, show IntOp.cmpi .slt (BitVec.ofNat 32 (1 * 64 + d.val)) 64#32 = 0#1 from
    (by decide : ∀ d : Fin 64, IntOp.cmpi .slt (BitVec.ofNat 32 (1 * 64 + d.val)) 64#32 = 0#1) d]
  rfl

section
variable (x0 : Vec Ideal S4x32 .f32) (x1 : Vec Ideal S1x128 .f32) (x2 : Vec Ideal S128x128 .bf16)
  (x3 : Vec Ideal S256x128 .f32) (x4 x5 : Vec Ideal S2048x128 .bf16) (i : Fin 256) (h : Nat) (hh : h < 2)
  (lam : ℝ) (hl : (k0_pay1 (F := Ideal) x0) (ix2 0 0) = (lam : EReal))
  (q : Fin 2 → Fin 32 → ℝ) (k : Fin 2 → Fin 2048 → Fin 32 → ℝ) (v : Fin 2048 → Fin 64 → ℝ)
  (hq : ∀ (t : Fin 2) (d : Fin 32) (hx : h * 64 + t.val * 32 + d.val < 128), x3 (ix2 i ⟨_, hx⟩) = (q t d : EReal))
  (hk : ∀ (t : Fin 2) (s : Fin 2048) (d : Fin 32) (hx : h * 64 + t.val * 32 + d.val < 128),
    x4 (ix2 s ⟨_, hx⟩) = (k t s d : EReal))
  (hv : ∀ (s : Fin 2048) (d : Fin 64) (hx : h * 64 + d.val < 128), x5 (ix2 s ⟨_, hx⟩) = (v s d : EReal))
  (hgm : ∀ x j : Fin 128, x2 (ix2 x j) = if x.val / 64 = j.val / 64 then ((1 / 64 : ℝ) : EReal) else 0)
include hh hl hq hk hv hgm

/-- What the branch without the shift stores in a head of a row. -/
theorem plain_at (d : Fin 64) (hx : h * 64 + d.val < 128) :
    plain x0 x1 x2 x3 x4 x5 (ix2 i ⟨_, hx⟩) = finish (headOut lam q k v) d (x1 (ix2 0 ⟨_, hx⟩)) := by
  rw [plain_eq]
  refine normed_coe _ _ _ i h hh _ (fun d => ?_) hgm d
  rcases (by omega : h = 0 ∨ h = 1) with rfl | rfl
  · rw [heads_fst]
    exact head_coe lam _ hl _ _ _ i _ _ _ _ 0 0
      (plain_exp 0#32 32#32 (0 * 64 + 0 * 32) (by omega) (by decide) x3 x4 i _ _ (fun d => hq 0 d _) (fun s d => hk 0 s d _))
      (plain_exp 32#32 64#32 (0 * 64 + 1 * 32) (by omega) (by decide) x3 x4 i _ _ (fun d => hq 1 d _) (fun s d => hk 1 s d _)) (fun s => hv s d _)
  · rw [heads_snd]
    exact head_coe lam _ hl _ _ _ i _ _ _ _ 0 0
      (plain_exp 64#32 96#32 (1 * 64 + 0 * 32) (by omega) (by decide) x3 x4 i _ _ (fun d => hq 0 d _) (fun s d => hk 0 s d _))
      (plain_exp 96#32 128#32 (1 * 64 + 1 * 32) (by omega) (by decide) x3 x4 i _ _ (fun d => hq 1 d _) (fun s d => hk 1 s d _)) (fun s => hv s d _)

/-- What the branch with the shift stores in a head of a row. -/
theorem shifted_at (d : Fin 64) (hx : h * 64 + d.val < 128) :
    shifted x0 x1 x2 x3 x4 x5 (ix2 i ⟨_, hx⟩) = finish (headOut lam q k v) d (x1 (ix2 0 ⟨_, hx⟩)) := by
  rw [shifted_eq]
  refine normed_coe _ _ _ i h hh _ (fun d => ?_) hgm d
  rcases (by omega : h = 0 ∨ h = 1) with rfl | rfl
  · rw [heads_fst]
    obtain ⟨a0, h0⟩ := shifted_exp 0#32 32#32 (0 * 64 + 0 * 32) (by omega) (by decide) x3 x4 i _ _ (fun d => hq 0 d _) (fun s d => hk 0 s d _)
    obtain ⟨a1, h1⟩ := shifted_exp 32#32 64#32 (0 * 64 + 1 * 32) (by omega) (by decide) x3 x4 i _ _ (fun d => hq 1 d _) (fun s d => hk 1 s d _)
    exact head_coe lam _ hl _ _ _ i _ _ _ _ a0 a1 h0 h1 (fun s => hv s d _)
  · rw [heads_snd]
    obtain ⟨a0, h0⟩ := shifted_exp 64#32 96#32 (1 * 64 + 0 * 32) (by omega) (by decide) x3 x4 i _ _ (fun d => hq 0 d _) (fun s d => hk 0 s d _)
    obtain ⟨a1, h1⟩ := shifted_exp 96#32 128#32 (1 * 64 + 1 * 32) (by omega) (by decide) x3 x4 i _ _ (fun d => hq 1 d _) (fun s d => hk 1 s d _)
    exact head_coe lam _ hl _ _ _ i _ _ _ _ a0 a1 h0 h1 (fun s => hv s d _)

end

end Cert.DaIdeal.Rows
end
-- ==== Proof.DaRefValue.lean ====
module

public import proofs.«01_k».proof.Proof.Gen.DaRefIdeal.Run
public import Idealize.ShloMosaic.Lib.Pointwise

/-! The reference of differential attention, stage by stage: the scores, the softmax of every row, the
    weight of the second map, the difference of the maps applied to the values, the norm of every head's
    output. Every stage is read at an index. -/

@[expose] public section
set_option maxRecDepth 16384
noncomputable section
open Idealize.ShloMosaic Idealize.ShloMosaic.TcCoe Idealize.SL.Sem
namespace Cert.DaRefIdeal.Rows
open Cert.DaRefIdeal Cert.DaRefIdeal.Gen

/-- The scores of every query against every key of its sequence, for each head's two maps. -/
def scores (q k : FVec Ideal S32768x256 .f32) : FVec Ideal S16x4x2x2048x2048 .f32 :=
  Host.dotGeneral dot_S16x2048x4x2x32_S16x2048x4x2x32_S16x4x2x2048x2048_4_4_1_1_023_023 none
    (Host.divf (shapeCast S16x2048x4x2x32 q shapeCasts_S32768x256_S16x2048x4x2x32)
      (broadcastInDim S16x2048x4x2x32 ![] bcast_S_S16x2048x4x2x32 (Host.sqrt (constant S_ .f32 0x42000000#32))))
    (shapeCast S16x2048x4x2x32 k shapeCasts_S32768x256_S16x2048x4x2x32)

/-- The maximum of every row. -/
def top (s : FVec Ideal S16x4x2x2048x2048 .f32) : FVec Ideal S16x4x2x2048 .f32 :=
  Host.reduce FloatOps.maximumf s (constant S_ .f32 0xFF800000#32 : FVec Ideal S_ .f32)
    reducesTo_S16x4x2x2048x2048_S16x4x2x2048_d4 h_S_

/-- The exponentials of the scores less a number for every row, kept from being less than −∞. -/
def weights (s : FVec Ideal S16x4x2x2048x2048 .f32) (a : FVec Ideal S16x4x2x2048 .f32) :
    FVec Ideal S16x4x2x2048x2048 .f32 :=
  Host.exp (subf s (broadcastInDim S16x4x2x2048x2048 ![0, 1, 2, 3, 4] bcast_S16x4x2x2048x1_S16x4x2x2048x2048_0_1_2_3_4
    (broadcastInDim S16x4x2x2048x1 ![0, 1, 2, 3] bcast_S16x4x2x2048_S16x4x2x2048x1_0_1_2_3
      (maximumf (broadcastInDim S16x4x2x2048 ![] bcast_S_S16x4x2x2048 (constant S_ .f32 0xFF800000#32)) a))))

/-- Every row divided by its sum. -/
def probs (e : FVec Ideal S16x4x2x2048x2048 .f32) : FVec Ideal S16x4x2x2048x2048 .f32 :=
  Host.divf e (broadcastInDim S16x4x2x2048x2048 ![0, 1, 2, 3, 4] bcast_S16x4x2x2048x1_S16x4x2x2048x2048_0_1_2_3_4
    (broadcastInDim S16x4x2x2048x1 ![0, 1, 2, 3] bcast_S16x4x2x2048_S16x4x2x2048x1_0_1_2_3
      (Host.reduceAdd e (constant S_ .f32 0x00000000#32) reducesTo_S16x4x2x2048x2048_S16x4x2x2048_d4 h_S_)))

/-- The weight of the second map. -/
def lam (x : FVec Ideal S4x32 .f32) : FVec Ideal S_ .f32 :=
  addf (subf
    (Host.exp (Host.reduceAdd (mulf
      (shapeCast S32 (extractStridedSlice S1x32 ![0, 0] x slices_S4x32_S1x32_0_0) shapeCasts_S1x32_S32)
      (shapeCast S32 (extractStridedSlice S1x32 ![1, 0] x slices_S4x32_S1x32_1_0) shapeCasts_S1x32_S32))
      (constant S_ .f32 0x00000000#32) reducesTo_S32_S_d0 h_S_))
    (Host.exp (Host.reduceAdd (mulf
      (shapeCast S32 (extractStridedSlice S1x32 ![2, 0] x slices_S4x32_S1x32_2_0) shapeCasts_S1x32_S32)
      (shapeCast S32 (extractStridedSlice S1x32 ![3, 0] x slices_S4x32_S1x32_3_0) shapeCasts_S1x32_S32))
      (constant S_ .f32 0x00000000#32) reducesTo_S32_S_d0 h_S_)))
    (constant S_ .f32 0x3F0E59D5#32)

/-- The difference of a head's two maps, applied to the values. -/
def outs (l : FVec Ideal S_ .f32) (p : FVec Ideal S16x4x2x2048x2048 .f32) (v : FVec Ideal S32768x256 .f32) :
    FVec Ideal S16x2048x4x64 .f32 :=
  transpose S16x2048x4x64 [0, 3, 1, 2] (Host.dotGeneral dot_S16x2048x4x64_S16x4x2048x2048_S16x4x64x2048_1_3_3_2_02_01 none
    (shapeCast S16x2048x4x64 v shapeCasts_S32768x256_S16x2048x4x64)
    (subf (shapeCast S16x4x2048x2048 (extractStridedSlice S16x4x1x2048x2048 ![0, 0, 0, 0, 0] p
        slices_S16x4x2x2048x2048_S16x4x1x2048x2048_0_0_0_0_0) shapeCasts_S16x4x1x2048x2048_S16x4x2048x2048)
      (mulf (broadcastInDim S16x4x2048x2048 ![] bcast_S_S16x4x2048x2048 l)
        (shapeCast S16x4x2048x2048 (extractStridedSlice S16x4x1x2048x2048 ![0, 0, 1, 0, 0] p
          slices_S16x4x2x2048x2048_S16x4x1x2048x2048_0_0_1_0_0) shapeCasts_S16x4x1x2048x2048_S16x4x2048x2048))))
    transposes_S16x4x64x2048_S16x2048x4x64_0_3_1_2

/-- The norm of every head's output, with its gain and the layer's factor. -/
def normed (o : FVec Ideal S16x2048x4x64 .f32) (g : FVec Ideal S64 .f32) : FVec Ideal S16x2048x4x64 .f32 :=
  mulf (mulf (mulf o (broadcastInDim S16x2048x4x64 ![0, 1, 2, 3] bcast_S16x2048x4x1_S16x2048x4x64_0_1_2_3
    (Host.rsqrt (addf (Host.divf
      (broadcastInDim S16x2048x4x1 ![0, 1, 2] bcast_S16x2048x4_S16x2048x4x1_0_1_2
        (Host.reduceAdd (mulf o o) (constant S_ .f32 0x00000000#32) reducesTo_S16x2048x4x64_S16x2048x4_d3 h_S_))
      (broadcastInDim S16x2048x4x1 ![] bcast_S_S16x2048x4x1 (constant S_ .f32 0x42800000#32)))
      (broadcastInDim S16x2048x4x1 ![] bcast_S_S16x2048x4x1 (constant S_ .f32 0x358637BD#32))))))
    (broadcastInDim S16x2048x4x64 ![0, 1, 2, 3] bcast_S1x1x1x64_S16x2048x4x64_0_1_2_3
      (broadcastInDim S1x1x1x64 ![3] bcast_S64_S1x1x1x64_3 g)))
    (broadcastInDim S16x2048x4x64 ![] bcast_S_S16x2048x4x64 (constant S_ .f32 0x3EE34C57#32))

/-- The reference's result, stage by stage. -/
def result (lv : FVec Ideal S4x32 .f32) (g : FVec Ideal S64 .f32) (q k v : FVec Ideal S32768x256 .f32) :
    FVec Ideal S32768x256 .bf16 :=
  truncf .bf16 (shapeCast S32768x256 (normed (outs (lam lv) (probs (weights (scores q k) (top (scores q k)))) v) g)
    shapeCasts_S16x2048x4x64_S32768x256) bitsLt_bf16_f32

/-- The scores at an index. -/
theorem scores_at (q k : FVec Ideal S32768x256 .f32) (b : Fin 16) (h : Fin 4) (t : Fin 2) (i j : Fin 2048) :
    scores q k (ix5 b h t i j) = ∑ x : Fin 32,
      Ideal.div (q (ix2 ⟨b * 2048 + i, by omega⟩ ⟨h * 64 + t * 32 + x, by omega⟩))
        (Ideal.sqrt (Ideal.ofBits .f32 0x42000000#32)) *
      k (ix2 ⟨b * 2048 + j, by omega⟩ ⟨h * 64 + t * 32 + x, by omega⟩) := by
  pointwise [scores]

/-- The row maximum at an index. -/
theorem top_at (s : FVec Ideal S16x4x2x2048x2048 .f32) (b : Fin 16) (h : Fin 4) (t : Fin 2) (i : Fin 2048) :
    top s (ix4 b h t i) = Finset.univ.fold max (Ideal.ofBits .f32 0xFF800000#32) (fun x => s (ix5 b h t i x)) := by
  pointwise [top]

/-- The exponentials at an index. -/
theorem weights_at (s : FVec Ideal S16x4x2x2048x2048 .f32) (a : FVec Ideal S16x4x2x2048 .f32)
    (b : Fin 16) (h : Fin 4) (t : Fin 2) (i j : Fin 2048) :
    weights s a (ix5 b h t i j) = Ideal.exp (s (ix5 b h t i j) -
      max (Ideal.ofBits .f32 0xFF800000#32) (a (ix4 b h t i))) := by
  pointwise [weights]

/-- The divided row at an index. -/
theorem probs_at (e : FVec Ideal S16x4x2x2048x2048 .f32) (b : Fin 16) (h : Fin 4) (t : Fin 2) (i j : Fin 2048) :
    probs e (ix5 b h t i j) = Ideal.div (e (ix5 b h t i j)) (∑ x : Fin 2048, e (ix5 b h t i x)) := by
  pointwise [probs]

/-- The weight of the second map, from the four rows of its parameters. -/
theorem lam_at (x : FVec Ideal S4x32 .f32) :
    lam x ix0 = Ideal.exp (∑ d : Fin 32, x (ix2 0 d) * x (ix2 1 d)) -
      Ideal.exp (∑ d : Fin 32, x (ix2 2 d) * x (ix2 3 d)) + Ideal.ofBits .f32 0x3F0E59D5#32 := by
  pointwise [lam]

/-- A head's output at an index. -/
theorem outs_at (l : FVec Ideal S_ .f32) (p : FVec Ideal S16x4x2x2048x2048 .f32) (v : FVec Ideal S32768x256 .f32)
    (b : Fin 16) (i : Fin 2048) (h : Fin 4) (d : Fin 64) :
    outs l p v (ix4 b i h d) = ∑ x : Fin 2048, v (ix2 ⟨b * 2048 + x, by omega⟩ ⟨h * 64 + d, by omega⟩) *
      (p (ix5 b h 0 i x) - l ix0 * p (ix5 b h 1 i x)) := by
  pointwise [outs]

/-- The norm at an index. -/
theorem normed_at (o : FVec Ideal S16x2048x4x64 .f32) (g : FVec Ideal S64 .f32)
    (b : Fin 16) (i : Fin 2048) (h : Fin 4) (d : Fin 64) :
    normed o g (ix4 b i h d) = o (ix4 b i h d) *
      Ideal.rsqrt (Ideal.div (∑ x : Fin 64, o (ix4 b i h x) * o (ix4 b i h x)) (Ideal.ofBits .f32 0x42800000#32) +
        Ideal.ofBits .f32 0x358637BD#32) * g (ix1 d) * Ideal.ofBits .f32 0x3EE34C57#32 := by
  pointwise [normed]

/-- The result at an index, from its norm. -/
theorem result_at (lv : FVec Ideal S4x32 .f32) (g : FVec Ideal S64 .f32) (q k v : FVec Ideal S32768x256 .f32)
    (r : Fin 32768) (j : Fin 256) :
    result lv g q k v (ix2 r j) =
      normed (outs (lam lv) (probs (weights (scores q k) (top (scores q k)))) v) g
        (ix4 ⟨r / 2048, by omega⟩ ⟨r % 2048, by omega⟩ ⟨j / 64, by omega⟩ ⟨j % 64, by omega⟩) := by
  pointwise [result]

/-- The reference's run ends with `result` of its arguments. -/
theorem res_eq (m : (ℓ : Loc nD τ sig) → Buf (Elt Ideal) ℓ) (c : Dev nD) :
    Value.res_out0 m c = result (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := rfl

end Cert.DaRefIdeal.Rows
end
-- ==== Proof.DaRefRow.lean ====
module

public import proofs.«01_k».proof.Proof.DaRefValue
public import proofs.«01_k».proof.Proof.DaRow

/-! The reference of differential attention for finite queries, keys, values and parameters of the second
    map's weight: every head of every row is `Cert.DaRow.finish` of `Cert.DaRow.headOut`. -/

@[expose] public section
set_option maxRecDepth 16384
noncomputable section
open Idealize.ShloMosaic Idealize.ShloMosaic.TcCoe Idealize.SL.Sem
namespace Cert.DaRefIdeal.Rows
open Cert.DaRefIdeal Cert.DaRefIdeal.Gen Cert.DaRow

/-- The weight of the second map is finite where its parameters are. -/
theorem lam_real (x : FVec Ideal S4x32 .f32) (hx : ∀ (a : Fin 4) (d : Fin 32), ∃ r : ℝ, x (ix2 a d) = (r : EReal)) :
    ∃ l : ℝ, lam x ix0 = (l : EReal) := by
  choose f hf using hx
  have hc : ∃ c : ℝ, Ideal.ofBits .f32 0x3F0E59D5#32 = (c : EReal) := by
    refine ⟨(9329109 : ℝ) / 16777216, ?_⟩
    simp [Ideal.ofBits, Ideal.ieee, -EReal.coe_mul]; norm_num
  obtain ⟨c, hc⟩ := hc
  rw [lam_at, hc]
  simp only [hf, ← EReal.coe_mul, coe_sum, Ideal.exp_coe, ← EReal.coe_sub, ← EReal.coe_add]
  exact ⟨_, rfl⟩

/-- A score of finite queries and keys. -/
theorem scores_coe (q k : FVec Ideal S32768x256 .f32) (b : Fin 16) (h : Fin 4) (t : Fin 2) (i j : Fin 2048)
    (qf kf : Fin 32 → ℝ)
    (hq : ∀ d : Fin 32, q (ix2 ⟨b * 2048 + i, by omega⟩ ⟨h * 64 + t * 32 + d, by omega⟩) = (qf d : EReal))
    (hk : ∀ d : Fin 32, k (ix2 ⟨b * 2048 + j, by omega⟩ ⟨h * 64 + t * 32 + d, by omega⟩) = (kf d : EReal)) :
    scores q k (ix5 b h t i j) = (dot qf kf : EReal) := by
  have h32 : Ideal.ofBits .f32 0x42000000#32 = ((32 : ℝ) : EReal) := by
    simp [Ideal.ofBits, Ideal.ieee, -EReal.coe_mul]; norm_num
  have hs : Real.sqrt 32 ≠ 0 := (Real.sqrt_pos.mpr (by norm_num)).ne'
  rw [scores_at, h32, Ideal.sqrt_coe, if_neg (by norm_num)]
  simp only [hq, hk, Ideal.div_coe hs, ← EReal.coe_mul, coe_sum]
  rw [EReal.coe_eq_coe_iff]
  unfold dot
  rw [Finset.sum_div]
  exact Finset.sum_congr rfl fun d _ => by ring

/-- The exponentials of a row of finite scores: the row is lowered by one number. -/
theorem weights_coe (s : FVec Ideal S16x4x2x2048x2048 .f32) (b : Fin 16) (h : Fin 4) (t : Fin 2) (i : Fin 2048)
    (f : Fin 2048 → ℝ) (hf : ∀ j, s (ix5 b h t i j) = (f j : EReal)) :
    ∃ a : ℝ, ∀ j, weights s (top s) (ix5 b h t i j) = ((Real.exp (f j - a) : ℝ) : EReal) := by
  obtain ⟨M, hM⟩ := fold_max_coe f
  have hb : Ideal.ofBits .f32 0xFF800000#32 = (⊥ : EReal) := by simp [Ideal.ofBits, Ideal.ieee]
  refine ⟨M, fun j => ?_⟩
  rw [weights_at, top_at, hb]
  simp only [hf]
  rw [hM, max_eq_right bot_le, ← EReal.coe_sub, Ideal.exp_coe]

/-- The reference's result in a head of a row. -/
theorem result_coe (lv : FVec Ideal S4x32 .f32) (g : FVec Ideal S64 .f32) (q k v : FVec Ideal S32768x256 .f32)
    (b : Fin 16) (i : Fin 2048) (h : Fin 4) (l : ℝ) (hl : lam lv ix0 = (l : EReal))
    (qf : Fin 2 → Fin 32 → ℝ) (kf : Fin 2 → Fin 2048 → Fin 32 → ℝ) (vf : Fin 2048 → Fin 64 → ℝ)
    (hq : ∀ (t : Fin 2) (d : Fin 32), q (ix2 ⟨b * 2048 + i, by omega⟩ ⟨h * 64 + t * 32 + d, by omega⟩) = (qf t d : EReal))
    (hk : ∀ (t : Fin 2) (s : Fin 2048) (d : Fin 32),
      k (ix2 ⟨b * 2048 + s, by omega⟩ ⟨h * 64 + t * 32 + d, by omega⟩) = (kf t s d : EReal))
    (hv : ∀ (s : Fin 2048) (d : Fin 64), v (ix2 ⟨b * 2048 + s, by omega⟩ ⟨h * 64 + d, by omega⟩) = (vf s d : EReal))
    (d : Fin 64) :
    result lv g q k v (ix2 ⟨b * 2048 + i, by omega⟩ ⟨h * 64 + d, by omega⟩) =
      finish (headOut l qf kf vf) d (g (ix1 d)) := by
  have ho : ∀ d : Fin 64, outs (lam lv) (probs (weights (scores q k) (top (scores q k)))) v (ix4 b i h d) =
      (headOut l qf kf vf d : EReal) := by
    intro d
    obtain ⟨a0, h0⟩ := weights_coe (scores q k) b h 0 i _ fun j => scores_coe q k b h 0 i j _ _ (hq 0) (hk 0 j)
    obtain ⟨a1, h1⟩ := weights_coe (scores q k) b h 1 i _ fun j => scores_coe q k b h 1 i j _ _ (hq 1) (hk 1 j)
    rw [outs_at]
    simp only [probs_at, h0, h1, hl, hv]
    exact early_eq l _ _ (fun s => vf s d) a0 a1
  have e1 : (⟨(b.val * 2048 + i.val) / 2048, by omega⟩ : Fin 16) = b := Fin.ext (by dsimp only; omega)
  have e2 : (⟨(b.val * 2048 + i.val) % 2048, by omega⟩ : Fin 2048) = i := Fin.ext (by dsimp only; omega)
  have e3 : (⟨(h.val * 64 + d.val) / 64, by omega⟩ : Fin 4) = h := Fin.ext (by dsimp only; omega)
  have e4 : (⟨(h.val * 64 + d.val) % 64, by omega⟩ : Fin 64) = d := Fin.ext (by dsimp only; omega)
  rw [result_at]
  show normed _ g (ix4 ⟨(b.val * 2048 + i.val) / 2048, _⟩ ⟨(b.val * 2048 + i.val) % 2048, _⟩
    ⟨(h.val * 64 + d.val) / 64, _⟩ ⟨(h.val * 64 + d.val) % 64, _⟩) = _
  rw [e1, e2, e3, e4, normed_at]
  simp only [ho]
  rfl

end Cert.DaRefIdeal.Rows
end
-- ==== Proof.DaHost.lean ====
module

public import proofs.«01_k».proof.Proof.DaIdealRun
public import Idealize.ShloMosaic.Lib.Pointwise

/-! What the host operations before the launch of differential attention leave in the arrays it reads. -/

@[expose] public section
set_option maxRecDepth 16384
noncomputable section
open Idealize.ShloMosaic Idealize.ShloMosaic.TcCoe Idealize.SL.Sem
namespace Cert.DaIdeal.Rows
open Cert.DaIdeal Cert.DaIdeal.Gen Cert.DaIdeal.Run

/-- The averaging matrix: 1/64 where two lanes are of one head. -/
def avg : FVec Ideal S128x128 .bf16 :=
  truncf .bf16 (Host.divf (uitofp .f32 (cmpi .eq
    (Host.shrui (iotaInDim S128x128 32 0) (broadcastInDim S128x128 ![] bcast_S_S128x128 (constantI S_ 32 6#32)))
    (Host.shrui (iotaInDim S128x128 32 1) (broadcastInDim S128x128 ![] bcast_S_S128x128 (constantI S_ 32 6#32)))))
    (broadcastInDim S128x128 ![] bcast_S_S128x128 (constant S_ .f32 0x42800000#32))) bitsLt_bf16_f32

/-- The gain, once for every head of a block. -/
def gain (g : FVec Ideal S64 .f32) : FVec Ideal S1x128 .f32 :=
  shapeCast S1x128 (broadcastInDim S1x1x2x64 ![0, 1, 2, 3] bcast_S1x1x1x64_S1x1x2x64_0_1_2_3
    (shapeCast S1x1x1x64 (shapeCast S1x64 g shapeCasts_S64_S1x64) shapeCasts_S1x64_S1x1x1x64)) shapeCasts_S1x1x2x64_S1x128

/-- A lane's head in a block, by a shift. -/
theorem shr_six (x : Fin 128) : IntOp.shrui .host (BitVec.ofNat 32 x) 6#32 = BitVec.ofNat 32 (x / 64) :=
  (by decide : ∀ x : Fin 128, IntOp.shrui .host (BitVec.ofNat 32 x) 6#32 = BitVec.ofNat 32 (x / 64)) x

/-- The averaging matrix at an index. -/
theorem avg_at (x j : Fin 128) : avg (ix2 x j) = if x.val / 64 = j.val / 64 then ((1 / 64 : ℝ) : EReal) else 0 := by
  have h64 : Ideal.ofBits .f32 0x42800000#32 = ((64 : ℝ) : EReal) := by
    simp [Ideal.ofBits, Ideal.ieee, -EReal.coe_mul]; norm_num
  pointwise [avg]
  rw [shr_six, shr_six, h64, Ideal.div_coe (by norm_num : (64 : ℝ) ≠ 0)]
  have hu : ∀ b : BitVec 1, (FloatOps.uitofp .f32 b : Ideal .f32) = (((b.toNat : ℕ) : ℝ) : EReal) := fun b => rfl
  rw [hu]
  by_cases h : x.val / 64 = j.val / 64
  · rw [if_pos h, h, show IntOp.cmpi .eq (BitVec.ofNat 32 (j.val / 64)) (BitVec.ofNat 32 (j.val / 64)) = 1#1 by
      simp [IntOp.cmpi]]
    simp
  · have hc : IntOp.cmpi .eq (BitVec.ofNat 32 (x.val / 64)) (BitVec.ofNat 32 (j.val / 64)) = 0#1 := by
      rcases (by omega : x.val / 64 = 0 ∨ x.val / 64 = 1) with hx | hx <;>
        rcases (by omega : j.val / 64 = 0 ∨ j.val / 64 = 1) with hj | hj <;> rw [hx, hj] <;> first | decide | omega
    rw [if_neg h, hc]
    simp

/-- The gain at a lane. -/
theorem gain_at (g : FVec Ideal S64 .f32) (j : Fin 128) : gain g (ix2 0 j) = g (ix1 ⟨j % 64, by omega⟩) := by
  pointwise [gain]

variable (m : (ℓ : Loc nD τ sig) → Buf (Elt Ideal) ℓ)

set_option maxHeartbeats 1600000 in
/-- The averaging matrix as the launch finds it. -/
theorem V_avg (c : Dev nD) : V m c main_v10 = avg := rfl
set_option maxHeartbeats 1600000 in
/-- The gain as the launch finds it. -/
theorem V_gain (c : Dev nD) : V m c main_v14 = gain (m ((c : Thread nD τ).loc main_arg2)) := rfl
set_option maxHeartbeats 1600000 in
/-- The keys as the launch finds them. -/
theorem V_k (c : Dev nD) : V m c main_v15 = (truncf .bf16 (m ((c : Thread nD τ).loc main_arg4)) bitsLt_bf16_f32 : FVec Ideal S32768x256 .bf16) := rfl
set_option maxHeartbeats 1600000 in
/-- The values as the launch finds them. -/
theorem V_v (c : Dev nD) : V m c main_v16 = (truncf .bf16 (m ((c : Thread nD τ).loc main_arg5)) bitsLt_bf16_f32 : FVec Ideal S32768x256 .bf16) := rfl

end Cert.DaIdeal.Rows
end
-- ==== Proof.DaPre.lean ====
module

public import proofs.«01_k».proof.Proof.Gen.Pre_entries_finite
public import Idealize.ShloMosaic.Lib.Pointwise
public import Idealize.ShloMosaic.Lib.ReduceAll

/-! The precondition, read: every query, key, value and parameter of the second map's weight is a real. -/

@[expose] public section
noncomputable section
open Idealize.ShloMosaic Idealize.ShloMosaic.TcCoe
namespace Cert.Pre_entries_finite.Rows
open Cert.Pre_entries_finite Cert.Pre_entries_finite.Gen

/-- A number of absolute value below +∞ is a real. -/
theorem real_of_abs (x : EReal) (h : Ideal.cmp .olt (max x (-x)) (Ideal.ofBits .f32 0x7F800000#32) = 1#1) :
    ∃ r : ℝ, x = (r : EReal) := by
  have ht : Ideal.ofBits .f32 0x7F800000#32 = (⊤ : EReal) := by simp [Ideal.ofBits, Ideal.ieee]
  rw [ht] at h
  induction x using EReal.rec with
  | bot => simp [Ideal.cmp] at h
  | coe r => exact ⟨r, rfl⟩
  | top => simp [Ideal.cmp] at h

/-- Two bits whose conjunction is 1 are both 1. -/
theorem both (a b : BitVec 1) (h : IntOp.andi a b = 1#1) : a = 1#1 ∧ b = 1#1 :=
  (by decide : ∀ a b : BitVec 1, IntOp.andi a b = 1#1 → a = 1#1 ∧ b = 1#1) a b h

/-- What the precondition says of the queries, keys, values and parameters. -/
theorem decode (a0 : FVec Ideal S512x256 .f32) (a1 : FVec Ideal S4x32 .f32) (a2 : FVec Ideal S64 .f32)
    (a3 a4 a5 : FVec Ideal S32768x256 .f32) (h : fn a0 a1 a2 a3 a4 a5 = fun _ => 1#1) :
    (∀ (a : Fin 4) (d : Fin 32), ∃ r : ℝ, a1 (ix2 a d) = (r : EReal)) ∧
    ∀ (i : Fin 32768) (j : Fin 256), (∃ r : ℝ, a3 (ix2 i j) = (r : EReal)) ∧ (∃ r : ℝ, a4 (ix2 i j) = (r : EReal)) ∧
      ∃ r : ℝ, a5 (ix2 i j) = (r : EReal) := by
  have key : ∀ (i : Fin 32768) (j : Fin 256), _ := fun i j => both _ _ (congrFun h (ix2 i j))
  refine ⟨fun a d => ?_, fun i j => ?_⟩
  · exact real_of_abs _ (Host.reduce_andi_all _ _ _ _ _ (key 0 0).2 (ix2 a d))
  · obtain ⟨h12, h3⟩ := both _ _ (key i j).1
    obtain ⟨h1, h2⟩ := both _ _ h12
    exact ⟨real_of_abs _ h1, real_of_abs _ h2, real_of_abs _ h3⟩

end Cert.Pre_entries_finite.Rows
end
-- ==== Proof.DaValue.lean ====
module

public import proofs.«01_k».proof.Proof.DaBlock
public import proofs.«01_k».proof.Proof.DaRefRow
public import proofs.«01_k».proof.Proof.DaHost
public import proofs.«01_k».proof.Proof.DaPre
public import Idealize.ShloMosaic.Lib.Pipeline.ValueKit
public import Idealize.ShloMosaic.Lib.Claim

/-! The kernel of differential attention: grid point (b, p, i) works on 256 queries of sequence b and on the
    two heads of pair p, and what it stores is, for finite entries, what the reference has there. -/

@[expose] public section
set_option maxRecDepth 16384
noncomputable section
open Idealize.ShloMosaic Idealize.ShloMosaic.TcCoe Idealize.SL.Sem
open Idealize.ShloMosaic.Pipeline (Dat)
namespace Cert.DaIdeal.Rows
open Cert.DaIdeal Cert.DaIdeal.Gen Cert.DaIdeal.Run Cert.DaRow

variable (m : (ℓ : Loc nD τ sig) → Buf (Elt Ideal) ℓ)

/-- The reference's result over the kernel's arguments. -/
abbrev goal (c : Dev nD) : FVec Ideal Cert.DaRefIdeal.S32768x256 .bf16 :=
  Cert.DaRefIdeal.Rows.result (m ((c : Thread nD τ).loc main_arg1)) (m ((c : Thread nD τ).loc main_arg2))
    (m ((c : Thread nD τ).loc main_arg3)) (m ((c : Thread nD τ).loc main_arg4)) (m ((c : Thread nD τ).loc main_arg5))

/-- Which block of its array every window takes at a grid point. -/
theorem idx : ∀ t : Fin grid0.N,
    cc0_transform_0 (grid0.coords t) = ![0, 0] ∧ cc0_transform_1 (grid0.coords t) = ![0, 0]
    ∧ cc0_transform_2 (grid0.coords t) = ![0, 0]
    ∧ cc0_transform_3 (grid0.coords t) = ![t.val / 16 * 8 + t.val % 8, t.val / 8 % 2]
    ∧ cc0_transform_4 (grid0.coords t) = ![t.val / 16, t.val / 8 % 2]
    ∧ cc0_transform_5 (grid0.coords t) = ![t.val / 16, t.val / 8 % 2]
    ∧ cc0_transform_6 (grid0.coords t) = ![t.val / 16 * 8 + t.val % 8, t.val / 8 % 2] :=
  (by decide +kernel : ∀ t : Fin grid0.N, _)

/-- The grid has 256 points. -/
theorem N_eq : (pipe m).N = 256 := (by decide +kernel : grid0.N = 256)

/-- The same, of window 0 of the launch. -/
theorem index0 (t : Fin (pipe m).N) : ((pipe m).win 0).index t = ![0, 0] :=
  (idx t).1

/-- The same, of window 1 of the launch. -/
theorem index1 (t : Fin (pipe m).N) : ((pipe m).win 1).index t = ![0, 0] :=
  (idx t).2.1

/-- The same, of window 2 of the launch. -/
theorem index2 (t : Fin (pipe m).N) : ((pipe m).win 2).index t = ![0, 0] :=
  (idx t).2.2.1

/-- The same, of window 3 of the launch. -/
theorem index3 (t : Fin (pipe m).N) : ((pipe m).win 3).index t = ![t.val / 16 * 8 + t.val % 8, t.val / 8 % 2] :=
  (idx t).2.2.2.1

/-- The same, of window 4 of the launch. -/
theorem index4 (t : Fin (pipe m).N) : ((pipe m).win 4).index t = ![t.val / 16, t.val / 8 % 2] :=
  (idx t).2.2.2.2.1

/-- The same, of window 5 of the launch. -/
theorem index5 (t : Fin (pipe m).N) : ((pipe m).win 5).index t = ![t.val / 16, t.val / 8 % 2] :=
  (idx t).2.2.2.2.2.1

/-- The same, of window 6 of the launch. -/
theorem index6 (t : Fin (pipe m).N) : ((pipe m).win 6).index t = ![t.val / 16 * 8 + t.val % 8, t.val / 8 % 2] :=
  (idx t).2.2.2.2.2.2

/-- Where the parameters lie. -/
theorem emb_l (t : Fin (pipe m).N) (a : Fin 4) (j : Fin 32) :
    (((pipe m).win 0).blk t).view.emb (ix2 a j : S4x32.Idx) = (ix2 a j : S4x32.Idx) := by
  blk_ext [index0 m t]

/-- Where the gain lies. -/
theorem emb_g (t : Fin (pipe m).N) (a : Fin 1) (j : Fin 128) :
    (((pipe m).win 1).blk t).view.emb (ix2 a j : S1x128.Idx) = (ix2 a j : S1x128.Idx) := by
  blk_ext [index1 m t]

/-- Where the averaging matrix lies. -/
theorem emb_a (t : Fin (pipe m).N) (a : Fin 128) (j : Fin 128) :
    (((pipe m).win 2).blk t).view.emb (ix2 a j : S128x128.Idx) = (ix2 a j : S128x128.Idx) := by
  blk_ext [index2 m t]

/-- Where a block of queries lies. -/
theorem emb_q (t : Fin (pipe m).N) (r : Fin 256) (j : Fin 128)
    (h1 : (t.val / 16 * 8 + t.val % 8) * 256 + r.val < 32768) (h2 : t.val / 8 % 2 * 128 + j.val < 256) :
    (((pipe m).win 3).blk t).view.emb (ix2 r j : S256x128.Idx) =
      (ix2 (⟨_, h1⟩ : Fin 32768) (⟨_, h2⟩ : Fin 256) : S32768x256.Idx) := by
  blk_ext [index3 m t]

/-- Where a block of keys lies. -/
theorem emb_k (t : Fin (pipe m).N) (r : Fin 2048) (j : Fin 128)
    (h1 : t.val / 16 * 2048 + r.val < 32768) (h2 : t.val / 8 % 2 * 128 + j.val < 256) :
    (((pipe m).win 4).blk t).view.emb (ix2 r j : S2048x128.Idx) =
      (ix2 (⟨_, h1⟩ : Fin 32768) (⟨_, h2⟩ : Fin 256) : S32768x256.Idx) := by
  blk_ext [index4 m t]

/-- Where a block of values lies. -/
theorem emb_v (t : Fin (pipe m).N) (r : Fin 2048) (j : Fin 128)
    (h1 : t.val / 16 * 2048 + r.val < 32768) (h2 : t.val / 8 % 2 * 128 + j.val < 256) :
    (((pipe m).win 5).blk t).view.emb (ix2 r j : S2048x128.Idx) =
      (ix2 (⟨_, h1⟩ : Fin 32768) (⟨_, h2⟩ : Fin 256) : S32768x256.Idx) := by
  blk_ext [index5 m t]

/-- Where a block of the result lies. -/
theorem emb_o (t : Fin (pipe m).N) (r : Fin 256) (j : Fin 128)
    (h1 : (t.val / 16 * 8 + t.val % 8) * 256 + r.val < 32768) (h2 : t.val / 8 % 2 * 128 + j.val < 256) :
    (((pipe m).win 6).blk t).view.emb (ix2 r j : S256x128.Idx) =
      (ix2 (⟨_, h1⟩ : Fin 32768) (⟨_, h2⟩ : Fin 256) : S32768x256.Idx) := by
  blk_ext [index6 m t]

/-- The parameters, in every block. -/
theorem blk_l (c : Dev nD) (t : Fin (pipe m).N) :
    (iblk m c 0 t : FVec Ideal S4x32 .f32) = (m ((c : Thread nD τ).loc main_arg1) : FVec Ideal S4x32 .f32) := by
  have key : ∀ y : S4x32.Idx, (iblk m c 0 t : FVec Ideal S4x32 .f32) y =
      (m ((c : Thread nD τ).loc main_arg1) : FVec Ideal S4x32 .f32) y := fun y => by
    idx_vars y
    refine Eq.trans (congrArg (V m c main_arg1) (emb_l m t _ _)) ?_
    rw [V_arg1 m c]
  exact funext key

/-- The gain at a lane of a block. -/
theorem blk_g (c : Dev nD) (t : Fin (pipe m).N) (j : Fin 128) :
    (iblk m c 1 t : FVec Ideal S1x128 .f32) (ix2 0 j) =
      (m ((c : Thread nD τ).loc main_arg2) : FVec Ideal S64 .f32) (ix1 ⟨j % 64, by omega⟩) := by
  refine Eq.trans (congrArg (V m c main_v14) (emb_g m t 0 j)) ?_
  rw [V_gain m c]
  exact gain_at _ j

/-- The averaging matrix of a block. -/
theorem blk_a (c : Dev nD) (t : Fin (pipe m).N) (x j : Fin 128) :
    (iblk m c 2 t : FVec Ideal S128x128 .bf16) (ix2 x j) =
      if x.val / 64 = j.val / 64 then ((1 / 64 : ℝ) : EReal) else 0 := by
  refine Eq.trans (congrArg (V m c main_v10) (emb_a m t x j)) ?_
  rw [V_avg m c]
  exact avg_at x j

/-- The queries of a block. -/
theorem blk_q (c : Dev nD) (t : Fin (pipe m).N) (r : Fin 256) (j : Fin 128)
    (h1 : (t.val / 16 * 8 + t.val % 8) * 256 + r.val < 32768) (h2 : t.val / 8 % 2 * 128 + j.val < 256) :
    (iblk m c 3 t : FVec Ideal S256x128 .f32) (ix2 r j) =
      (m ((c : Thread nD τ).loc main_arg3) : FVec Ideal S32768x256 .f32) (ix2 ⟨_, h1⟩ ⟨_, h2⟩) := by
  refine Eq.trans (congrArg (V m c main_arg3) (emb_q m t r j h1 h2)) ?_
  rw [V_arg3 m c]

/-- The keys of a block. -/
theorem blk_k (c : Dev nD) (t : Fin (pipe m).N) (r : Fin 2048) (j : Fin 128)
    (h1 : t.val / 16 * 2048 + r.val < 32768) (h2 : t.val / 8 % 2 * 128 + j.val < 256) :
    (iblk m c 4 t : FVec Ideal S2048x128 .bf16) (ix2 r j) =
      (m ((c : Thread nD τ).loc main_arg4) : FVec Ideal S32768x256 .f32) (ix2 ⟨_, h1⟩ ⟨_, h2⟩) := by
  refine Eq.trans (congrArg (V m c main_v15) (emb_k m t r j h1 h2)) ?_
  rw [V_k m c]
  rfl

/-- The values of a block. -/
theorem blk_v (c : Dev nD) (t : Fin (pipe m).N) (r : Fin 2048) (j : Fin 128)
    (h1 : t.val / 16 * 2048 + r.val < 32768) (h2 : t.val / 8 % 2 * 128 + j.val < 256) :
    (iblk m c 5 t : FVec Ideal S2048x128 .bf16) (ix2 r j) =
      (m ((c : Thread nD τ).loc main_arg5) : FVec Ideal S32768x256 .f32) (ix2 ⟨_, h1⟩ ⟨_, h2⟩) := by
  refine Eq.trans (congrArg (V m c main_v16) (emb_v m t r j h1 h2)) ?_
  rw [V_v m c]
  rfl

/-- Every query, key, value and parameter of the second map's weight is a real. -/
def Finite (c : Dev nD) : Prop :=
  (∀ (a : Fin 4) (d : Fin 32), ∃ r : ℝ,
    (m ((c : Thread nD τ).loc main_arg1) : FVec Ideal S4x32 .f32) (ix2 a d) = (r : EReal)) ∧
  ∀ (i : Fin 32768) (j : Fin 256),
    (∃ r : ℝ, (m ((c : Thread nD τ).loc main_arg3) : FVec Ideal S32768x256 .f32) (ix2 i j) = (r : EReal)) ∧
    (∃ r : ℝ, (m ((c : Thread nD τ).loc main_arg4) : FVec Ideal S32768x256 .f32) (ix2 i j) = (r : EReal)) ∧
    ∃ r : ℝ, (m ((c : Thread nD τ).loc main_arg5) : FVec Ideal S32768x256 .f32) (ix2 i j) = (r : EReal)

/-- What the body stores at a point is one of its two branches'. -/
theorem outAt_cases (c : Dev nD) (t : Fin (pipe m).N) :
    outAt m c t = plain (iblk m c 0 t) (iblk m c 1 t) (iblk m c 2 t) (iblk m c 3 t) (iblk m c 4 t) (iblk m c 5 t) ∨
    outAt m c t = shifted (iblk m c 0 t) (iblk m c 1 t) (iblk m c 2 t) (iblk m c 3 t) (iblk m c 4 t) (iblk m c 5 t) := by
  unfold outAt out0_6
  split
  · exact .inl (View.canon_cons_unit_lit _ _ _ (by decide))
  · exact .inr (View.canon_cons_unit_lit _ _ _ (by decide))

/-- Either branch stores the same in a head of a row. -/
theorem either_at (O : Vec Ideal S256x128 .bf16) (x0 : Vec Ideal S4x32 .f32) (x1 : Vec Ideal S1x128 .f32)
    (x2 : Vec Ideal S128x128 .bf16) (x3 : Vec Ideal S256x128 .f32) (x4 x5 : Vec Ideal S2048x128 .bf16)
    (hO : O = plain x0 x1 x2 x3 x4 x5 ∨ O = shifted x0 x1 x2 x3 x4 x5) (i : Fin 256) (h : Nat) (hh : h < 2)
    (lam : ℝ) (hl : (k0_pay1 (F := Ideal) x0) (ix2 0 0) = (lam : EReal))
    (q : Fin 2 → Fin 32 → ℝ) (k : Fin 2 → Fin 2048 → Fin 32 → ℝ) (v : Fin 2048 → Fin 64 → ℝ)
    (hq : ∀ (t : Fin 2) (d : Fin 32) (hx : h * 64 + t.val * 32 + d.val < 128), x3 (ix2 i ⟨_, hx⟩) = (q t d : EReal))
    (hk : ∀ (t : Fin 2) (s : Fin 2048) (d : Fin 32) (hx : h * 64 + t.val * 32 + d.val < 128),
      x4 (ix2 s ⟨_, hx⟩) = (k t s d : EReal))
    (hv : ∀ (s : Fin 2048) (d : Fin 64) (hx : h * 64 + d.val < 128), x5 (ix2 s ⟨_, hx⟩) = (v s d : EReal))
    (hgm : ∀ x j : Fin 128, x2 (ix2 x j) = if x.val / 64 = j.val / 64 then ((1 / 64 : ℝ) : EReal) else 0)
    (d : Fin 64) (hx : h * 64 + d.val < 128) :
    O (ix2 i ⟨_, hx⟩) = finish (headOut lam q k v) d (x1 (ix2 0 ⟨_, hx⟩)) := by
  rcases hO with rfl | rfl
  · exact plain_at x0 x1 x2 x3 x4 x5 i h hh lam hl q k v hq hk hv hgm d hx
  · exact shifted_at x0 x1 x2 x3 x4 x5 i h hh lam hl q k v hq hk hv hgm d hx

/-- What the body stores at a point is the reference's result there. -/
theorem point (c : Dev nD) (hfin : Finite m c) (t : Fin (pipe m).N) (r : Fin 256) (h : Nat) (hh : h < 2) (d : Fin 64)
    (hx : h * 64 + d.val < 128) :
    (outAt m c t : FVec Ideal S256x128 .bf16) (ix2 r ⟨h * 64 + d.val, hx⟩) =
      goal m c ((((pipe m).win 6).blk t).view.emb (ix2 r ⟨h * 64 + d.val, hx⟩ : S256x128.Idx)) := by
  have ht : t.val < 256 := lt_of_lt_of_eq t.isLt (N_eq m)
  obtain ⟨l, hl⟩ := Cert.DaRefIdeal.Rows.lam_real _ hfin.1
  have hk0 : (k0_pay1 (F := Ideal) (iblk m c 0 t)) (ix2 0 0) = (l : EReal) := by
    rw [blk_l m c t, lam_at, ← hl, Cert.DaRefIdeal.Rows.lam_at]
  choose qf kf vf hqf hkf hvf using fun i j => (show ∃ x y z : ℝ, _ ∧ _ ∧ _ from by
    obtain ⟨⟨x, hx⟩, ⟨y, hy⟩, z, hz⟩ := hfin.2 i j
    exact ⟨x, y, z, hx, hy, hz⟩)
  have hb : t.val / 16 < 16 := by omega
  have hi : t.val % 8 * 256 + r.val < 2048 := by omega
  have hH : t.val / 8 % 2 * 2 + h < 4 := by omega
  have hrow : (⟨(t.val / 16 * 8 + t.val % 8) * 256 + r.val, by omega⟩ : Fin 32768) =
      ⟨(⟨t.val / 16, hb⟩ : Fin 16).val * 2048 + (⟨t.val % 8 * 256 + r.val, hi⟩ : Fin 2048).val, by dsimp only; omega⟩ :=
    Fin.ext (by dsimp only; omega)
  have hcol : ∀ d : Fin 64, (⟨t.val / 8 % 2 * 128 + (h * 64 + d.val), by omega⟩ : Fin 256) =
      ⟨(⟨t.val / 8 % 2 * 2 + h, hH⟩ : Fin 4).val * 64 + d.val, by dsimp only; omega⟩ :=
    fun d => Fin.ext (by dsimp only; omega)
  have hcolt : ∀ (u : Fin 2) (d : Fin 32), (⟨t.val / 8 % 2 * 128 + (h * 64 + u.val * 32 + d.val), by omega⟩ : Fin 256) =
      ⟨(⟨t.val / 8 % 2 * 2 + h, hH⟩ : Fin 4).val * 64 + u.val * 32 + d.val, by dsimp only; omega⟩ :=
    fun u d => Fin.ext (by dsimp only; omega)
  have hgoal := Cert.DaRefIdeal.Rows.result_coe (m ((c : Thread nD τ).loc main_arg1)) (m ((c : Thread nD τ).loc main_arg2))
    (m ((c : Thread nD τ).loc main_arg3)) (m ((c : Thread nD τ).loc main_arg4)) (m ((c : Thread nD τ).loc main_arg5))
    ⟨t.val / 16, hb⟩ ⟨t.val % 8 * 256 + r.val, hi⟩ ⟨t.val / 8 % 2 * 2 + h, hH⟩ l hl _ _ _
    (fun u d => hqf _ _) (fun u s d => hkf _ _) (fun s d => hvf _ _) d
  rw [emb_o m t r ⟨h * 64 + d, hx⟩ (by omega) (by dsimp only; omega), hrow, hcol d]
  refine Eq.trans ?_ hgoal.symm
  have hg : (iblk m c 1 t : FVec Ideal S1x128 .f32) (ix2 0 ⟨_, hx⟩) =
      (m ((c : Thread nD τ).loc main_arg2) : FVec Ideal S64 .f32) (ix1 d) := by
    rw [blk_g m c t]
    exact congrArg _ (congrArg ix1 (Fin.ext (by dsimp only; omega)))
  have hq : ∀ (u : Fin 2) (d : Fin 32) (hx : h * 64 + u.val * 32 + d.val < 128),
      (iblk m c 3 t : FVec Ideal S256x128 .f32) (ix2 r ⟨h * 64 + u.val * 32 + d.val, hx⟩) =
      (qf _ _ : EReal) := fun u d hx => by
    rw [blk_q m c t r _ (by omega) (by dsimp only; omega), hrow, hcolt u d]; exact hqf _ _
  have hk : ∀ (u : Fin 2) (s : Fin 2048) (d : Fin 32) (hx : h * 64 + u.val * 32 + d.val < 128),
      (iblk m c 4 t : FVec Ideal S2048x128 .bf16) (ix2 s ⟨_, hx⟩) = (kf _ _ : EReal) := fun u s d hx => by
    rw [blk_k m c t s _ (by omega) (by dsimp only; omega), hcolt u d]; exact hkf _ _
  have hv : ∀ (s : Fin 2048) (d : Fin 64) (hx : h * 64 + d.val < 128),
      (iblk m c 5 t : FVec Ideal S2048x128 .bf16) (ix2 s ⟨_, hx⟩) = (vf _ _ : EReal) := fun s d hx => by
    rw [blk_v m c t s _ (by omega) (by dsimp only; omega), hcol d]; exact hvf _ _
  exact (either_at _ _ _ _ _ _ _ (outAt_cases m c t) r h hh l hk0 _ _ _ hq hk hv (blk_a m c t) d hx).trans
    (congrArg (finish _ d) hg)

/-- A table of zeros. -/
def adm0 : (pcfg0 (F := Ideal)).Adm :=
  ⟨fun | 0 => (fun _ => 0#32 : Vec Ideal S16x2 .i32) | ⟨_ + 1, h⟩ => absurd h (Nat.not_lt.2 (Nat.le_add_left _ _)), trivial⟩

/-- The result's blocks cover its array, whatever the table. -/
theorem covers : ((pipe m).win 6).Covers :=
  show ((cfg0 adm0).win 6).Covers by decide +kernel

/-- The kernel's result array after its run is the reference's result of the same arguments. -/
theorem final_eq (c : Dev nD) (hfin : Finite m c) : final m c = goal m c := by
  have key : ∀ (t : Fin (pipe m).N) (y : S256x128.Idx), (outAt m c t : FVec Ideal S256x128 .bf16) y =
      goal m c ((((pipe m).win 6).blk t).view.emb y) := fun t y => by
    idx_vars y
    have hy : y1 = ⟨y1.val / 64 * 64 + (⟨y1.val % 64, by omega⟩ : Fin 64).val, by dsimp only; omega⟩ :=
      Fin.ext (by dsimp only; omega)
    rw [hy]
    exact point m c hfin t y0 (y1.val / 64) (by omega) _ _
  refine (dats m 0 c).arrAt_eq_of_covers 6 _ (covers m) fun t _ y => ?_
  rw [after0_6]
  exact key t y

end Cert.DaIdeal.Rows
end
-- ==== Proof.DaClaims.lean ====
module

public import proofs.«01_k».proof.Defs
public import proofs.«01_k».proof.Proof.Gen.DaRefIdeal.Run
public import proofs.«01_k».proof.Proof.DaValue
public import Idealize.ShloMosaic.Lib.Quiescent

/-! The claims about differential attention: the reference leaves its arguments unchanged and every
    counter at zero, and from finite entries the kernel's result array is the reference's. -/

@[expose] public section
set_option maxRecDepth 16384
noncomputable section
open Idealize.ShloMosaic Idealize.ShloMosaic.TcCoe Idealize.SL.Sem
namespace Cert.Proof

/-- The reference's run: the arguments unchanged, every semaphore counter back at zero. -/
theorem daRef_frame : Cert.quiescent_DaRefIdeal (hDaRefIdeal := Cert.DaRefIdeal.Gen.facts) := by
  intro m g _
  exact (θ_run _ _ _).mono (fun r h => ⟨fun c => (h c).2, sem_eq_zero_of_no_sems (by decide) r.2⟩)
    (Cert.DaRefIdeal.Value.run m g)

/-- The named factor of the scores is what its name says. -/
theorem da_preserves : Cert.preserves_Da_DaIdeal :=
  IdealRules.named_const.statement Cert.DaIdeal.κ "scale" .f32 0x3E8293EE#32 _ rfl

/-- Kernel and reference end with the same array, from memories that agree on the arguments and whose
    queries, keys, values and parameters of the second map's weight are finite. -/
theorem da_algebraic : Cert.algebraic_DaIdeal_DaRefIdeal_pre_entries_finite (hDaIdeal := Cert.DaIdeal.Gen.facts)
    (hDaRefIdeal := Cert.DaRefIdeal.Gen.facts) (hPre_entries_finite := Cert.Pre_entries_finite.Gen.facts) := by
  intro m g m' g' hpre hag
  have hfin : ∀ c, Cert.DaIdeal.Rows.Finite m c := fun c =>
    Cert.Pre_entries_finite.Rows.decode _ _ _ _ _ _ (hpre c)
  refine ⟨fun c => Cert.DaIdeal.Rows.goal m c, ?_, ?_⟩
  · exact (θ_run _ _ _).mono (fun r h c => ⟨(h.1 c).1.trans (Cert.DaIdeal.Rows.final_eq m c (hfin c)), (h.1 c).2⟩)
      (Cert.DaIdeal.Run.run_result m g)
  · refine (θ_run _ _ _).mono (fun r h c => ⟨(h c).1.trans ?_, (h c).2⟩) (Cert.DaRefIdeal.Value.run m' g')
    obtain ⟨h0, h1, h2, h3, h4, h5⟩ := hag c
    refine (Cert.DaRefIdeal.Rows.res_eq m' c).trans ?_
    rw [h1, h2, h3, h4, h5]

end Cert.Proof
end
-- ==== Proof.InRow.lean ====
module

public import proofs.«01_k».proof.Proof.FfnRow

/-! One row (one token) of the layer's input projection, over the extended reals: the normalised row through the
    projection, the Fourier transform of every head's 64 channels, the rotary embedding of the queries and keys.
    Both programs are compared with these functions of a row. -/

@[expose] public section
noncomputable section
open Idealize.ShloMosaic
namespace Cert.InRow

/-- A row through the projection's 2824 columns. -/
def proj (h : Fin 1024 → EReal) (w : Fin 1024 → Fin 2824 → EReal) (j : Fin 2824) : EReal := ∑ k, h k * w k j

/-- Every head's 64 channels through a 64 × 64 matrix. -/
def spec (a : Fin 64 → Fin 64 → EReal) (u : Fin 256 → EReal) (j : Fin 256) : EReal :=
  ∑ c : Fin 64, u ⟨j.val / 64 * 64 + c.val, by omega⟩ * a c ⟨j.val % 64, by omega⟩

/-- The cosine parts of the four heads, then the sine parts. -/
def parts (a b : Fin 64 → Fin 64 → EReal) (u : Fin 256 → EReal) (j : Fin 512) : EReal :=
  if h : j.val < 256 then spec a u ⟨j.val, h⟩ else spec b u ⟨j.val - 256, by omega⟩

/-- The rotary embedding of a row of eight vectors of 32: lane `i` of a vector is turned with lane `i + 16`. -/
def rot (c s : Fin 16 → EReal) (u : Fin 256 → EReal) (j : Fin 256) : EReal :=
  if h : j.val % 32 < 16 then
    u j * c ⟨j.val % 32, h⟩ - u ⟨j.val + 16, by omega⟩ * s ⟨j.val % 32, h⟩
  else u j * c ⟨j.val % 32 - 16, by omega⟩ + u ⟨j.val - 16, by omega⟩ * s ⟨j.val % 32 - 16, by omega⟩

/-- Eight numbers and 120 zeros. -/
def padded (u : Fin 8 → EReal) (j : Fin 128) : EReal := if h : j.val < 8 then u ⟨j.val, h⟩ else 0

/-- A table of 16 numbers and another, four times over. -/
def tab (a b : Fin 16 → EReal) (j : Fin 128) : EReal :=
  if h : j.val % 32 < 16 then a ⟨j.val % 32, h⟩ else b ⟨j.val % 32 - 16, by omega⟩

/-- The rotary embedding of half a row with whole-row operations: the row against one table, the row moved by 16
    lanes to the left against a second, the row moved by 16 lanes to the right against a third. -/
def half (u c a b : Fin 128 → EReal) (j : Fin 128) : EReal :=
  u j * c j + u ⟨(j.val + 128 - 112) % 128, by omega⟩ * a j + u ⟨(j.val + 128 - 16) % 128, by omega⟩ * b j

/-- With the second table zero on the upper lanes and the third zero on the lower ones, that is the rotary embedding. -/
theorem half_eq (u : Fin 256 → EReal) (c s : Fin 16 → EReal) (o : ℕ) (ho : o = 0 ∨ o = 128) (j : Fin 128)
    (hb : ∀ j : Fin 128, o + j.val < 256) :
    half (fun j => u ⟨o + j.val, hb j⟩) (tab c c) (tab (fun i => -s i) (fun _ => 0)) (tab (fun _ => 0) s) j
      = rot c s u ⟨o + j.val, hb j⟩ := by
  have hm : (o + j.val) % 32 = j.val % 32 := by omega
  unfold half tab rot
  by_cases h : j.val % 32 < 16
  · have h' : (o + j.val) % 32 < 16 := by omega
    simp only [dif_pos h, dif_pos h', hm, mul_zero, add_zero, mul_neg, sub_eq_add_neg]
    congr 5
    omega
  · have h' : ¬ (o + j.val) % 32 < 16 := by omega
    simp only [dif_neg h, dif_neg h', hm, mul_zero, add_zero]
    congr 4
    omega

/-- A sum over the four heads' lanes against a block-diagonal matrix is the sum over one head's lanes. -/
theorem sum_head (u : Fin 256 → EReal) (f : Fin 64 → EReal) (q : Fin 4) :
    (∑ x : Fin 256, u x * (if x.val / 64 = q.val then f ⟨x.val % 64, by omega⟩ else 0))
      = ∑ c : Fin 64, u ⟨q.val * 64 + c.val, by omega⟩ * f c := by
  rw [Fin.sum_univ_tiles 4 64 rfl, Finset.sum_eq_single q]
  · refine Finset.sum_congr rfl fun c _ => ?_
    have h1 : (q.val * 64 + c.val) / 64 = q.val := by omega
    have h2 : (q.val * 64 + c.val) % 64 = c.val := by omega
    simp only [h1, if_true, h2]
  · intro b _ hb
    refine Finset.sum_eq_zero fun c _ => ?_
    have h1 : ¬ (b.val * 64 + c.val) / 64 = q.val := fun h => hb (Fin.ext (by omega))
    simp only [h1, if_false, mul_zero]
  · intro h; exact absurd (Finset.mem_univ _) h

/-- Zero divided by eight. -/
theorem zero_div : Ideal.div 0 (Ideal.ofBits .f32 0x41000000#32) = 0 := by
  have h8 : Ideal.ofBits .f32 0x41000000#32 = ((8 : ℝ) : EReal) := by
    simp [Ideal.ofBits, Ideal.ieee, -EReal.coe_mul]; norm_num
  rw [h8, Ideal.div_coe (by norm_num : (8 : ℝ) ≠ 0), zero_mul]

/-- The four heads' lanes through a block-diagonal matrix divided by eight. -/
theorem spec_eq (u : Fin 256 → EReal) (f : Fin 64 → Fin 64 → EReal) (j : Fin 256) :
    (∑ x : Fin 256, u x * Ideal.div (if x.val / 64 = j.val / 64 then f ⟨x.val % 64, by omega⟩ ⟨j.val % 64, by omega⟩ else 0)
      (Ideal.ofBits .f32 0x41000000#32))
      = spec (fun c k => Ideal.div (f c k) (Ideal.ofBits .f32 0x41000000#32)) u j := by
  refine Eq.trans ?_ (sum_head u (fun c => Ideal.div (f c ⟨j.val % 64, by omega⟩) (Ideal.ofBits .f32 0x41000000#32)) ⟨j.val / 64, by omega⟩)
  refine Finset.sum_congr rfl fun x _ => ?_
  by_cases h : x.val / 64 = j.val / 64
  · simp only [h, if_true]
  · simp only [h, if_false, zero_div]

end Cert.InRow
end
-- ==== Proof.InRefValue.lean ====
module

public import proofs.«01_k».proof.Proof.InRow
public import proofs.«01_k».proof.Proof.Gen.InRefIdeal.Run

/-! The reference of the input projection: each of its ten results, stage by stage, and every stage at an index. -/

@[expose] public section
set_option maxRecDepth 16384
noncomputable section
open Idealize.ShloMosaic Idealize.ShloMosaic.TcCoe Idealize.SL.Sem
namespace Cert.InRefIdeal.Rows
open Cert.InRefIdeal Cert.InRefIdeal.Gen Cert.InRow
open Cert.FfnRow (rms)

/-- RMS normalisation of every row. -/
def normed (x : FVec Ideal S32768x1024 .f32) (g : FVec Ideal S1024 .f32) : FVec Ideal S32768x1024 .f32 :=
  mulf (mulf x (broadcastInDim S32768x1024 ![0, 1] bcast_S32768x1_S32768x1024_0_1 (Host.rsqrt (addf
    (Host.divf (broadcastInDim S32768x1 ![0] bcast_S32768_S32768x1_0
      (Host.reduceAdd (mulf x x) (constant S_ .f32 0x00000000#32) reducesTo_S32768x1024_S32768_d1 h_S_))
      (broadcastInDim S32768x1 ![] bcast_S_S32768x1 (constant S_ .f32 0x44800000#32)))
    (broadcastInDim S32768x1 ![] bcast_S_S32768x1 (constant S_ .f32 0x358637BD#32))))))
    (broadcastInDim S32768x1024 ![0, 1] bcast_S1x1024_S32768x1024_0_1
      (broadcastInDim S1x1024 ![1] bcast_S1024_S1x1024_1 g))

/-- The projected rows. -/
def projected (x : FVec Ideal S32768x1024 .f32) (g : FVec Ideal S1024 .f32) (w : FVec Ideal S1024x2824 .f32) :
    FVec Ideal S32768x2824 .f32 :=
  Host.dotGeneral dot_S32768x1024_S1024x2824_S32768x2824_1_0_0_1_n_n none (normed x g) w

/-- The angles of the Fourier transform of 64 channels. -/
def chanAngles : FVec Ideal S64x64 .f32 :=
  mulf (broadcastInDim S64x64 ![] bcast_S_S64x64 (constant S_ .f32 0x3DC90FDB#32)) (sitofp .f32 (Host.remsi
    (muli (broadcastInDim S64x64 ![0, 1] bcast_S64x1_S64x64_0_1 (broadcastInDim S64x1 ![0] bcast_S64_S64x1_0 (iotaInDim S64 32 0)))
      (broadcastInDim S64x64 ![0, 1] bcast_S1x64_S64x64_0_1 (broadcastInDim S1x64 ![1] bcast_S64_S1x64_1 (iotaInDim S64 32 0))))
    (broadcastInDim S64x64 ![] bcast_S_S64x64 (constantI S_ 32 64#32))))

/-- The angles of the rotary embedding, for every position and pair of lanes. -/
def posAngles : FVec Ideal S2048x16 .f32 :=
  mulf (broadcastInDim S2048x16 ![0, 1] bcast_S2048x1_S2048x16_0_1
      (broadcastInDim S2048x1 ![0] bcast_S2048_S2048x1_0 (sitofp .f32 (iotaInDim S2048 32 0))))
    (broadcastInDim S2048x16 ![0, 1] bcast_S1x16_S2048x16_0_1 (broadcastInDim S1x16 ![1] bcast_S16_S1x16_1
      (Host.powf (broadcastInDim S16 ![] bcast_S_S16 (constant S_ .f32 0x461C4000#32))
        (mulf (Host.negf (sitofp .f32 (iotaInDim S16 32 0))) (broadcastInDim S16 ![] bcast_S_S16 (constant S_ .f32 0x3D800000#32))))))

/-- Every head's channels through a matrix divided by 8. -/
def spectrum (p : FVec Ideal S32768x2824 .f32) (a : FVec Ideal S64x64 .f32) : FVec Ideal S32768x256 .f32 :=
  shapeCast S32768x256 (Host.dotGeneral dot_S32768x4x64_S64x64_S32768x4x64_2_0_01_1_n_n none
    (shapeCast S32768x4x64 (extractStridedSlice S32768x256 ![0, 0] p slices_S32768x2824_S32768x256_0_0) shapeCasts_S32768x256_S32768x4x64)
    (Host.divf a (broadcastInDim S64x64 ![] bcast_S_S64x64 (constant S_ .f32 0x41000000#32)))) shapeCasts_S32768x4x64_S32768x256

/-- The Fourier transform over the channels: real parts, then imaginary parts. -/
def channels (p : FVec Ideal S32768x2824 .f32) (a : FVec Ideal S64x64 .f32) : FVec Ideal S32768x512 .bf16 :=
  truncf .bf16 (concatenate S32768x512 1 [⟨S32768x256, spectrum p (Host.cos a)⟩, ⟨S32768x256, spectrum p (Host.sin a)⟩]
    concatenates_S32768x256_S32768x256_S32768x512_d1) bitsLt_bf16_f32

/-- The rotary embedding of rows of eight vectors. -/
def rope (u : FVec Ideal S32768x256 .f32) (a : FVec Ideal S2048x16 .f32) : FVec Ideal S16x2048x4x2x32 .f32 :=
  concatenate S16x2048x4x2x32 4
    [⟨S16x2048x4x2x16, subf
      (mulf (extractStridedSlice S16x2048x4x2x16 ![0, 0, 0, 0, 0] (shapeCast S16x2048x4x2x32 u shapeCasts_S32768x256_S16x2048x4x2x32) slices_S16x2048x4x2x32_S16x2048x4x2x16_0_0_0_0_0)
        (broadcastInDim S16x2048x4x2x16 ![0, 1, 2, 3, 4] bcast_S1x2048x1x1x16_S16x2048x4x2x16_0_1_2_3_4 (shapeCast S1x2048x1x1x16 (Host.cos a) shapeCasts_S2048x16_S1x2048x1x1x16)))
      (mulf (extractStridedSlice S16x2048x4x2x16 ![0, 0, 0, 0, 16] (shapeCast S16x2048x4x2x32 u shapeCasts_S32768x256_S16x2048x4x2x32) slices_S16x2048x4x2x32_S16x2048x4x2x16_0_0_0_0_16)
        (broadcastInDim S16x2048x4x2x16 ![0, 1, 2, 3, 4] bcast_S1x2048x1x1x16_S16x2048x4x2x16_0_1_2_3_4 (shapeCast S1x2048x1x1x16 (Host.sin a) shapeCasts_S2048x16_S1x2048x1x1x16)))⟩,
     ⟨S16x2048x4x2x16, addf
      (mulf (extractStridedSlice S16x2048x4x2x16 ![0, 0, 0, 0, 16] (shapeCast S16x2048x4x2x32 u shapeCasts_S32768x256_S16x2048x4x2x32) slices_S16x2048x4x2x32_S16x2048x4x2x16_0_0_0_0_16)
        (broadcastInDim S16x2048x4x2x16 ![0, 1, 2, 3, 4] bcast_S1x2048x1x1x16_S16x2048x4x2x16_0_1_2_3_4 (shapeCast S1x2048x1x1x16 (Host.cos a) shapeCasts_S2048x16_S1x2048x1x1x16)))
      (mulf (extractStridedSlice S16x2048x4x2x16 ![0, 0, 0, 0, 0] (shapeCast S16x2048x4x2x32 u shapeCasts_S32768x256_S16x2048x4x2x32) slices_S16x2048x4x2x32_S16x2048x4x2x16_0_0_0_0_0)
        (broadcastInDim S16x2048x4x2x16 ![0, 1, 2, 3, 4] bcast_S1x2048x1x1x16_S16x2048x4x2x16_0_1_2_3_4 (shapeCast S1x2048x1x1x16 (Host.sin a) shapeCasts_S2048x16_S1x2048x1x1x16)))⟩]
    concatenates_S16x2048x4x2x16_S16x2048x4x2x16_S16x2048x4x2x32_d4

/-- The queries, in the units the kernel uses. -/
def queries (p : FVec Ideal S32768x2824 .f32) (a : FVec Ideal S2048x16 .f32) : FVec Ideal S32768x256 .bf16 :=
  truncf .bf16 (shapeCast S32768x256 (mulf (rope (extractStridedSlice S32768x256 ![0, 256] p slices_S32768x2824_S32768x256_0_256) a)
    (broadcastInDim S16x2048x4x2x32 ![] bcast_S_S16x2048x4x2x32 (constant S_ .f32 0x3E8293EE#32))) shapeCasts_S16x2048x4x2x32_S32768x256) bitsLt_bf16_f32

/-- The keys. -/
def keys (p : FVec Ideal S32768x2824 .f32) (a : FVec Ideal S2048x16 .f32) : FVec Ideal S32768x256 .bf16 :=
  truncf .bf16 (shapeCast S32768x256 (rope (extractStridedSlice S32768x256 ![0, 512] p slices_S32768x2824_S32768x256_0_512) a)
    shapeCasts_S16x2048x4x2x32_S32768x256) bitsLt_bf16_f32

/-- The values of differential attention. -/
def values (p : FVec Ideal S32768x2824 .f32) : FVec Ideal S32768x256 .bf16 :=
  truncf .bf16 (extractStridedSlice S32768x256 ![0, 768] p slices_S32768x2824_S32768x256_0_768) bitsLt_bf16_f32

/-- The queries of neighbourhood attention. -/
def nearQ (p : FVec Ideal S32768x2824 .f32) : FVec Ideal S32768x256 .bf16 :=
  truncf .bf16 (extractStridedSlice S32768x256 ![0, 1024] p slices_S32768x2824_S32768x256_0_1024) bitsLt_bf16_f32

/-- The keys of neighbourhood attention. -/
def nearK (p : FVec Ideal S32768x2824 .f32) : FVec Ideal S32768x256 .bf16 :=
  truncf .bf16 (extractStridedSlice S32768x256 ![0, 1280] p slices_S32768x2824_S32768x256_0_1280) bitsLt_bf16_f32

/-- The values of neighbourhood attention. -/
def nearV (p : FVec Ideal S32768x2824 .f32) : FVec Ideal S32768x256 .bf16 :=
  truncf .bf16 (extractStridedSlice S32768x256 ![0, 1536] p slices_S32768x2824_S32768x256_0_1536) bitsLt_bf16_f32

/-- The gate of the state space mixer. -/
def gate (p : FVec Ideal S32768x2824 .f32) : FVec Ideal S32768x256 .bf16 :=
  truncf .bf16 (extractStridedSlice S32768x256 ![0, 1792] p slices_S32768x2824_S32768x256_0_1792) bitsLt_bf16_f32

/-- The inputs of the state space mixer. -/
def state (p : FVec Ideal S32768x2824 .f32) : FVec Ideal S32768x768 .f32 :=
  extractStridedSlice S32768x768 ![0, 2048] p slices_S32768x2824_S32768x768_0_2048

/-- The steps of the state space mixer, padded to 128 columns. -/
def steps (p : FVec Ideal S32768x2824 .f32) : FVec Ideal S32768x128 .f32 :=
  pad S32768x128 ![0, 0] ![0, 120] ![0, 0] (extractStridedSlice S32768x8 ![0, 2816] p slices_S32768x2824_S32768x8_0_2816)
    (sitofp .f32 (constantI S_ 32 0#32) : FVec Ideal S_ .f32) pads_S32768x8_S32768x128_000_01200 h_S_

/-- A normalised row. -/
theorem normed_at (x : FVec Ideal S32768x1024 .f32) (g : FVec Ideal S1024 .f32) (r : Fin 32768) (j : Fin 1024) :
    normed x g (ix2 r j) = rms (fun k => x (ix2 r k)) (fun k => g (ix1 k)) j := by
  pointwise [normed, rms]

/-- A projected row. -/
theorem projected_at (x : FVec Ideal S32768x1024 .f32) (g : FVec Ideal S1024 .f32) (w : FVec Ideal S1024x2824 .f32)
    (r : Fin 32768) (j : Fin 2824) :
    projected x g w (ix2 r j) = proj (rms (fun k => x (ix2 r k)) (fun k => g (ix1 k))) (fun k j => w (ix2 k j)) j := by
  unfold projected proj
  have h := normed_at x g r
  generalize normed x g = y at h ⊢
  simp only [← h]
  pointwise []

/-- A spectrum at an index. -/
theorem spectrum_at (p : FVec Ideal S32768x2824 .f32) (a : FVec Ideal S64x64 .f32) (r : Fin 32768) (j : Fin 256) :
    spectrum p a (ix2 r j) = spec (fun c k => Ideal.div (a (ix2 c k)) (Ideal.ofBits .f32 0x41000000#32))
      (fun j => p (ix2 r ⟨j.val, by omega⟩)) j := by
  pointwise [spectrum, spec]

/-- The Fourier transform at an index. -/
theorem channels_at (p : FVec Ideal S32768x2824 .f32) (a : FVec Ideal S64x64 .f32) (r : Fin 32768) (j : Fin 512) :
    channels p a (ix2 r j) = parts (fun c k => Ideal.div (Ideal.cos (a (ix2 c k))) (Ideal.ofBits .f32 0x41000000#32))
      (fun c k => Ideal.div (Ideal.sin (a (ix2 c k))) (Ideal.ofBits .f32 0x41000000#32))
      (fun j => p (ix2 r ⟨j.val, by omega⟩)) j := by
  have hc := fun j => spectrum_at p (Host.cos a) r j
  have hs := fun j => spectrum_at p (Host.sin a) r j
  unfold channels parts
  have e1 : (fun c k => Ideal.div (Ideal.cos (a (ix2 c k))) (Ideal.ofBits .f32 0x41000000#32))
    = (fun (c k : Fin 64) => Ideal.div ((Host.cos a : FVec Ideal S64x64 .f32) (ix2 c k)) (Ideal.ofBits .f32 0x41000000#32)) := rfl
  have e2 : (fun c k => Ideal.div (Ideal.sin (a (ix2 c k))) (Ideal.ofBits .f32 0x41000000#32))
    = (fun (c k : Fin 64) => Ideal.div ((Host.sin a : FVec Ideal S64x64 .f32) (ix2 c k)) (Ideal.ofBits .f32 0x41000000#32)) := rfl
  rw [e1, e2]
  generalize spectrum p (Host.cos a) = y at hc ⊢
  generalize spectrum p (Host.sin a) = z at hs ⊢
  simp only [← hc, ← hs]
  pointwise []

/-- The rotary embedding at an index. -/
theorem rope_at (u : FVec Ideal S32768x256 .f32) (a : FVec Ideal S2048x16 .f32) (r : Fin 32768) (j : Fin 256) :
    rope u a (ix5 ⟨r.val / 2048, by omega⟩ ⟨r.val % 2048, by omega⟩ ⟨j.val / 64, by omega⟩ ⟨j.val / 32 % 2, by omega⟩ ⟨j.val % 32, by omega⟩)
      = rot (fun i => Ideal.cos (a (ix2 ⟨r.val % 2048, by omega⟩ i))) (fun i => Ideal.sin (a (ix2 ⟨r.val % 2048, by omega⟩ i)))
        (fun j => u (ix2 r j)) j := by
  unfold rot
  split <;> rename_i h
  · pointwise [rope]
    rw [dif_pos h]
    congr 5
    omega
  · pointwise [rope]
    rw [dif_neg h]
    congr 5 <;> omega

/-- The queries at an index. -/
theorem queries_at (p : FVec Ideal S32768x2824 .f32) (a : FVec Ideal S2048x16 .f32) (r : Fin 32768) (j : Fin 256) :
    queries p a (ix2 r j) = rot (fun i => Ideal.cos (a (ix2 ⟨r.val % 2048, by omega⟩ i)))
      (fun i => Ideal.sin (a (ix2 ⟨r.val % 2048, by omega⟩ i)))
      (fun j => p (ix2 r ⟨256 + j.val, by omega⟩)) j * Ideal.ofBits .f32 0x3E8293EE#32 := by
  have h := rope_at (extractStridedSlice S32768x256 ![0, 256] p slices_S32768x2824_S32768x256_0_256) a r j
  have e : (fun j : Fin 256 => (extractStridedSlice S32768x256 ![0, 256] p slices_S32768x2824_S32768x256_0_256) (ix2 r j))
      = fun j => p (ix2 r ⟨256 + j.val, by omega⟩) := by
    funext j; pointwise []
  rw [e] at h
  rw [← h]
  unfold queries
  generalize rope _ a = y
  pointwise []

/-- The keys at an index. -/
theorem keys_at (p : FVec Ideal S32768x2824 .f32) (a : FVec Ideal S2048x16 .f32) (r : Fin 32768) (j : Fin 256) :
    keys p a (ix2 r j) = rot (fun i => Ideal.cos (a (ix2 ⟨r.val % 2048, by omega⟩ i)))
      (fun i => Ideal.sin (a (ix2 ⟨r.val % 2048, by omega⟩ i)))
      (fun j => p (ix2 r ⟨512 + j.val, by omega⟩)) j := by
  have h := rope_at (extractStridedSlice S32768x256 ![0, 512] p slices_S32768x2824_S32768x256_0_512) a r j
  have e : (fun j : Fin 256 => (extractStridedSlice S32768x256 ![0, 512] p slices_S32768x2824_S32768x256_0_512) (ix2 r j))
      = fun j => p (ix2 r ⟨512 + j.val, by omega⟩) := by
    funext j; pointwise []
  rw [e] at h
  rw [← h]
  unfold keys
  generalize rope _ a = y
  pointwise []

/-- The plain columns at an index. -/
theorem values_at (p : FVec Ideal S32768x2824 .f32) (r : Fin 32768) (j : Fin 256) :
    values p (ix2 r j) = p (ix2 r ⟨768 + j.val, by omega⟩) := by pointwise [values]
theorem nearQ_at (p : FVec Ideal S32768x2824 .f32) (r : Fin 32768) (j : Fin 256) :
    nearQ p (ix2 r j) = p (ix2 r ⟨1024 + j.val, by omega⟩) := by pointwise [nearQ]
theorem nearK_at (p : FVec Ideal S32768x2824 .f32) (r : Fin 32768) (j : Fin 256) :
    nearK p (ix2 r j) = p (ix2 r ⟨1280 + j.val, by omega⟩) := by pointwise [nearK]
theorem nearV_at (p : FVec Ideal S32768x2824 .f32) (r : Fin 32768) (j : Fin 256) :
    nearV p (ix2 r j) = p (ix2 r ⟨1536 + j.val, by omega⟩) := by pointwise [nearV]
theorem gate_at (p : FVec Ideal S32768x2824 .f32) (r : Fin 32768) (j : Fin 256) :
    gate p (ix2 r j) = p (ix2 r ⟨1792 + j.val, by omega⟩) := by pointwise [gate]
theorem state_at (p : FVec Ideal S32768x2824 .f32) (r : Fin 32768) (j : Fin 768) :
    state p (ix2 r j) = p (ix2 r ⟨2048 + j.val, by omega⟩) := by pointwise [state]

/-- The steps at an index. -/
theorem steps_at (p : FVec Ideal S32768x2824 .f32) (r : Fin 32768) (j : Fin 128) :
    steps p (ix2 r j) = padded (fun j => p (ix2 r ⟨2816 + j.val, by omega⟩)) j := by
  have h0 : (FloatOps.sitofp .f32 (0#32) : Ideal .f32) = 0 := by
    show (((0#32 : BitVec 32).toInt : ℝ) : EReal) = 0
    simp
  unfold padded
  pointwise [steps]
  rw [h0]

end Cert.InRefIdeal.Rows
end
-- ==== Proof.InHost.lean ====
module

public import proofs.«01_k».proof.Proof.InRefValue
public import proofs.«01_k».proof.Proof.Gen.InIdeal.Frame

/-! What the host operations before the launch of the input projection leave in the arrays it reads: the padded
    weights, the block-diagonal matrix of the Fourier transform, the rotary tables. The angles are the reference's. -/

@[expose] public section
set_option maxRecDepth 16384
noncomputable section
open Idealize.ShloMosaic Idealize.ShloMosaic.TcCoe Idealize.SL.Sem
namespace Cert.InIdeal.Rows
open Cert.InIdeal Cert.InIdeal.Gen Cert.InRow
open Cert.InRefIdeal.Rows (chanAngles posAngles)

/-- The weights with 120 columns of zeros. -/
def weights (w : FVec Ideal S1024x2824 .f32) : FVec Ideal S1024x2944 .bf16 :=
  truncf .bf16 (pad S1024x2944 ![0, 0] ![0, 120] ![0, 0] w (sitofp .f32 (constantI S_ 32 0#32) : FVec Ideal S_ .f32)
    pads_S1024x2824_S1024x2944_000_01200 h_S_) bitsLt_bf16_f32

/-- The gain as one row. -/
def gain (g : FVec Ideal S1024 .f32) : FVec Ideal S1x1024 .f32 := shapeCast S1x1024 g shapeCasts_S1024_S1x1024

/-- A 64 × 64 matrix on the diagonal of a matrix of 4 × 4 such blocks. -/
def blocks (a : FVec Ideal S64x64 .f32) : FVec Ideal S256x256 .f32 :=
  select (cmpi .eq
    (Host.shrui (iotaInDim S256x256 32 0) (broadcastInDim S256x256 ![] bcast_S_S256x256 (constantI S_ 32 6#32)))
    (Host.shrui (iotaInDim S256x256 32 1) (broadcastInDim S256x256 ![] bcast_S_S256x256 (constantI S_ 32 6#32))))
    (shapeCast S256x256 (broadcastInDim S4x64x4x64 ![0, 1, 2, 3] bcast_S1x64x1x64_S4x64x4x64_0_1_2_3
      (shapeCast S1x64x1x64 a shapeCasts_S64x64_S1x64x1x64)) shapeCasts_S4x64x4x64_S256x256)
    (broadcastInDim S256x256 ![] bcast_S_S256x256 (constant S_ .f32 0x00000000#32))

/-- The matrix of the Fourier transform. -/
def dft (a : FVec Ideal S64x64 .f32) : FVec Ideal S256x512 .bf16 :=
  truncf .bf16 (Host.divf (concatenate S256x512 1 [⟨S256x256, blocks (Host.cos a)⟩, ⟨S256x256, blocks (Host.sin a)⟩]
    concatenates_S256x256_S256x256_S256x512_d1) (broadcastInDim S256x512 ![] bcast_S_S256x512 (constant S_ .f32 0x41000000#32)))
    bitsLt_bf16_f32

/-- Two tables of 16 columns side by side, four times over. -/
def table (a b : FVec Ideal S2048x16 .f32) : FVec Ideal S2048x128 .f32 :=
  shapeCast S2048x128 (broadcastInDim S1x2048x4x32 ![0, 1, 2, 3] bcast_S1x2048x1x32_S1x2048x4x32_0_1_2_3
    (shapeCast S1x2048x1x32 (concatenate S2048x32 1 [⟨S2048x16, a⟩, ⟨S2048x16, b⟩] concatenates_S2048x16_S2048x16_S2048x32_d1)
      shapeCasts_S2048x32_S1x2048x1x32)) shapeCasts_S1x2048x4x32_S2048x128

/-- The table of zeros. -/
def zeros : FVec Ideal S2048x16 .f32 := broadcastInDim S2048x16 ![] bcast_S_S2048x16 (constant S_ .f32 0x00000000#32)

/-- The padded weights at an index. -/
theorem weights_at (w : FVec Ideal S1024x2824 .f32) (k : Fin 1024) (j : Fin 2944) :
    weights w (ix2 k j) = if h : j.val < 2824 then w (ix2 k ⟨j.val, h⟩) else 0 := by
  have h0 : (FloatOps.sitofp .f32 (0#32) : Ideal .f32) = 0 := by
    show (((0#32 : BitVec 32).toInt : ℝ) : EReal) = 0
    simp
  pointwise [weights]
  rw [h0]

/-- The gain at an index. -/
theorem gain_at (g : FVec Ideal S1024 .f32) (k : Fin 1024) : gain g (ix2 0 k) = g (ix1 k) := by
  pointwise [gain]

/-- A lane's head, by a shift. -/
theorem shr_six (x : Fin 256) : IntOp.shrui .host (BitVec.ofNat 32 x) 6#32 = BitVec.ofNat 32 (x / 64) :=
  (by decide +kernel : ∀ x : Fin 256, IntOp.shrui .host (BitVec.ofNat 32 x) 6#32 = BitVec.ofNat 32 (x / 64)) x

/-- Two lanes' heads compared. -/
theorem same_head (x j : Fin 256) :
    IntOp.cmpi .eq (BitVec.ofNat 32 (x.val / 64)) (BitVec.ofNat 32 (j.val / 64)) = if x.val / 64 = j.val / 64 then 1#1 else 0#1 := by
  have h : ∀ a b : Fin 4, IntOp.cmpi .eq (BitVec.ofNat 32 a.val) (BitVec.ofNat 32 b.val) = if a.val = b.val then 1#1 else 0#1 := by decide
  exact h ⟨x.val / 64, by omega⟩ ⟨j.val / 64, by omega⟩

/-- The block-diagonal matrix at an index. -/
theorem blocks_at (a : FVec Ideal S64x64 .f32) (x j : Fin 256) :
    blocks a (ix2 x j) = if x.val / 64 = j.val / 64 then a (ix2 ⟨x.val % 64, by omega⟩ ⟨j.val % 64, by omega⟩) else 0 := by
  pointwise [blocks]
  rw [shr_six, shr_six, same_head]
  by_cases h : x.val / 64 = j.val / 64
  · rw [if_pos h, if_pos h]
    rfl
  · rw [if_neg h, if_neg h]
    rfl

/-- The Fourier transform's matrix at an index. -/
theorem dft_at (a : FVec Ideal S64x64 .f32) (x : Fin 256) (j : Fin 512) :
    dft a (ix2 x j) = if h : j.val < 256 then
        Ideal.div (blocks (Host.cos a) (ix2 x ⟨j.val, h⟩)) (Ideal.ofBits .f32 0x41000000#32)
      else Ideal.div (blocks (Host.sin a) (ix2 x ⟨j.val - 256, by omega⟩)) (Ideal.ofBits .f32 0x41000000#32) := by
  unfold dft
  generalize blocks (Host.cos a) = y
  generalize blocks (Host.sin a) = z
  pointwise []
  split <;> rfl

/-- A rotary table at an index. -/
theorem table_at (a b : FVec Ideal S2048x16 .f32) (s : Fin 2048) (j : Fin 128) :
    table a b (ix2 s j) = if h : j.val % 32 < 16 then a (ix2 s ⟨j.val % 32, h⟩)
      else b (ix2 s ⟨j.val % 32 - 16, by omega⟩) := by
  pointwise [table]

theorem zeros_at (s : Fin 2048) (i : Fin 16) : zeros (ix2 s i) = 0 := by
  pointwise [zeros]

variable (m : (ℓ : Loc nD τ sig) → Buf (Elt Ideal) ℓ)

set_option maxHeartbeats 1600000 in
/-- The tokens as the launch finds them. -/
theorem V_x (c : Dev nD) : V m c main_arg0 = m ((c : Thread nD τ).loc main_arg0) := rfl
set_option maxHeartbeats 1600000 in
/-- The weights as the launch finds them. -/
theorem V_w (c : Dev nD) : V m c main_v9 = weights (m ((c : Thread nD τ).loc main_arg2)) := rfl
set_option maxHeartbeats 1600000 in
/-- The gain as the launch finds it. -/
theorem V_g (c : Dev nD) : V m c main_v10 = gain (m ((c : Thread nD τ).loc main_arg1)) := rfl
set_option maxHeartbeats 1600000 in
/-- The Fourier transform's matrix as the launch finds it. -/
theorem V_dft (c : Dev nD) : V m c main_v42 = dft chanAngles := rfl
set_option maxHeartbeats 1600000 in
/-- The cosines as the launch finds them. -/
theorem V_cos (c : Dev nD) : V m c main_v61 = table (Host.cos posAngles) (Host.cos posAngles) := rfl
set_option maxHeartbeats 1600000 in
/-- The sines against the upper lanes as the launch finds them. -/
theorem V_up (c : Dev nD) : V m c main_v66 = table (Host.negf (Host.sin posAngles)) zeros := rfl
set_option maxHeartbeats 1600000 in
/-- The sines against the lower lanes as the launch finds them. -/
theorem V_down (c : Dev nD) : V m c main_v70 = table zeros (Host.sin posAngles) := rfl

end Cert.InIdeal.Rows
end
-- ==== Proof.InBlock.lean ====
module

public import proofs.«01_k».proof.Proof.InHost
public import Idealize.ShloMosaic.Lib.Pipeline.ValueKit
public import Idealize.ShloMosaic.Lib.Claim

/-! The kernel of the input projection: what the body computes from its blocks, and which parts of the arrays the
    blocks are. A grid point works on 512 rows. -/

@[expose] public section
set_option maxRecDepth 16384
noncomputable section
open Idealize.ShloMosaic Idealize.ShloMosaic.TcCoe Idealize.SL.Sem
open Idealize.ShloMosaic.Pipeline (Dat)
namespace Cert.InIdeal.Rows
open Cert.InIdeal Cert.InIdeal.Gen Cert.InRow
open Cert.FfnRow (rms)
open Cert.InRefIdeal.Rows (chanAngles posAngles)

/-- The normalised row. -/
theorem pay2_at (x : FVec Ideal S512x1024 .f32) (g : FVec Ideal S1x1024 .f32) (i : Fin 512) (j : Fin 1024) :
    k0_pay2 (F := Ideal) x g (ix2 i j) = rms (fun k => x (ix2 i k)) (fun k => g (ix2 0 k)) j := by
  pointwise [k0_pay2, rms]

/-- The first projection and its Fourier transform. -/
theorem pay3_at (x : FVec Ideal S512x1024 .f32) (g : FVec Ideal S1x1024 .f32) (w : FVec Ideal S1024x256 .bf16)
    (a : FVec Ideal S256x512 .bf16) (i : Fin 512) (j : Fin 512) :
    k0_pay3 (F := Ideal) x g w a (ix2 i j)
      = ∑ c : Fin 256, (∑ k : Fin 1024, k0_pay2 (F := Ideal) x g (ix2 i k) * w (ix2 k c)) * a (ix2 c j) := by
  unfold k0_pay3
  generalize k0_pay2 (F := Ideal) x g = y
  pointwise []

section turns
variable (y : FVec Ideal S512x1024 .bf16) (c a b : FVec Ideal S512x128 .f32) (w : FVec Ideal S1024x128 .bf16)
  (i : Fin 512) (j : Fin 128)

/-- Half a row of queries. -/
theorem pay8_at : k0_pay8 (F := Ideal) y (k0_pay4 c) (k0_pay5 a) (k0_pay6 b) w (ix2 i j)
    = half (fun j => ∑ k : Fin 1024, y (ix2 i k) * w (ix2 k j)) (fun j => c (ix2 i j)) (fun j => a (ix2 i j))
        (fun j => b (ix2 i j)) j * Ideal.ofBits .f32 0x3E8293EE#32 := by
  pointwise [k0_pay8, k0_pay4, k0_pay5, k0_pay6, half]

/-- The other half. -/
theorem pay13_at : k0_pay13 (F := Ideal) y (k0_pay4 c) (k0_pay5 a) (k0_pay6 b) w (ix2 i j)
    = half (fun j => ∑ k : Fin 1024, y (ix2 i k) * w (ix2 k j)) (fun j => c (ix2 i j)) (fun j => a (ix2 i j))
        (fun j => b (ix2 i j)) j * Ideal.ofBits .f32 0x3E8293EE#32 := by
  pointwise [k0_pay13, k0_pay4, k0_pay5, k0_pay6, half]

/-- Half a row of keys. -/
theorem pay9_at : k0_pay9 (F := Ideal) y (k0_pay4 c) (k0_pay5 a) (k0_pay6 b) w (ix2 i j)
    = half (fun j => ∑ k : Fin 1024, y (ix2 i k) * w (ix2 k j)) (fun j => c (ix2 i j)) (fun j => a (ix2 i j))
        (fun j => b (ix2 i j)) j := by
  pointwise [k0_pay9, k0_pay4, k0_pay5, k0_pay6, half]

/-- The other half. -/
theorem pay17_at : k0_pay17 (F := Ideal) (k0_pay15 y (k0_pay4 c) (k0_pay5 a) w) (k0_pay16 y (k0_pay6 b) w) (ix2 i j)
    = half (fun j => ∑ k : Fin 1024, y (ix2 i k) * w (ix2 k j)) (fun j => c (ix2 i j)) (fun j => a (ix2 i j))
        (fun j => b (ix2 i j)) j := by
  pointwise [k0_pay17, k0_pay16, k0_pay15, k0_pay14, k0_pay4, k0_pay5, k0_pay6, half]
end turns

section plain
variable (y : FVec Ideal S512x1024 .bf16) (w : FVec Ideal S1024x256 .bf16) (i : Fin 512) (j : Fin 256)

/-- The plain projections. -/
theorem pay21_at : k0_pay21 (F := Ideal) (k0_pay20 y w) (ix2 i j) = ∑ k : Fin 1024, y (ix2 i k) * w (ix2 k j) := by
  pointwise [k0_pay21, k0_pay20]
theorem pay22_at : k0_pay22 (F := Ideal) y w (ix2 i j) = ∑ k : Fin 1024, y (ix2 i k) * w (ix2 k j) := by
  pointwise [k0_pay22]
theorem pay23_at : k0_pay23 (F := Ideal) y w (ix2 i j) = ∑ k : Fin 1024, y (ix2 i k) * w (ix2 k j) := by
  pointwise [k0_pay23]
theorem pay24_at : k0_pay24 (F := Ideal) y w (ix2 i j) = ∑ k : Fin 1024, y (ix2 i k) * w (ix2 k j) := by
  pointwise [k0_pay24]
theorem pay25_at : k0_pay25 (F := Ideal) y w (ix2 i j) = ∑ k : Fin 1024, y (ix2 i k) * w (ix2 k j) := by
  pointwise [k0_pay25]
end plain

theorem pay26_at (y : FVec Ideal S512x1024 .bf16) (w : FVec Ideal S1024x768 .bf16) (i : Fin 512) (j : Fin 768) :
    k0_pay26 (F := Ideal) y w (ix2 i j) = ∑ k : Fin 1024, y (ix2 i k) * w (ix2 k j) := by
  pointwise [k0_pay26]
theorem pay1_at (y : FVec Ideal S512x1024 .bf16) (w : FVec Ideal S1024x128 .bf16) (i : Fin 512) (j : Fin 128) :
    k0_pay1 (F := Ideal) y w (ix2 i j) = ∑ k : Fin 1024, y (ix2 i k) * w (ix2 k j) := by
  pointwise [k0_pay1]

/-- Which block of its array every window takes at a grid point. -/
theorem idx : ∀ t : Fin cfg0.N,
    win0_0.index t = ![t.val, 0] ∧ win0_1.index t = ![0, 0] ∧ win0_2.index t = ![0, 0] ∧ win0_3.index t = ![0, 0]
    ∧ win0_5.index t = ![t.val % 4, 0] ∧ win0_6.index t = ![t.val % 4, 0] ∧ win0_7.index t = ![t.val % 4, 0]
    ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0]
    ∧ win0_14.index t = ![t.val, 0] ∧ win0_15.index t = ![t.val, 0] ∧ win0_16.index t = ![t.val, 0]
    ∧ win0_17.index t = ![t.val, 0] :=
  (by decide +kernel : ∀ t : Fin grid0.N, _)

/-- A row of a block is a row of the array. -/
theorem row_lt (t : Fin cfg0.N) (i : Fin 512) : t.val * 512 + i.val < 32768 := by
  have := t.isLt; have : cfg0.N = 64 := by decide +kernel
  omega

variable (m : (ℓ : Loc nD τ sig) → Buf (Elt Ideal) ℓ)

/-- The tokens. -/
abbrev xs (c : Dev nD) : FVec Ideal Cert.InRefIdeal.S32768x1024 .f32 := m ((c : Thread nD τ).loc main_arg0)
/-- The gain of the norm. -/
abbrev gs (c : Dev nD) : FVec Ideal Cert.InRefIdeal.S1024 .f32 := m ((c : Thread nD τ).loc main_arg1)
/-- The weights of the projection. -/
abbrev ws (c : Dev nD) : FVec Ideal Cert.InRefIdeal.S1024x2824 .f32 := m ((c : Thread nD τ).loc main_arg2)
/-- The reference's projected rows over the kernel's arguments. -/
def rows (c : Dev nD) : FVec Ideal Cert.InRefIdeal.S32768x2824 .f32 := Cert.InRefIdeal.Rows.projected (xs m c) (gs m c) (ws m c)

variable (c : Dev nD) (t : Fin cfg0.N)

set_option maxHeartbeats 1600000 in
theorem blk_x (i : Fin 512) (k : Fin 1024) :
    (iblk m c 0 t : FVec Ideal S512x1024 .f32) (ix2 i k) = xs m c (ix2 ⟨t.val * 512 + i.val, row_lt t i⟩ k) := by
  have e : ((cfg0.win 0).blk t).view.emb (ix2 i k : S512x1024.Idx) = (ix2 (⟨t.val * 512 + i.val, row_lt t i⟩ : Fin 32768) k : S32768x1024.Idx) := by
    blk_ext [idx t]
  refine Eq.trans (congrArg (V m c main_arg0) e) ?_
  rw [V_x m c]

theorem blk_g (k : Fin 1024) : (iblk m c 1 t : FVec Ideal S1x1024 .f32) (ix2 0 k) = gs m c (ix1 k) := by
  have e : ((cfg0.win 1).blk t).view.emb (ix2 0 k : S1x1024.Idx) = (ix2 0 k : S1x1024.Idx) := by
    blk_ext [idx t]
  refine Eq.trans (congrArg (V m c main_v10) e) ?_
  rw [V_g m c]
  exact gain_at _ k

theorem blk_w (k : Fin 1024) (j : Fin 2944) :
    (iblk m c 2 t : FVec Ideal S1024x2944 .bf16) (ix2 k j) = if h : j.val < 2824 then ws m c (ix2 k ⟨j.val, h⟩) else 0 := by
  have e : ((cfg0.win 2).blk t).view.emb (ix2 k j : S1024x2944.Idx) = (ix2 k j : S1024x2944.Idx) := by
    blk_ext [idx t]
  refine Eq.trans (congrArg (V m c main_v9) e) ?_
  rw [V_w m c]
  exact weights_at _ k j

theorem blk_d (x : Fin 256) (j : Fin 512) :
    (iblk m c 3 t : FVec Ideal S256x512 .bf16) (ix2 x j) = dft chanAngles (ix2 x j) := by
  have e : ((cfg0.win 3).blk t).view.emb (ix2 x j : S256x512.Idx) = (ix2 x j : S256x512.Idx) := by
    blk_ext [idx t]
  refine Eq.trans (congrArg (V m c main_v42) e) ?_
  rw [V_dft m c]

/-- The position of a row in its sequence. -/
abbrev pos (i : Fin 512) : Fin 2048 := ⟨(t.val * 512 + i.val) % 2048, by omega⟩

set_option maxHeartbeats 1600000 in
theorem blk_c (i : Fin 512) (j : Fin 128) : (iblk m c 5 t : FVec Ideal S512x128 .f32) (ix2 i j)
    = tab (fun l => Ideal.cos (posAngles (ix2 (pos t i) l))) (fun l => Ideal.cos (posAngles (ix2 (pos t i) l))) j := by
  have e : ((cfg0.win 5).blk t).view.emb (ix2 i j : S512x128.Idx) = (ix2 (pos t i) j : S2048x128.Idx) := by
    blk_ext [idx t]
  refine Eq.trans (congrArg (V m c main_v61) e) ?_
  rw [V_cos m c]
  exact table_at _ _ _ j

set_option maxHeartbeats 1600000 in
theorem blk_a (i : Fin 512) (j : Fin 128) : (iblk m c 6 t : FVec Ideal S512x128 .f32) (ix2 i j)
    = tab (fun l => -Ideal.sin (posAngles (ix2 (pos t i) l))) (fun _ => 0) j := by
  have e : ((cfg0.win 6).blk t).view.emb (ix2 i j : S512x128.Idx) = (ix2 (pos t i) j : S2048x128.Idx) := by
    blk_ext [idx t]
  refine Eq.trans (congrArg (V m c main_v66) e) ?_
  rw [V_up m c]
  refine (table_at _ _ _ j).trans ?_
  unfold tab
  simp only [zeros_at]
  rfl

set_option maxHeartbeats 1600000 in
theorem blk_b (i : Fin 512) (j : Fin 128) : (iblk m c 7 t : FVec Ideal S512x128 .f32) (ix2 i j)
    = tab (fun _ => 0) (fun l => Ideal.sin (posAngles (ix2 (pos t i) l))) j := by
  have e : ((cfg0.win 7).blk t).view.emb (ix2 i j : S512x128.Idx) = (ix2 (pos t i) j : S2048x128.Idx) := by
    blk_ext [idx t]
  refine Eq.trans (congrArg (V m c main_v70) e) ?_
  rw [V_down m c]
  refine (table_at _ _ _ j).trans ?_
  unfold tab
  simp only [zeros_at]
  rfl

/-- A normalised row of a block is a row of the reference's. -/
theorem blk_h (i : Fin 512) (k : Fin 1024) :
    k0_pay2 (F := Ideal) (iblk m c 0 t) (iblk m c 1 t) (ix2 i k)
      = rms (fun k => xs m c (ix2 ⟨t.val * 512 + i.val, row_lt t i⟩ k)) (fun k => gs m c (ix1 k)) k := by
  refine (pay2_at _ _ i k).trans ?_
  congr 1
  · funext k; exact blk_x m c t i k
  · funext k; exact blk_g m c t k

/-- A column of the projection, from the blocks. -/
theorem column (i : Fin 512) (j : Fin 2824) (hj : j.val < 2944) :
    (∑ k : Fin 1024, k0_pay2 (F := Ideal) (iblk m c 0 t) (iblk m c 1 t) (ix2 i k)
        * (iblk m c 2 t : FVec Ideal S1024x2944 .bf16) (ix2 k ⟨j.val, hj⟩))
      = rows m c (ix2 ⟨t.val * 512 + i.val, row_lt t i⟩ j) := by
  refine Eq.trans ?_ (Cert.InRefIdeal.Rows.projected_at _ _ _ _ j).symm
  unfold proj
  refine Finset.sum_congr rfl fun k _ => ?_
  rw [blk_h m c t i k, blk_w m c t k, dif_pos j.isLt]

/-- A column past the weights is zero. -/
theorem column_past (i : Fin 512) (j : Fin 2944) (hj : ¬ j.val < 2824) :
    (∑ k : Fin 1024, k0_pay2 (F := Ideal) (iblk m c 0 t) (iblk m c 1 t) (ix2 i k)
        * (iblk m c 2 t : FVec Ideal S1024x2944 .bf16) (ix2 k j)) = 0 := by
  refine Finset.sum_eq_zero fun k _ => ?_
  rw [blk_w m c t k, dif_neg hj, mul_zero]

end Cert.InIdeal.Rows
end
-- ==== Proof.InValue.lean ====
module

public import proofs.«01_k».proof.Proof.InBlock
public import Idealize.ShloMosaic.Lib.Pipeline.ValueKit
public import Idealize.ShloMosaic.Lib.Claim

/-! The result arrays of the input projection's kernel are the reference's: the Fourier transform, the queries and
    keys with their rotary embedding, and the plain columns. -/

@[expose] public section
set_option maxRecDepth 16384
noncomputable section
open Idealize.ShloMosaic Idealize.ShloMosaic.TcCoe Idealize.SL.Sem
open Idealize.ShloMosaic.Pipeline (Dat)
namespace Cert.InIdeal.Rows
open Cert.InIdeal Cert.InIdeal.Gen Cert.InRow
open Cert.FfnRow (rms)
open Cert.InRefIdeal.Rows (chanAngles posAngles)

variable (m : (ℓ : Loc nD τ sig) → Buf (Elt Ideal) ℓ) (c : Dev nD)

/-- The Fourier transform of a block's channels. -/
theorem fourier_at (t : Fin cfg0.N) (w : FVec Ideal S1024x256 .bf16)
    (hw : ∀ (k : Fin 1024) (j : Fin 256), w (ix2 k j) = (iblk m c 2 t : FVec Ideal S1024x2944 .bf16) (ix2 k ⟨j.val, by omega⟩))
    (i : Fin 512) (j : Fin 512) :
    k0_pay3 (F := Ideal) (iblk m c 0 t) (iblk m c 1 t) w (iblk m c 3 t) (ix2 i j)
      = Cert.InRefIdeal.Rows.channels (rows m c) chanAngles (ix2 ⟨t.val * 512 + i.val, row_lt t i⟩ j) := by
  refine (pay3_at _ _ _ _ i j).trans (Eq.trans ?_ (Cert.InRefIdeal.Rows.channels_at _ _ _ j).symm)
  have hp : ∀ x : Fin 256, (∑ k : Fin 1024, k0_pay2 (F := Ideal) (iblk m c 0 t) (iblk m c 1 t) (ix2 i k) * w (ix2 k x))
      = rows m c (ix2 ⟨t.val * 512 + i.val, row_lt t i⟩ ⟨x.val, by omega⟩) := fun x =>
    (Finset.sum_congr rfl fun k _ => by rw [hw k x]).trans (column m c t i ⟨x.val, by omega⟩ _)
  unfold parts
  by_cases h : j.val < 256
  · rw [dif_pos h]
    refine Eq.trans (Finset.sum_congr rfl fun x _ => ?_) (spec_eq _ (fun c k => Ideal.cos (chanAngles (ix2 c k))) ⟨j.val, h⟩)
    rw [hp x, blk_d m c t x j, dft_at, dif_pos h, blocks_at]
    rfl
  · rw [dif_neg h]
    refine Eq.trans (Finset.sum_congr rfl fun x _ => ?_) (spec_eq _ (fun c k => Ideal.sin (chanAngles (ix2 c k))) ⟨j.val - 256, by omega⟩)
    rw [hp x, blk_d m c t x j, dft_at, dif_neg h, blocks_at]
    rfl

/-- Half a row of the rotary embedding, from the blocks. -/
theorem turned (t : Fin cfg0.N) (i : Fin 512) (n o : ℕ) (ho : o = 0 ∨ o = 128) (hn : n = 256 ∨ n = 512)
    (w : FVec Ideal S1024x128 .bf16) (hb : ∀ j : Fin 128, o + j.val < 256) (hb' : ∀ j : Fin 256, n + j.val < 2824)
    (hw : ∀ (k : Fin 1024) (j : Fin 128) (h : n + (o + j.val) < 2944),
      w (ix2 k j) = (iblk m c 2 t : FVec Ideal S1024x2944 .bf16) (ix2 k ⟨n + (o + j.val), h⟩)) (j : Fin 128) :
    half (fun j => ∑ k : Fin 1024, k0_pay2 (F := Ideal) (iblk m c 0 t) (iblk m c 1 t) (ix2 i k) * w (ix2 k j))
        (fun j => (iblk m c 5 t : FVec Ideal S512x128 .f32) (ix2 i j)) (fun j => (iblk m c 6 t : FVec Ideal S512x128 .f32) (ix2 i j))
        (fun j => (iblk m c 7 t : FVec Ideal S512x128 .f32) (ix2 i j)) j
      = rot (fun l => Ideal.cos (posAngles (ix2 (pos t i) l))) (fun l => Ideal.sin (posAngles (ix2 (pos t i) l)))
          (fun j => rows m c (ix2 ⟨t.val * 512 + i.val, row_lt t i⟩ ⟨n + j.val, hb' j⟩)) ⟨o + j.val, hb j⟩ := by
  have e0 : (fun j : Fin 128 => ∑ k : Fin 1024, k0_pay2 (F := Ideal) (iblk m c 0 t) (iblk m c 1 t) (ix2 i k) * w (ix2 k j))
      = fun j => rows m c (ix2 ⟨t.val * 512 + i.val, row_lt t i⟩ ⟨n + (o + j.val), hb' ⟨o + j.val, hb j⟩⟩) := by
    funext j
    have hlt := hb' ⟨o + j.val, hb j⟩
    have hlt' : n + (o + j.val) < 2824 := hlt
    exact (Finset.sum_congr rfl fun k _ => by rw [hw k j (by omega)]).trans (column m c t i ⟨n + (o + j.val), hlt⟩ _)
  rw [e0, funext fun j => blk_c m c t i j, funext fun j => blk_a m c t i j, funext fun j => blk_b m c t i j]
  exact half_eq (fun j => rows m c (ix2 ⟨t.val * 512 + i.val, row_lt t i⟩ ⟨n + j.val, hb' j⟩)) _ _ o ho j hb

/-- The Fourier transform is the reference's. -/
theorem final8 : (dats m 0 c).arrAt 8 (cfgs 0).N = Cert.InRefIdeal.Rows.channels (rows m c) chanAngles := by
  refine (dats m 0 c).arrAt_eq_of_covers 8 _ (by decide +kernel) fun t _ y => ?_
  blk_simp
  rw [after0_8]; unfold outsAt0; frame_out
  idx_vars y
  have e : ((cfg0.win 8).blk t).view.emb (ix2 y0 y1 : S512x512.Idx) = (ix2 (⟨t.val * 512 + y0.val, row_lt t y0⟩ : Fin 32768) y1 : S32768x512.Idx) := by
    blk_ext [idx t]
  refine Eq.trans ?_ (congrArg (Cert.InRefIdeal.Rows.channels (rows m c) chanAngles) e).symm
  refine fourier_at m c t _ (fun k j => ?_) y0 y1
  pointwise []

set_option maxHeartbeats 1600000 in
/-- The queries are the reference's. -/
theorem final9 : (dats m 0 c).arrAt 9 (cfgs 0).N = Cert.InRefIdeal.Rows.queries (rows m c) posAngles := by
  refine (dats m 0 c).arrAt_eq_of_covers 9 _ (by decide +kernel) fun t _ y => ?_
  blk_simp
  rw [after0_9]; frame_out
  canon_tiles x h
  all_goals (idx_vars x)
  · have e : ((cfg0.win 9).blk t).view.emb y = (ix2 (⟨t.val * 512 + x0.val, row_lt t x0⟩ : Fin 32768) (⟨128 + x1.val, by omega⟩ : Fin 256) : S32768x256.Idx) := by
      blk_ext [idx t, h0, h1]
    refine Eq.trans ?_ (congrArg (Cert.InRefIdeal.Rows.queries (rows m c) posAngles) e).symm
    refine (pay13_at _ _ _ _ _ x0 x1).trans (Eq.trans ?_ (Cert.InRefIdeal.Rows.queries_at _ _ _ _).symm)
    refine congrArg (· * Ideal.ofBits .f32 0x3E8293EE#32) (turned m c t x0 256 128 (by omega) (by omega) _ (fun j => by omega) (fun j => by omega) (fun k j hlt => ?_) x1)
    pointwise []
    exact congrArg (fun z => (iblk m c 2 t : FVec Ideal S1024x2944 .bf16) (ix2 k z)) (Fin.ext (show 384 + j.val = 256 + (128 + j.val) by omega))
  · have e : ((cfg0.win 9).blk t).view.emb y = (ix2 (⟨t.val * 512 + x0.val, row_lt t x0⟩ : Fin 32768) (⟨0 + x1.val, by omega⟩ : Fin 256) : S32768x256.Idx) := by
      blk_ext [idx t, h0, h1]
    refine Eq.trans ?_ (congrArg (Cert.InRefIdeal.Rows.queries (rows m c) posAngles) e).symm
    refine (pay8_at _ _ _ _ _ x0 x1).trans (Eq.trans ?_ (Cert.InRefIdeal.Rows.queries_at _ _ _ _).symm)
    refine congrArg (· * Ideal.ofBits .f32 0x3E8293EE#32) (turned m c t x0 256 0 (by omega) (by omega) _ (fun j => by omega) (fun j => by omega) (fun k j hlt => ?_) x1)
    pointwise []

set_option maxHeartbeats 1600000 in
/-- The keys are the reference's. -/
theorem final10 : (dats m 0 c).arrAt 10 (cfgs 0).N = Cert.InRefIdeal.Rows.keys (rows m c) posAngles := by
  refine (dats m 0 c).arrAt_eq_of_covers 10 _ (by decide +kernel) fun t _ y => ?_
  blk_simp
  rw [after0_10]; frame_out
  canon_tiles x h
  all_goals (idx_vars x)
  · have e : ((cfg0.win 10).blk t).view.emb y = (ix2 (⟨t.val * 512 + x0.val, row_lt t x0⟩ : Fin 32768) (⟨128 + x1.val, by omega⟩ : Fin 256) : S32768x256.Idx) := by
      blk_ext [idx t, h0, h1]
    refine Eq.trans ?_ (congrArg (Cert.InRefIdeal.Rows.keys (rows m c) posAngles) e).symm
    refine (pay17_at _ _ _ _ _ x0 x1).trans (Eq.trans ?_ (Cert.InRefIdeal.Rows.keys_at _ _ _ _).symm)
    refine turned m c t x0 512 128 (by omega) (by omega) _ (fun j => by omega) (fun j => by omega) (fun k j hlt => ?_) x1
    pointwise []
    exact congrArg (fun z => (iblk m c 2 t : FVec Ideal S1024x2944 .bf16) (ix2 k z)) (Fin.ext (show 640 + j.val = 512 + (128 + j.val) by omega))
  · have e : ((cfg0.win 10).blk t).view.emb y = (ix2 (⟨t.val * 512 + x0.val, row_lt t x0⟩ : Fin 32768) (⟨0 + x1.val, by omega⟩ : Fin 256) : S32768x256.Idx) := by
      blk_ext [idx t, h0, h1]
    refine Eq.trans ?_ (congrArg (Cert.InRefIdeal.Rows.keys (rows m c) posAngles) e).symm
    refine (pay9_at _ _ _ _ _ x0 x1).trans (Eq.trans ?_ (Cert.InRefIdeal.Rows.keys_at _ _ _ _).symm)
    refine turned m c t x0 512 0 (by omega) (by omega) _ (fun j => by omega) (fun j => by omega) (fun k j hlt => ?_) x1
    pointwise []

/-- The values are the reference's. -/
theorem final11 : (dats m 0 c).arrAt 11 (cfgs 0).N = Cert.InRefIdeal.Rows.values (rows m c) := by
  refine (dats m 0 c).arrAt_eq_of_covers 11 _ (by decide +kernel) fun t _ y => ?_
  blk_simp
  rw [after0_11]; frame_out
  idx_vars y
  have e : ((cfg0.win 11).blk t).view.emb (ix2 y0 y1 : S512x256.Idx) = (ix2 (⟨t.val * 512 + y0.val, row_lt t y0⟩ : Fin 32768) y1 : S32768x256.Idx) := by
    blk_ext [idx t]
  refine Eq.trans ?_ (congrArg (Cert.InRefIdeal.Rows.values (rows m c)) e).symm
  refine (pay21_at _ _ y0 y1).trans (Eq.trans ?_ (Cert.InRefIdeal.Rows.values_at _ _ y1).symm)
  refine Eq.trans (Finset.sum_congr rfl fun k _ => ?_) (column m c t y0 ⟨768 + y1.val, by omega⟩ (by show 768 + y1.val < 2944; omega))
  refine congrArg (k0_pay2 (F := Ideal) (iblk m c 0 t) (iblk m c 1 t) (ix2 y0 k) * ·) ?_
  pointwise []

/-- The queries of neighbourhood attention are the reference's. -/
theorem final12 : (dats m 0 c).arrAt 12 (cfgs 0).N = Cert.InRefIdeal.Rows.nearQ (rows m c) := by
  refine (dats m 0 c).arrAt_eq_of_covers 12 _ (by decide +kernel) fun t _ y => ?_
  blk_simp
  rw [after0_12]; frame_out
  idx_vars y
  have e : ((cfg0.win 12).blk t).view.emb (ix2 y0 y1 : S512x256.Idx) = (ix2 (⟨t.val * 512 + y0.val, row_lt t y0⟩ : Fin 32768) y1 : S32768x256.Idx) := by
    blk_ext [idx t]
  refine Eq.trans ?_ (congrArg (Cert.InRefIdeal.Rows.nearQ (rows m c)) e).symm
  refine (pay22_at _ _ y0 y1).trans (Eq.trans ?_ (Cert.InRefIdeal.Rows.nearQ_at _ _ y1).symm)
  refine Eq.trans (Finset.sum_congr rfl fun k _ => ?_) (column m c t y0 ⟨1024 + y1.val, by omega⟩ (by show 1024 + y1.val < 2944; omega))
  refine congrArg (k0_pay2 (F := Ideal) (iblk m c 0 t) (iblk m c 1 t) (ix2 y0 k) * ·) ?_
  pointwise []

/-- The keys of neighbourhood attention are the reference's. -/
theorem final13 : (dats m 0 c).arrAt 13 (cfgs 0).N = Cert.InRefIdeal.Rows.nearK (rows m c) := by
  refine (dats m 0 c).arrAt_eq_of_covers 13 _ (by decide +kernel) fun t _ y => ?_
  blk_simp
  rw [after0_13]; frame_out
  idx_vars y
  have e : ((cfg0.win 13).blk t).view.emb (ix2 y0 y1 : S512x256.Idx) = (ix2 (⟨t.val * 512 + y0.val, row_lt t y0⟩ : Fin 32768) y1 : S32768x256.Idx) := by
    blk_ext [idx t]
  refine Eq.trans ?_ (congrArg (Cert.InRefIdeal.Rows.nearK (rows m c)) e).symm
  refine (pay23_at _ _ y0 y1).trans (Eq.trans ?_ (Cert.InRefIdeal.Rows.nearK_at _ _ y1).symm)
  refine Eq.trans (Finset.sum_congr rfl fun k _ => ?_) (column m c t y0 ⟨1280 + y1.val, by omega⟩ (by show 1280 + y1.val < 2944; omega))
  refine congrArg (k0_pay2 (F := Ideal) (iblk m c 0 t) (iblk m c 1 t) (ix2 y0 k) * ·) ?_
  pointwise []

/-- The values of neighbourhood attention are the reference's. -/
theorem final14 : (dats m 0 c).arrAt 14 (cfgs 0).N = Cert.InRefIdeal.Rows.nearV (rows m c) := by
  refine (dats m 0 c).arrAt_eq_of_covers 14 _ (by decide +kernel) fun t _ y => ?_
  blk_simp
  rw [after0_14]; frame_out
  idx_vars y
  have e : ((cfg0.win 14).blk t).view.emb (ix2 y0 y1 : S512x256.Idx) = (ix2 (⟨t.val * 512 + y0.val, row_lt t y0⟩ : Fin 32768) y1 : S32768x256.Idx) := by
    blk_ext [idx t]
  refine Eq.trans ?_ (congrArg (Cert.InRefIdeal.Rows.nearV (rows m c)) e).symm
  refine (pay24_at _ _ y0 y1).trans (Eq.trans ?_ (Cert.InRefIdeal.Rows.nearV_at _ _ y1).symm)
  refine Eq.trans (Finset.sum_congr rfl fun k _ => ?_) (column m c t y0 ⟨1536 + y1.val, by omega⟩ (by show 1536 + y1.val < 2944; omega))
  refine congrArg (k0_pay2 (F := Ideal) (iblk m c 0 t) (iblk m c 1 t) (ix2 y0 k) * ·) ?_
  pointwise []

/-- The gate of the state space mixer are the reference's. -/
theorem final15 : (dats m 0 c).arrAt 15 (cfgs 0).N = Cert.InRefIdeal.Rows.gate (rows m c) := by
  refine (dats m 0 c).arrAt_eq_of_covers 15 _ (by decide +kernel) fun t _ y => ?_
  blk_simp
  rw [after0_15]; frame_out
  idx_vars y
  have e : ((cfg0.win 15).blk t).view.emb (ix2 y0 y1 : S512x256.Idx) = (ix2 (⟨t.val * 512 + y0.val, row_lt t y0⟩ : Fin 32768) y1 : S32768x256.Idx) := by
    blk_ext [idx t]
  refine Eq.trans ?_ (congrArg (Cert.InRefIdeal.Rows.gate (rows m c)) e).symm
  refine (pay25_at _ _ y0 y1).trans (Eq.trans ?_ (Cert.InRefIdeal.Rows.gate_at _ _ y1).symm)
  refine Eq.trans (Finset.sum_congr rfl fun k _ => ?_) (column m c t y0 ⟨1792 + y1.val, by omega⟩ (by show 1792 + y1.val < 2944; omega))
  refine congrArg (k0_pay2 (F := Ideal) (iblk m c 0 t) (iblk m c 1 t) (ix2 y0 k) * ·) ?_
  pointwise []

/-- The inputs of the state space mixer are the reference's. -/
theorem final16 : (dats m 0 c).arrAt 16 (cfgs 0).N = Cert.InRefIdeal.Rows.state (rows m c) := by
  refine (dats m 0 c).arrAt_eq_of_covers 16 _ (by decide +kernel) fun t _ y => ?_
  blk_simp
  rw [after0_16]; frame_out
  idx_vars y
  have e : ((cfg0.win 16).blk t).view.emb (ix2 y0 y1 : S512x768.Idx) = (ix2 (⟨t.val * 512 + y0.val, row_lt t y0⟩ : Fin 32768) y1 : S32768x768.Idx) := by
    blk_ext [idx t]
  refine Eq.trans ?_ (congrArg (Cert.InRefIdeal.Rows.state (rows m c)) e).symm
  refine (pay26_at _ _ y0 y1).trans (Eq.trans ?_ (Cert.InRefIdeal.Rows.state_at _ _ y1).symm)
  refine Eq.trans (Finset.sum_congr rfl fun k _ => ?_) (column m c t y0 ⟨2048 + y1.val, by omega⟩ (by show 2048 + y1.val < 2944; omega))
  refine congrArg (k0_pay2 (F := Ideal) (iblk m c 0 t) (iblk m c 1 t) (ix2 y0 k) * ·) ?_
  pointwise []

set_option maxHeartbeats 1600000 in
/-- The steps of the state space mixer are the reference's, with their padding. -/
theorem final17 : (dats m 0 c).arrAt 17 (cfgs 0).N = Cert.InRefIdeal.Rows.steps (rows m c) := by
  refine (dats m 0 c).arrAt_eq_of_covers 17 _ (by decide +kernel) fun t _ y => ?_
  blk_simp
  rw [after0_17]; frame_out
  idx_vars y
  have e : ((cfg0.win 17).blk t).view.emb (ix2 y0 y1 : S512x128.Idx) = (ix2 (⟨t.val * 512 + y0.val, row_lt t y0⟩ : Fin 32768) y1 : S32768x128.Idx) := by
    blk_ext [idx t]
  refine Eq.trans ?_ (congrArg (Cert.InRefIdeal.Rows.steps (rows m c)) e).symm
  refine (pay1_at _ _ y0 y1).trans (Eq.trans ?_ (Cert.InRefIdeal.Rows.steps_at _ _ y1).symm)
  refine Eq.trans (Finset.sum_congr rfl fun k _ => congrArg (k0_pay2 (F := Ideal) (iblk m c 0 t) (iblk m c 1 t) (ix2 y0 k) * ·)
    (?_ : _ = (iblk m c 2 t : FVec Ideal S1024x2944 .bf16) (ix2 k ⟨2816 + y1.val, by omega⟩))) ?_
  · pointwise []
  unfold padded
  by_cases h : y1.val < 8
  · rw [dif_pos h]
    exact column m c t y0 ⟨2816 + y1.val, by omega⟩ (by show 2816 + y1.val < 2944; omega)
  · rw [dif_neg h]
    exact column_past m c t y0 ⟨2816 + y1.val, by omega⟩ (by show ¬ 2816 + y1.val < 2824; omega)

end Cert.InIdeal.Rows
end
-- ==== Proof.InClaims.lean ====
module

public import proofs.«01_k».proof.Defs
public import proofs.«01_k».proof.Proof.Gen.InIdeal.Value
public import proofs.«01_k».proof.Proof.Gen.InRefIdeal.Run
public import proofs.«01_k».proof.Proof.InValue
public import Idealize.ShloMosaic.Lib.Quiescent

/-! The claims about the input projection: the reference leaves its arguments unchanged and every counter
    at zero, and each of the kernel's ten result arrays is the reference's. -/

@[expose] public section
set_option maxRecDepth 16384
noncomputable section
open Idealize.ShloMosaic Idealize.ShloMosaic.TcCoe Idealize.SL.Sem
namespace Cert.InRefIdeal.Rows
open Cert.InRefIdeal Cert.InRefIdeal.Gen

section
variable (m : (ℓ : Loc nD τ sig) → Buf (Elt Ideal) ℓ) (c : Dev nD)

/-- The projected rows of the reference's own arguments. -/
def own : FVec Ideal S32768x2824 .f32 :=
  projected (m ((c.tc : Thread nD τ).loc main_arg0)) (m ((c.tc : Thread nD τ).loc main_arg1)) (m ((c.tc : Thread nD τ).loc main_arg2))

/-- The second result of the reference is the queries. -/
theorem res_queries : Cert.InRefIdeal.Value.res_out1 m c = queries (own m c) posAngles := rfl

/-- The third result of the reference is the keys. -/
theorem res_keys : Cert.InRefIdeal.Value.res_out2 m c = keys (own m c) posAngles := rfl

end

set_option maxHeartbeats 3200000 in
/-- The reference's run, with every result by the name of its stage. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v102) = channels (own m c) chanAngles
      ∧ r.2.mem ((c.tc : Thread nD τ).loc main_v104) = queries (own m c) posAngles
      ∧ r.2.mem ((c.tc : Thread nD τ).loc main_v106) = keys (own m c) posAngles
      ∧ r.2.mem ((c.tc : Thread nD τ).loc main_v108) = values (own m c)
      ∧ r.2.mem ((c.tc : Thread nD τ).loc main_v110) = nearQ (own m c)
      ∧ r.2.mem ((c.tc : Thread nD τ).loc main_v112) = nearK (own m c)
      ∧ r.2.mem ((c.tc : Thread nD τ).loc main_v114) = nearV (own m c)
      ∧ r.2.mem ((c.tc : Thread nD τ).loc main_v116) = gate (own m c)
      ∧ r.2.mem ((c.tc : Thread nD τ).loc main_v117) = state (own m c)
      ∧ r.2.mem ((c.tc : Thread nD τ).loc main_v119) = steps (own m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r h c => ?_) (Cert.InRefIdeal.Value.run m ρ)
  obtain ⟨h0, h1, h2, h3, h4, h5, h6, h7, h8, h9, ha⟩ := h c
  exact ⟨h0.trans rfl, h1.trans (res_queries m c), h2.trans (res_keys m c), h3.trans rfl, h4.trans rfl, h5.trans rfl,
    h6.trans rfl, h7.trans rfl, h8.trans rfl, h9.trans rfl, ha⟩

end Cert.InRefIdeal.Rows

namespace Cert.Proof

/-- The reference's run: the arguments unchanged, every semaphore counter back at zero. -/
theorem inRef_frame : Cert.quiescent_InRefIdeal (hInRefIdeal := Cert.InRefIdeal.Gen.facts) := by
  intro m g _
  exact (θ_run _ _ _).mono (fun r h => ⟨fun c => (h c).2.2.2.2.2.2.2.2.2.2, sem_eq_zero_of_no_sems (by decide) r.2⟩)
    (Cert.InRefIdeal.Rows.run m g)

set_option maxHeartbeats 3200000 in
open Cert.InIdeal.Rows Cert.InRefIdeal.Rows in
/-- Kernel and reference end with the same ten arrays, from memories that agree on the arguments. -/
theorem in_algebraic : Cert.algebraic_InIdeal_InRefIdeal (hInIdeal := Cert.InIdeal.Gen.facts)
    (hInRefIdeal := Cert.InRefIdeal.Gen.facts) := by
  intro m g m' g' _ hag
  refine ⟨fun c => channels (Cert.InIdeal.Rows.rows m c) chanAngles,
    fun c => queries (Cert.InIdeal.Rows.rows m c) posAngles,
    fun c => keys (Cert.InIdeal.Rows.rows m c) posAngles,
    fun c => values (Cert.InIdeal.Rows.rows m c),
    fun c => nearQ (Cert.InIdeal.Rows.rows m c),
    fun c => nearK (Cert.InIdeal.Rows.rows m c),
    fun c => nearV (Cert.InIdeal.Rows.rows m c),
    fun c => gate (Cert.InIdeal.Rows.rows m c),
    fun c => state (Cert.InIdeal.Rows.rows m c),
    fun c => steps (Cert.InIdeal.Rows.rows m c), ?_, ?_⟩
  · refine (θ_run _ _ _).mono (fun r h c => ?_) (Cert.InIdeal.Value.run_blocks m g)
    obtain ⟨h0, h1, h2, h3, h4, h5, h6, h7, h8, h9, _, ha⟩ := h c
    exact ⟨h0.trans (final8 m c), h1.trans (final9 m c), h2.trans (final10 m c), h3.trans (final11 m c), h4.trans (final12 m c), h5.trans (final13 m c), h6.trans (final14 m c), h7.trans (final15 m c), h8.trans (final16 m c), h9.trans (final17 m c), ha⟩
  · refine (θ_run _ _ _).mono (fun r h c => ?_) (Cert.InRefIdeal.Rows.run m' g')
    obtain ⟨e0, e1, e2⟩ := hag c
    have e : own m' c = Cert.InIdeal.Rows.rows m c := by
      unfold own Cert.InIdeal.Rows.rows
      rw [e0, e1, e2]
    obtain ⟨h0, h1, h2, h3, h4, h5, h6, h7, h8, h9, ha⟩ := h c
    rw [e] at h0 h1 h2 h3 h4 h5 h6 h7 h8 h9
    exact ⟨h0, h1, h2, h3, h4, h5, h6, h7, h8, h9, ha⟩

end Cert.Proof
end
-- ==== Proof.CvRow.lean ====
module

public import Idealize.ShloMosaic.Lib.Pointwise

/-! The convolution of the state space mixer at one channel, over the extended reals: sixteen sequences of
    2048 positions one after the other, five taps around every position, a bias and the activation. Both
    programs are compared with these functions. -/

@[expose] public section
noncomputable section
open Idealize.ShloMosaic
namespace Cert.CvRow

/-- The value `j - 2` positions on from row `r`, zero beyond either end of the row's sequence. -/
def near (x : Fin 32768 → EReal) (r : Fin 32768) (j : Fin 5) : EReal :=
  if h : 2 ≤ r.val % 2048 + j.val ∧ r.val % 2048 + j.val < 2050 then x ⟨r.val + j.val - 2, by omega⟩ else 0

/-- The activation `s · logistic s`. -/
def act (s : EReal) : EReal := s * Ideal.logistic s

/-- The five taps at row `r`, the bias and the activation. -/
def conv (x : Fin 32768 → EReal) (w : Fin 5 → EReal) (b : EReal) (r : Fin 32768) : EReal :=
  act (near x r 0 * w 0 + near x r 1 * w 1 + near x r 2 * w 2 + near x r 3 * w 3 + near x r 4 * w 4 + b)

end Cert.CvRow
end
-- ==== Proof.CvRefValue.lean ====
module

public import proofs.«01_k».proof.Proof.CvRow
public import proofs.«01_k».proof.Proof.Gen.CvRefIdeal.Run

/-! The reference of the convolution, stage by stage, and every stage at an index. -/

@[expose] public section
set_option maxRecDepth 16384
noncomputable section
open Idealize.ShloMosaic Idealize.ShloMosaic.TcCoe Idealize.SL.Sem
namespace Cert.CvRefIdeal.Rows
open Cert.CvRefIdeal Cert.CvRefIdeal.Gen Cert.CvRow

/-- Every sequence with two positions of zeros before and after it. -/
def wide (x : FVec Ideal S32768x768 .f32) : FVec Ideal S16x2052x768 .f32 :=
  pad S16x2052x768 ![0, 2, 0] ![0, 2, 0] ![0, 0, 0] (shapeCast S16x2048x768 x shapeCasts_S32768x768_S16x2048x768)
    (sitofp .f32 (constantI S_ 32 0#32) : FVec Ideal S_ .f32) pads_S16x2048x768_S16x2052x768_000_220_000 h_S_

/-- The sum over the taps, and the bias. -/
def taps (x : FVec Ideal S32768x768 .f32) (w : FVec Ideal S5x768 .f32) (b : FVec Ideal S768 .f32) : FVec Ideal S16x2048x768 .f32 :=
  addf (addf (addf (addf (addf (addf (broadcastInDim S16x2048x768 ![] bcast_S_S16x2048x768 (constant S_ .f32 0x00000000#32))
    (mulf (extractStridedSlice S16x2048x768 ![0, 0, 0] (wide x) slices_S16x2052x768_S16x2048x768_0_0_0)
      (broadcastInDim S16x2048x768 ![0, 1, 2] bcast_S1x1x768_S16x2048x768_0_1_2 (broadcastInDim S1x1x768 ![2] bcast_S768_S1x1x768_2
        (shapeCast S768 (extractStridedSlice S1x768 ![0, 0] w slices_S5x768_S1x768_0_0) shapeCasts_S1x768_S768)))))
    (mulf (extractStridedSlice S16x2048x768 ![0, 1, 0] (wide x) slices_S16x2052x768_S16x2048x768_0_1_0)
      (broadcastInDim S16x2048x768 ![0, 1, 2] bcast_S1x1x768_S16x2048x768_0_1_2 (broadcastInDim S1x1x768 ![2] bcast_S768_S1x1x768_2
        (shapeCast S768 (extractStridedSlice S1x768 ![1, 0] w slices_S5x768_S1x768_1_0) shapeCasts_S1x768_S768)))))
    (mulf (extractStridedSlice S16x2048x768 ![0, 2, 0] (wide x) slices_S16x2052x768_S16x2048x768_0_2_0)
      (broadcastInDim S16x2048x768 ![0, 1, 2] bcast_S1x1x768_S16x2048x768_0_1_2 (broadcastInDim S1x1x768 ![2] bcast_S768_S1x1x768_2
        (shapeCast S768 (extractStridedSlice S1x768 ![2, 0] w slices_S5x768_S1x768_2_0) shapeCasts_S1x768_S768)))))
    (mulf (extractStridedSlice S16x2048x768 ![0, 3, 0] (wide x) slices_S16x2052x768_S16x2048x768_0_3_0)
      (broadcastInDim S16x2048x768 ![0, 1, 2] bcast_S1x1x768_S16x2048x768_0_1_2 (broadcastInDim S1x1x768 ![2] bcast_S768_S1x1x768_2
        (shapeCast S768 (extractStridedSlice S1x768 ![3, 0] w slices_S5x768_S1x768_3_0) shapeCasts_S1x768_S768)))))
    (mulf (extractStridedSlice S16x2048x768 ![0, 4, 0] (wide x) slices_S16x2052x768_S16x2048x768_0_4_0)
      (broadcastInDim S16x2048x768 ![0, 1, 2] bcast_S1x1x768_S16x2048x768_0_1_2 (broadcastInDim S1x1x768 ![2] bcast_S768_S1x1x768_2
        (shapeCast S768 (extractStridedSlice S1x768 ![4, 0] w slices_S5x768_S1x768_4_0) shapeCasts_S1x768_S768)))))
    (broadcastInDim S16x2048x768 ![0, 1, 2] bcast_S1x1x768_S16x2048x768_0_1_2 (broadcastInDim S1x1x768 ![2] bcast_S768_S1x1x768_2 b))

/-- The activation. -/
def active (u : FVec Ideal S16x2048x768 .f32) : FVec Ideal S32768x768 .bf16 :=
  truncf .bf16 (shapeCast S32768x768 (mulf u (Host.divf (broadcastInDim S16x2048x768 ![] bcast_S_S16x2048x768 (constant S_ .f32 0x3F800000#32))
    (addf (broadcastInDim S16x2048x768 ![] bcast_S_S16x2048x768 (constant S_ .f32 0x3F800000#32)) (Host.exp (Host.negf u)))))
    shapeCasts_S16x2048x768_S32768x768) bitsLt_bf16_f32

/-- The reference's result. -/
def result (x : FVec Ideal S32768x768 .f32) (w : FVec Ideal S5x768 .f32) (b : FVec Ideal S768 .f32) : FVec Ideal S32768x768 .bf16 :=
  active (taps x w b)

/-- The activation at an index. -/
theorem active_at (u : FVec Ideal S16x2048x768 .f32) (r : Fin 32768) (q : Fin 768) :
    active u (ix2 r q) = act (u (ix3 ⟨r.val / 2048, by omega⟩ ⟨r.val % 2048, by omega⟩ q)) := by
  pointwise [active, act]
  rfl

/-- A padded sequence at an index. -/
theorem wide_at (x : FVec Ideal S32768x768 .f32) (r : Fin 32768) (j : Fin 5) (q : Fin 768) :
    wide x (ix3 ⟨r.val / 2048, by omega⟩ ⟨r.val % 2048 + j.val, by omega⟩ q) = near (fun r => x (ix2 r q)) r j := by
  have h0 : (FloatOps.sitofp .f32 (0#32) : Ideal .f32) = 0 := by
    show (((0#32 : BitVec 32).toInt : ℝ) : EReal) = 0
    simp
  unfold near
  pointwise [wide]
  rw [h0]
  split_ifs with h1 h2 h2
  · exact congrArg (fun i => x (ix2 i q)) (Fin.ext (show r.val / 2048 * 2048 + (r.val % 2048 + j.val - 2) = r.val + j.val - 2 by omega))
  · omega
  · omega
  · rfl

/-- The taps at an index. -/
theorem taps_at (x : FVec Ideal S32768x768 .f32) (w : FVec Ideal S5x768 .f32) (b : FVec Ideal S768 .f32) (r : Fin 32768) (q : Fin 768) :
    taps x w b (ix3 ⟨r.val / 2048, by omega⟩ ⟨r.val % 2048, by omega⟩ q)
      = near (fun r => x (ix2 r q)) r 0 * w (ix2 0 q) + near (fun r => x (ix2 r q)) r 1 * w (ix2 1 q)
        + near (fun r => x (ix2 r q)) r 2 * w (ix2 2 q) + near (fun r => x (ix2 r q)) r 3 * w (ix2 3 q)
        + near (fun r => x (ix2 r q)) r 4 * w (ix2 4 q) + b (ix1 q) := by
  have h := fun j => wide_at x r j q
  unfold taps
  generalize wide x = y at h ⊢
  simp only [← h]
  pointwise []
  simp only [Nat.add_comm (r.val % 2048)]

/-- The reference at an index. -/
theorem result_at (x : FVec Ideal S32768x768 .f32) (w : FVec Ideal S5x768 .f32) (b : FVec Ideal S768 .f32) (r : Fin 32768) (q : Fin 768) :
    result x w b (ix2 r q) = conv (fun r => x (ix2 r q)) (fun j => w (ix2 j q)) (b (ix1 q)) r := by
  unfold result conv
  rw [active_at, taps_at]

/-- The reference's run ends with `result` of its arguments. -/
theorem res_eq (m : (ℓ : Loc nD τ sig) → Buf (Elt Ideal) ℓ) (c : Dev nD) :
    Value.res_out0 m c = result (m ((c.tc : Thread nD τ).loc main_arg0)) (m ((c.tc : Thread nD τ).loc main_arg1))
      (m ((c.tc : Thread nD τ).loc main_arg2)) := rfl

end Cert.CvRefIdeal.Rows
end
-- ==== Proof.CvBlock.lean ====
module

public import proofs.«01_k».proof.Proof.CvRefValue
public import proofs.«01_k».proof.Proof.Gen.CvIdeal.Value
public import Idealize.ShloMosaic.Lib.Pipeline.ValueKit
public import Idealize.ShloMosaic.Lib.Claim

/-! The kernel of the convolution: what the body computes from its window of rows, what the window holds, and
    which parts of the arrays the blocks are. A grid point works on 512 rows; its window is those rows with eight
    before and eight after them. -/

@[expose] public section
set_option maxRecDepth 16384
noncomputable section
open Idealize.ShloMosaic Idealize.ShloMosaic.TcCoe Idealize.SL.Sem
open Idealize.ShloMosaic.Pipeline (Dat)
namespace Cert.CvIdeal.Rows
open Cert.CvIdeal Cert.CvIdeal.Gen Cert.CvRow

/-- The bias and five taps. -/
def tapped (b : EReal) (v w : Fin 5 → EReal) : EReal := b + v 0 * w 0 + v 1 * w 1 + v 2 * w 2 + v 3 * w 3 + v 4 * w 4

/-- Rows `o` to `o + 63` of the window. -/
def run (v : FVec Ideal S528x768 .f32) (o : Nat) (inb : ∀ a, (![o, 0] : Fin 2 → Nat) a + S64x768.size a ≤ S528x768.size a) :
    FVec Ideal S64x768 .f32 := fun j => v ((Rect.unit (s := S528x768) ![o, 0] ![64, 768] inb).idx j)

/-- Row `k` of the taps' block. -/
def tap (w : FVec Ideal S8x768 .f32) (k : Nat) (inb : ∀ a, (![k, 0] : Fin 2 → Nat) a + S1x768.size a ≤ S8x768.size a) :
    FVec Ideal S1x768 .f32 := View.ld (Val := Elt Ideal) (S := S8x768) (e' := .f32) w (Rect.unit (s := S8x768) ![k, 0] ![1, 768] inb)

/-- Row `k` of the taps' block at an index. -/
theorem tap_at (w : FVec Ideal S8x768 .f32) (k : Nat) (hk : k < 8) (inb) (j : Fin 768) :
    tap w k inb (ix2 0 j) = w (ix2 ⟨k, hk⟩ j) := by
  refine congrArg w ?_
  funext a
  fin_cases a
  · exact Fin.ext (show k + 1 * 0 = k by omega)
  · exact Fin.ext (show 0 + 1 * j.val = j.val by omega)

/-- A run of rows at an index. -/
theorem run_at (v : FVec Ideal S528x768 .f32) (n k o : Nat) (h : o = n + 6 + k) (inb) (i : Fin 64) (j : Fin 768)
    (hn : n + i.val + 6 + k < 528) : run v o inb (ix2 i j) = v (ix2 ⟨n + i.val + 6 + k, hn⟩ j) := by
  refine congrArg v ?_
  funext a
  fin_cases a
  · exact Fin.ext (show o + 1 * i.val = n + i.val + 6 + k by omega)
  · exact Fin.ext (show 0 + 1 * j.val = j.val by omega)

section rows
variable (b : FVec Ideal S1x768 .f32) (v : FVec Ideal S528x768 .f32) (w : FVec Ideal S8x768 .f32)
  (i : Fin 64) (j : Fin 768)

/-- What is computed at row `p` of the block. -/
def tapsAt (p : Fin 512) (q : Fin 768) : EReal :=
  act (tapped (b (ix2 0 q)) (fun k => v (ix2 ⟨p.val + 6 + k.val, by omega⟩ q)) (fun k => w (ix2 ⟨k.val, by omega⟩ q)))

/-- Rows 0 to 63. -/
theorem rows0_at : k0_pay9 (F := Ideal) (k0_pay7 b) (run v 6 inb_S528x768_S64x768_6_0) (k0_pay8 (tap w 0 inb_S8x768_S1x768_0_0)) (run v 7 inb_S528x768_S64x768_7_0) (tap w 1 inb_S8x768_S1x768_1_0) (run v 8 inb_S528x768_S64x768_8_0) (tap w 2 inb_S8x768_S1x768_2_0) (run v 9 inb_S528x768_S64x768_9_0) (tap w 3 inb_S8x768_S1x768_3_0) (run v 10 inb_S528x768_S64x768_10_0) (tap w 4 inb_S8x768_S1x768_4_0) (ix2 i j)
    = tapsAt b v w ⟨0 + i.val, by omega⟩ j := by
  pointwise [k0_pay9, k0_pay8, k0_pay7, tapsAt, act, tapped]
  simp only [run_at v 0 0 6 rfl _ i j (by omega), run_at v 0 1 7 rfl _ i j (by omega), run_at v 0 2 8 rfl _ i j (by omega), run_at v 0 3 9 rfl _ i j (by omega), run_at v 0 4 10 rfl _ i j (by omega),
    tap_at w 0 (by omega), tap_at w 1 (by omega), tap_at w 2 (by omega), tap_at w 3 (by omega), tap_at w 4 (by omega), Nat.zero_add]
  rfl

/-- Rows 64 to 127. -/
theorem rows1_at : k0_pay11 (F := Ideal) (k0_pay10 b) (run v 70 inb_S528x768_S64x768_70_0) (tap w 0 inb_S8x768_S1x768_0_0) (run v 71 inb_S528x768_S64x768_71_0) (tap w 1 inb_S8x768_S1x768_1_0) (run v 72 inb_S528x768_S64x768_72_0) (tap w 2 inb_S8x768_S1x768_2_0) (run v 73 inb_S528x768_S64x768_73_0) (tap w 3 inb_S8x768_S1x768_3_0) (run v 74 inb_S528x768_S64x768_74_0) (tap w 4 inb_S8x768_S1x768_4_0) (ix2 i j)
    = tapsAt b v w ⟨64 + i.val, by omega⟩ j := by
  pointwise [k0_pay11, k0_pay10, tapsAt, act, tapped]
  simp only [run_at v 64 0 70 rfl _ i j (by omega), run_at v 64 1 71 rfl _ i j (by omega), run_at v 64 2 72 rfl _ i j (by omega), run_at v 64 3 73 rfl _ i j (by omega), run_at v 64 4 74 rfl _ i j (by omega),
    tap_at w 0 (by omega), tap_at w 1 (by omega), tap_at w 2 (by omega), tap_at w 3 (by omega), tap_at w 4 (by omega)]
  rfl

/-- Rows 128 to 191. -/
theorem rows2_at : k0_pay13 (F := Ideal) (k0_pay12 b) (run v 134 inb_S528x768_S64x768_134_0) (tap w 0 inb_S8x768_S1x768_0_0) (run v 135 inb_S528x768_S64x768_135_0) (tap w 1 inb_S8x768_S1x768_1_0) (run v 136 inb_S528x768_S64x768_136_0) (tap w 2 inb_S8x768_S1x768_2_0) (run v 137 inb_S528x768_S64x768_137_0) (tap w 3 inb_S8x768_S1x768_3_0) (run v 138 inb_S528x768_S64x768_138_0) (tap w 4 inb_S8x768_S1x768_4_0) (ix2 i j)
    = tapsAt b v w ⟨128 + i.val, by omega⟩ j := by
  pointwise [k0_pay13, k0_pay12, tapsAt, act, tapped]
  simp only [run_at v 128 0 134 rfl _ i j (by omega), run_at v 128 1 135 rfl _ i j (by omega), run_at v 128 2 136 rfl _ i j (by omega), run_at v 128 3 137 rfl _ i j (by omega), run_at v 128 4 138 rfl _ i j (by omega),
    tap_at w 0 (by omega), tap_at w 1 (by omega), tap_at w 2 (by omega), tap_at w 3 (by omega), tap_at w 4 (by omega)]
  rfl

/-- Rows 192 to 255. -/
theorem rows3_at : k0_pay15 (F := Ideal) (k0_pay14 b) (run v 198 inb_S528x768_S64x768_198_0) (tap w 0 inb_S8x768_S1x768_0_0) (run v 199 inb_S528x768_S64x768_199_0) (tap w 1 inb_S8x768_S1x768_1_0) (run v 200 inb_S528x768_S64x768_200_0) (tap w 2 inb_S8x768_S1x768_2_0) (run v 201 inb_S528x768_S64x768_201_0) (tap w 3 inb_S8x768_S1x768_3_0) (run v 202 inb_S528x768_S64x768_202_0) (tap w 4 inb_S8x768_S1x768_4_0) (ix2 i j)
    = tapsAt b v w ⟨192 + i.val, by omega⟩ j := by
  pointwise [k0_pay15, k0_pay14, tapsAt, act, tapped]
  simp only [run_at v 192 0 198 rfl _ i j (by omega), run_at v 192 1 199 rfl _ i j (by omega), run_at v 192 2 200 rfl _ i j (by omega), run_at v 192 3 201 rfl _ i j (by omega), run_at v 192 4 202 rfl _ i j (by omega),
    tap_at w 0 (by omega), tap_at w 1 (by omega), tap_at w 2 (by omega), tap_at w 3 (by omega), tap_at w 4 (by omega)]
  rfl

/-- Rows 256 to 319. -/
theorem rows4_at : k0_pay16 (F := Ideal) b (run v 262 inb_S528x768_S64x768_262_0) (tap w 0 inb_S8x768_S1x768_0_0) (run v 263 inb_S528x768_S64x768_263_0) (tap w 1 inb_S8x768_S1x768_1_0) (run v 264 inb_S528x768_S64x768_264_0) (tap w 2 inb_S8x768_S1x768_2_0) (run v 265 inb_S528x768_S64x768_265_0) (tap w 3 inb_S8x768_S1x768_3_0) (run v 266 inb_S528x768_S64x768_266_0) (tap w 4 inb_S8x768_S1x768_4_0) (ix2 i j)
    = tapsAt b v w ⟨256 + i.val, by omega⟩ j := by
  pointwise [k0_pay16, tapsAt, act, tapped]
  simp only [run_at v 256 0 262 rfl _ i j (by omega), run_at v 256 1 263 rfl _ i j (by omega), run_at v 256 2 264 rfl _ i j (by omega), run_at v 256 3 265 rfl _ i j (by omega), run_at v 256 4 266 rfl _ i j (by omega),
    tap_at w 0 (by omega), tap_at w 1 (by omega), tap_at w 2 (by omega), tap_at w 3 (by omega), tap_at w 4 (by omega)]
  rfl

/-- Rows 320 to 383. -/
theorem rows5_at : k0_pay17 (F := Ideal) b (run v 326 inb_S528x768_S64x768_326_0) (tap w 0 inb_S8x768_S1x768_0_0) (run v 327 inb_S528x768_S64x768_327_0) (tap w 1 inb_S8x768_S1x768_1_0) (run v 328 inb_S528x768_S64x768_328_0) (tap w 2 inb_S8x768_S1x768_2_0) (run v 329 inb_S528x768_S64x768_329_0) (tap w 3 inb_S8x768_S1x768_3_0) (run v 330 inb_S528x768_S64x768_330_0) (tap w 4 inb_S8x768_S1x768_4_0) (ix2 i j)
    = tapsAt b v w ⟨320 + i.val, by omega⟩ j := by
  pointwise [k0_pay17, tapsAt, act, tapped]
  simp only [run_at v 320 0 326 rfl _ i j (by omega), run_at v 320 1 327 rfl _ i j (by omega), run_at v 320 2 328 rfl _ i j (by omega), run_at v 320 3 329 rfl _ i j (by omega), run_at v 320 4 330 rfl _ i j (by omega),
    tap_at w 0 (by omega), tap_at w 1 (by omega), tap_at w 2 (by omega), tap_at w 3 (by omega), tap_at w 4 (by omega)]
  rfl

/-- Rows 384 to 447. -/
theorem rows6_at : k0_pay19 (F := Ideal) (k0_pay18 b (run v 390 inb_S528x768_S64x768_390_0) (tap w 0 inb_S8x768_S1x768_0_0) (run v 391 inb_S528x768_S64x768_391_0) (tap w 1 inb_S8x768_S1x768_1_0) (run v 392 inb_S528x768_S64x768_392_0) (tap w 2 inb_S8x768_S1x768_2_0) (run v 393 inb_S528x768_S64x768_393_0) (tap w 3 inb_S8x768_S1x768_3_0) (run v 394 inb_S528x768_S64x768_394_0) (tap w 4 inb_S8x768_S1x768_4_0)) (ix2 i j)
    = tapsAt b v w ⟨384 + i.val, by omega⟩ j := by
  pointwise [k0_pay19, k0_pay18, tapsAt, act, tapped]
  simp only [run_at v 384 0 390 rfl _ i j (by omega), run_at v 384 1 391 rfl _ i j (by omega), run_at v 384 2 392 rfl _ i j (by omega), run_at v 384 3 393 rfl _ i j (by omega), run_at v 384 4 394 rfl _ i j (by omega),
    tap_at w 0 (by omega), tap_at w 1 (by omega), tap_at w 2 (by omega), tap_at w 3 (by omega), tap_at w 4 (by omega)]
  rfl

/-- Rows 448 to 511. -/
theorem rows7_at : k0_pay1 (F := Ideal) (k0_pay20 b (run v 454 inb_S528x768_S64x768_454_0) (tap w 0 inb_S8x768_S1x768_0_0) (run v 455 inb_S528x768_S64x768_455_0) (tap w 1 inb_S8x768_S1x768_1_0) (run v 456 inb_S528x768_S64x768_456_0) (tap w 2 inb_S8x768_S1x768_2_0) (run v 457 inb_S528x768_S64x768_457_0) (tap w 3 inb_S8x768_S1x768_3_0)) (run v 458 inb_S528x768_S64x768_458_0) (k0_pay21 (tap w 4 inb_S8x768_S1x768_4_0)) (ix2 i j)
    = tapsAt b v w ⟨448 + i.val, by omega⟩ j := by
  pointwise [k0_pay1, k0_pay20, k0_pay21, tapsAt, act, tapped]
  simp only [run_at v 448 0 454 rfl _ i j (by omega), run_at v 448 1 455 rfl _ i j (by omega), run_at v 448 2 456 rfl _ i j (by omega), run_at v 448 3 457 rfl _ i j (by omega), run_at v 448 4 458 rfl _ i j (by omega),
    tap_at w 0 (by omega), tap_at w 1 (by omega), tap_at w 2 (by omega), tap_at w 3 (by omega), tap_at w 4 (by omega)]
  rfl

end rows

/-- Some rows written over others: the rows written hold what was written, the others what they held. -/
theorem canon_rows {o n : Nat} (inb) (w : FVec Ideal (⟨2, ![n, 768]⟩ : Shape) .f32) (L) (p : Fin 528) (q : Fin 768) :
    View.canon (Val := Elt Ideal) (s := S528x768) (e := .f32) (⟨Rect.unit ![o, 0] ![n, 768] inb, w⟩ :: L) (ix2 p q)
      = if h : o ≤ p.val ∧ p.val < o + n then w (ix2 ⟨p.val - o, by omega⟩ q)
        else View.canon (Val := Elt Ideal) (s := S528x768) (e := .f32) L (ix2 p q) := by
  split_ifs with h
  · refine Eq.trans (congrArg _ (?_ : _ = (Rect.unit (s := S528x768) ![o, 0] ![n, 768] inb).emb (ix2 ⟨p.val - o, by omega⟩ q)))
      (View.canon_cons_emb (Val := Elt Ideal) (e := .f32) (Rect.unit (s := S528x768) ![o, 0] ![n, 768] inb) w L (ix2 ⟨p.val - o, by omega⟩ q))
    funext a
    fin_cases a
    · exact Fin.ext (show p.val = o + 1 * (p.val - o) by omega)
    · exact Fin.ext (show q.val = 0 + 1 * q.val by omega)
  · refine View.canon_cons_of_not_mem _ L fun hm => h ?_
    exact (Rect.mem_set_unit (s := S528x768) (off := ![o, 0]) (size := ![n, 768]) (inb := inb)).mp hm 0

/-- Which block of its array every window takes at a grid point. -/
theorem idx : ∀ t : Fin cfg0.N,
    win0_0.index t = ![0, 0] ∧ win0_1.index t = ![0, 0] ∧ win0_2.index t = ![t.val * 64 - 1, 0]
    ∧ win0_3.index t = ![t.val, 0] ∧ win0_4.index t = ![min (t.val * 64 + 64) 4095, 0] ∧ win0_5.index t = ![t.val, 0] :=
  (by decide +kernel : ∀ t : Fin grid0.N, _)

/-- There are 64 grid points. -/
theorem point_lt (t : Fin cfg0.N) : t.val < 64 := by
  have := t.isLt; have : cfg0.N = 64 := by decide +kernel
  omega

/-- A row of a block is a row of the array. -/
theorem row_lt (t : Fin cfg0.N) (i : Fin 512) : t.val * 512 + i.val < 32768 := by
  have := point_lt t
  omega

variable (m : (ℓ : Loc nD τ sig) → Buf (Elt Ideal) ℓ) (c : Dev nD) (t : Fin cfg0.N)

/-- The rows to convolve. -/
abbrev xs : FVec Ideal Cert.CvRefIdeal.S32768x768 .f32 := m ((c : Thread nD τ).loc main_arg0)
/-- The taps. -/
abbrev ws : FVec Ideal Cert.CvRefIdeal.S5x768 .f32 := m ((c : Thread nD τ).loc main_arg1)
/-- The bias. -/
abbrev bs : FVec Ideal Cert.CvRefIdeal.S768 .f32 := m ((c : Thread nD τ).loc main_arg2)

/-- The taps as the launch finds them, with three rows of zeros. -/
theorem V_w : V m c main_v0 = pad S8x768 ![0, 0] ![3, 0] ![0, 0] (ws m c) (sitofp .f32 (constantI S_ 32 0#32) : FVec Ideal S_ .f32)
    pads_S5x768_S8x768_030_000 h_S_ := rfl
/-- The bias as the launch finds it, one row. -/
theorem V_b : V m c main_v1 = (shapeCast S1x768 (bs m c) shapeCasts_S768_S1x768 : FVec Ideal S1x768 .f32) := rfl
/-- The rows as the launch finds them. -/
theorem V_x : V m c main_arg0 = xs m c := rfl

/-- The taps' block. -/
theorem blk_w (k : Fin 5) (q : Fin 768) : (iblk m c 0 t : FVec Ideal S8x768 .f32) (ix2 ⟨k.val, by omega⟩ q) = ws m c (ix2 k q) := by
  have e : ((cfg0.win 0).blk t).view.emb (ix2 ⟨k.val, by omega⟩ q : S8x768.Idx) = (ix2 ⟨k.val, by omega⟩ q : S8x768.Idx) := by
    blk_ext [idx t]
  refine Eq.trans (congrArg (V m c main_v0) e) ?_
  rw [V_w m c]
  pointwise []

/-- The bias' block. -/
theorem blk_b (q : Fin 768) : (iblk m c 1 t : FVec Ideal S1x768 .f32) (ix2 0 q) = bs m c (ix1 q) := by
  have e : ((cfg0.win 1).blk t).view.emb (ix2 0 q : S1x768.Idx) = (ix2 0 q : S1x768.Idx) := by
    blk_ext [idx t]
  refine Eq.trans (congrArg (V m c main_v1) e) ?_
  rw [V_b m c]
  pointwise []

/-- The point's own rows. -/
theorem blk_cur (i : Fin 512) (q : Fin 768) :
    (iblk m c 3 t : FVec Ideal S512x768 .f32) (ix2 i q) = xs m c (ix2 ⟨t.val * 512 + i.val, row_lt t i⟩ q) := by
  have e : ((cfg0.win 3).blk t).view.emb (ix2 i q : S512x768.Idx) = (ix2 (⟨t.val * 512 + i.val, row_lt t i⟩ : Fin 32768) q : S32768x768.Idx) := by
    blk_ext [idx t]
  refine Eq.trans (congrArg (V m c main_arg0) e) ?_
  rw [V_x m c]

/-- The eight rows before them, at a point that has any. -/
theorem blk_prev (h : t.val ≠ 0) (i : Fin 8) (q : Fin 768) : (iblk m c 2 t : FVec Ideal S8x768 .f32) (ix2 i q)
    = xs m c (ix2 ⟨t.val * 512 + i.val - 8, by have := point_lt t; omega⟩ q) := by
  have e : ((cfg0.win 2).blk t).view.emb (ix2 i q : S8x768.Idx) = (ix2 (⟨t.val * 512 + i.val - 8, by have := point_lt t; omega⟩ : Fin 32768) q : S32768x768.Idx) := by
    blk_ext [idx t]
  refine Eq.trans (congrArg (V m c main_arg0) e) ?_
  rw [V_x m c]

/-- The eight rows after them, at a point that has any. -/
theorem blk_next (h : t.val < 63) (i : Fin 8) (q : Fin 768) : (iblk m c 4 t : FVec Ideal S8x768 .f32) (ix2 i q)
    = xs m c (ix2 ⟨t.val * 512 + 512 + i.val, by omega⟩ q) := by
  have e : ((cfg0.win 4).blk t).view.emb (ix2 i q : S8x768.Idx) = (ix2 (⟨t.val * 512 + 512 + i.val, by omega⟩ : Fin 32768) q : S32768x768.Idx) := by
    blk_ext [idx t]
  refine Eq.trans (congrArg (V m c main_arg0) e) ?_
  rw [V_x m c]

/-- What the window holds: row `p` is the array's row `p - 8` from the point's first, zero outside the sequence. -/
def window (p : Fin 528) (q : Fin 768) : EReal :=
  if h : 8 ≤ t.val % 4 * 512 + p.val ∧ t.val % 4 * 512 + p.val < 2056 then
    xs m c (ix2 ⟨t.val * 512 + p.val - 8, by have := point_lt t; omega⟩ q) else 0

/-- The window's middle rows. -/
theorem window_cur (p : Fin 528) (q : Fin 768) (h : 8 ≤ p.val ∧ p.val < 8 + 512) :
    k0_pay3 (F := Ideal) (iblk m c 3 t) (ix2 ⟨p.val - 8, by omega⟩ q) = window m c t p q := by
  unfold window
  rw [dif_pos (by omega)]
  pointwise [k0_pay3]
  refine (blk_cur m c t ⟨p.val - 8, by omega⟩ q).trans (congrArg (fun r => xs m c (ix2 r q)) (Fin.ext ?_))
  show t.val * 512 + (p.val - 8) = t.val * 512 + p.val - 8
  omega

/-- The window's first rows, but at the first point of a sequence. -/
theorem window_prev (h0 : ¬ t.val % 4 = 0) (p : Fin 528) (q : Fin 768) (h : 0 ≤ p.val ∧ p.val < 0 + 8) :
    k0_pay2 (F := Ideal) (iblk m c 2 t) (ix2 ⟨p.val - 0, by omega⟩ q) = window m c t p q := by
  unfold window
  rw [dif_pos (by omega)]
  pointwise [k0_pay2]
  exact blk_prev m c t (by omega) ⟨p.val, by omega⟩ q

/-- The window's last rows, but at the last point of a sequence. -/
theorem window_next (h0 : ¬ t.val % 4 = 3) (p : Fin 528) (q : Fin 768) (h : 520 ≤ p.val ∧ p.val < 520 + 8) :
    k0_pay4 (F := Ideal) (iblk m c 4 t) (ix2 ⟨p.val - 520, by omega⟩ q) = window m c t p q := by
  have ht := point_lt t
  unfold window
  rw [dif_pos (by omega)]
  pointwise [k0_pay4]
  refine (blk_next m c t (by omega) ⟨p.val - 520, by omega⟩ q).trans (congrArg (fun r => xs m c (ix2 r q)) (Fin.ext ?_))
  show t.val * 512 + 512 + (p.val - 520) = t.val * 512 + p.val - 8
  omega

/-- The window at the first point of a sequence: zeros written over the rows before. -/
theorem window_first (h0 : t.val % 4 = 0) (i0 i1 i2 i3) (p : Fin 528) (q : Fin 768) :
    View.canon (Val := Elt Ideal) (s := S528x768) (e := .f32)
      [⟨Rect.unit ![0, 0] ![8, 768] i0, k0_pay5 (F := Ideal)⟩, ⟨Rect.unit ![520, 0] ![8, 768] i1, k0_pay4 (F := Ideal) (iblk m c 4 t)⟩,
       ⟨Rect.unit ![8, 0] ![512, 768] i2, k0_pay3 (F := Ideal) (iblk m c 3 t)⟩, ⟨Rect.unit ![0, 0] ![8, 768] i3, k0_pay2 (F := Ideal) (iblk m c 2 t)⟩]
      (ix2 p q) = window m c t p q := by
  rw [canon_rows, canon_rows, canon_rows]
  split_ifs with h1 h2 h3
  · unfold window
    rw [dif_neg (by omega)]
    pointwise [k0_pay5]
  · exact window_next m c t (by omega) p q h2
  · exact window_cur m c t p q h3
  · omega

/-- The window at a point with rows before and after it. -/
theorem window_inner (h0 : ¬ t.val % 4 = 0) (h3 : ¬ t.val % 4 = 3) (i1 i2 i3) (p : Fin 528) (q : Fin 768) :
    View.canon (Val := Elt Ideal) (s := S528x768) (e := .f32)
      [⟨Rect.unit ![520, 0] ![8, 768] i1, k0_pay4 (F := Ideal) (iblk m c 4 t)⟩,
       ⟨Rect.unit ![8, 0] ![512, 768] i2, k0_pay3 (F := Ideal) (iblk m c 3 t)⟩, ⟨Rect.unit ![0, 0] ![8, 768] i3, k0_pay2 (F := Ideal) (iblk m c 2 t)⟩]
      (ix2 p q) = window m c t p q := by
  rw [canon_rows, canon_rows, canon_rows]
  split_ifs with h1 h2 h4
  · exact window_next m c t h3 p q h1
  · exact window_cur m c t p q h2
  · exact window_prev m c t h0 p q h4
  · omega

/-- The window at the last point of a sequence: zeros written over the rows after. -/
theorem window_last (h3 : t.val % 4 = 3) (i0 i1 i2 i3) (p : Fin 528) (q : Fin 768) :
    View.canon (Val := Elt Ideal) (s := S528x768) (e := .f32)
      [⟨Rect.unit ![520, 0] ![8, 768] i0, k0_pay6 (F := Ideal)⟩, ⟨Rect.unit ![520, 0] ![8, 768] i1, k0_pay4 (F := Ideal) (iblk m c 4 t)⟩,
       ⟨Rect.unit ![8, 0] ![512, 768] i2, k0_pay3 (F := Ideal) (iblk m c 3 t)⟩, ⟨Rect.unit ![0, 0] ![8, 768] i3, k0_pay2 (F := Ideal) (iblk m c 2 t)⟩]
      (ix2 p q) = window m c t p q := by
  rw [canon_rows, canon_rows, canon_rows, canon_rows]
  split_ifs with h1 h2 h4
  · unfold window
    rw [dif_neg (by omega)]
    pointwise [k0_pay6]
  · exact window_cur m c t p q h2
  · exact window_prev m c t (by omega) p q h4
  · omega

/-- The five taps over the window are the reference's at the point's row. -/
theorem taps_window (i : Fin 512) (q : Fin 768) :
    act (tapped (bs m c (ix1 q)) (fun k => window m c t ⟨i.val + 6 + k.val, by omega⟩ q) (fun k => ws m c (ix2 k q)))
      = Cert.CvRefIdeal.Rows.result (xs m c) (ws m c) (bs m c) (ix2 ⟨t.val * 512 + i.val, row_lt t i⟩ q) := by
  rw [Cert.CvRefIdeal.Rows.result_at]
  have e : ∀ k : Fin 5, window m c t ⟨i.val + 6 + k.val, by omega⟩ q
      = near (fun r => xs m c (ix2 r q)) ⟨t.val * 512 + i.val, row_lt t i⟩ k := by
    intro k
    unfold window near
    have hr : (t.val * 512 + i.val) % 2048 = t.val % 4 * 512 + i.val := by omega
    simp only [hr]
    split_ifs with h1 h2 h2
    · exact congrArg (fun r => xs m c (ix2 r q)) (Fin.ext (show t.val * 512 + (i.val + 6 + k.val) - 8 = t.val * 512 + i.val + k.val - 2 by omega))
    · omega
    · omega
    · rfl
  unfold conv tapped
  simp only [e]
  refine congrArg act ?_
  simp only [add_assoc, add_comm (bs m c (ix1 q))]

end Cert.CvIdeal.Rows
end
-- ==== Proof.CvValue.lean ====
module

public import proofs.«01_k».proof.Proof.CvBlock

/-! The kernel's array of the convolution after the launch is the reference's: at the first point of a sequence, at
    the last and between them. A point stores its 512 rows in eight parts. -/

@[expose] public section
set_option maxRecDepth 16384
noncomputable section
open Idealize.ShloMosaic Idealize.ShloMosaic.TcCoe Idealize.SL.Sem
namespace Cert.CvIdeal.Rows
open Cert.CvIdeal Cert.CvIdeal.Gen Cert.CvRow
variable (m : (ℓ : Loc nD τ sig) → Buf (Elt Ideal) ℓ) (c : Dev nD) (t : Fin cfg0.N)

/-- What is computed at a row of the block is the reference's at the array's row. -/
theorem stored (b : FVec Ideal S1x768 .f32) (v : FVec Ideal S528x768 .f32) (w : FVec Ideal S8x768 .f32)
    (hv : ∀ p q, v (ix2 p q) = window m c t p q)
    (hw : ∀ (k : Fin 5) (q : Fin 768), w (ix2 ⟨k.val, by omega⟩ q) = ws m c (ix2 k q))
    (hb : ∀ q : Fin 768, b (ix2 0 q) = bs m c (ix1 q)) (y : S512x768.Idx) (p : Fin 512) (q : Fin 768)
    (h0 : (y 0).val = p.val) (h1 : (y 1).val = q.val) :
    tapsAt b v w p q = Cert.CvRefIdeal.Rows.result (xs m c) (ws m c) (bs m c) (((View.whole main_v2).slice (win0_5.rect t)).emb y) := by
  unfold tapsAt
  simp only [hv, hw, hb]
  rw [taps_window]
  refine congrArg (Cert.CvRefIdeal.Rows.result (xs m c) (ws m c) (bs m c)) ?_
  have hy : y = ix2 p q := by
    funext a
    fin_cases a
    · exact Fin.ext h0
    · exact Fin.ext h1
  subst hy
  symm
  blk_ext [idx t]

set_option maxHeartbeats 1600000 in
/-- The first point of a sequence. -/
theorem at_first (hf : t.val % 4 = 0) (y : S512x768.Idx) : outsAt0 m c t.val t.isLt y
    = Cert.CvRefIdeal.Rows.result (xs m c) (ws m c) (bs m c) (((View.whole main_v2).slice (win0_5.rect t)).emb y) := by
  rw [outsAt0_A m c t hf (by omega)]
  frame_out
  canon_tiles x h
  all_goals (idx_vars x)
  all_goals (try simp only [View.readCov_eq_canon'])
  all_goals
    generalize hV : View.canon (Val := Elt Ideal) (s := S528x768) (e := .f32) _ = B
    have hB : ∀ p q, B (ix2 p q) = window m c t p q := fun p q => by
      rw [← hV]; exact window_first m c t hf _ _ _ _ p q
    have hW := blk_w m c t
    have hb := blk_b m c t
    clear hV
    generalize iblk m c 0 t = W at hW ⊢
    generalize iblk m c 1 t = bb at hb ⊢
  · exact (rows7_at _ B W x0 x1).trans (stored m c t bb B W hB hW hb y ⟨448 + x0.val, by omega⟩ x1 h0 h1)
  · exact (rows6_at _ B W x0 x1).trans (stored m c t bb B W hB hW hb y ⟨384 + x0.val, by omega⟩ x1 h0 h1)
  · exact (rows5_at _ B W x0 x1).trans (stored m c t bb B W hB hW hb y ⟨320 + x0.val, by omega⟩ x1 h0 h1)
  · exact (rows4_at _ B W x0 x1).trans (stored m c t bb B W hB hW hb y ⟨256 + x0.val, by omega⟩ x1 h0 h1)
  · exact (rows3_at _ B W x0 x1).trans (stored m c t bb B W hB hW hb y ⟨192 + x0.val, by omega⟩ x1 h0 h1)
  · exact (rows2_at _ B W x0 x1).trans (stored m c t bb B W hB hW hb y ⟨128 + x0.val, by omega⟩ x1 h0 h1)
  · exact (rows1_at _ B W x0 x1).trans (stored m c t bb B W hB hW hb y ⟨64 + x0.val, by omega⟩ x1 h0 h1)
  · exact (rows0_at _ B W x0 x1).trans (stored m c t bb B W hB hW hb y ⟨0 + x0.val, by omega⟩ x1 (h0.trans (Nat.zero_add _).symm) h1)

set_option maxHeartbeats 1600000 in
/-- A point between the first and the last. -/
theorem at_inner (hf : ¬ t.val % 4 = 0) (hl : ¬ t.val % 4 = 3) (y : S512x768.Idx) : outsAt0 m c t.val t.isLt y
    = Cert.CvRefIdeal.Rows.result (xs m c) (ws m c) (bs m c) (((View.whole main_v2).slice (win0_5.rect t)).emb y) := by
  rw [outsAt0_B m c t hf hl]
  frame_out
  canon_tiles x h
  all_goals (idx_vars x)
  all_goals (try simp only [View.readCov_eq_canon'])
  all_goals
    generalize hV : View.canon (Val := Elt Ideal) (s := S528x768) (e := .f32) _ = B
    have hB : ∀ p q, B (ix2 p q) = window m c t p q := fun p q => by
      rw [← hV]; exact window_inner m c t hf hl _ _ _ p q
    have hW := blk_w m c t
    have hb := blk_b m c t
    clear hV
    generalize iblk m c 0 t = W at hW ⊢
    generalize iblk m c 1 t = bb at hb ⊢
  · exact (rows7_at _ B W x0 x1).trans (stored m c t bb B W hB hW hb y ⟨448 + x0.val, by omega⟩ x1 h0 h1)
  · exact (rows6_at _ B W x0 x1).trans (stored m c t bb B W hB hW hb y ⟨384 + x0.val, by omega⟩ x1 h0 h1)
  · exact (rows5_at _ B W x0 x1).trans (stored m c t bb B W hB hW hb y ⟨320 + x0.val, by omega⟩ x1 h0 h1)
  · exact (rows4_at _ B W x0 x1).trans (stored m c t bb B W hB hW hb y ⟨256 + x0.val, by omega⟩ x1 h0 h1)
  · exact (rows3_at _ B W x0 x1).trans (stored m c t bb B W hB hW hb y ⟨192 + x0.val, by omega⟩ x1 h0 h1)
  · exact (rows2_at _ B W x0 x1).trans (stored m c t bb B W hB hW hb y ⟨128 + x0.val, by omega⟩ x1 h0 h1)
  · exact (rows1_at _ B W x0 x1).trans (stored m c t bb B W hB hW hb y ⟨64 + x0.val, by omega⟩ x1 h0 h1)
  · exact (rows0_at _ B W x0 x1).trans (stored m c t bb B W hB hW hb y ⟨0 + x0.val, by omega⟩ x1 (h0.trans (Nat.zero_add _).symm) h1)

set_option maxHeartbeats 1600000 in
/-- The last point of a sequence. -/
theorem at_last (hl : t.val % 4 = 3) (y : S512x768.Idx) : outsAt0 m c t.val t.isLt y
    = Cert.CvRefIdeal.Rows.result (xs m c) (ws m c) (bs m c) (((View.whole main_v2).slice (win0_5.rect t)).emb y) := by
  rw [outsAt0_C m c t (by omega) hl]
  frame_out
  canon_tiles x h
  all_goals (idx_vars x)
  all_goals (try simp only [View.readCov_eq_canon'])
  all_goals
    generalize hV : View.canon (Val := Elt Ideal) (s := S528x768) (e := .f32) _ = B
    have hB : ∀ p q, B (ix2 p q) = window m c t p q := fun p q => by
      rw [← hV]; exact window_last m c t hl _ _ _ _ p q
    have hW := blk_w m c t
    have hb := blk_b m c t
    clear hV
    generalize iblk m c 0 t = W at hW ⊢
    generalize iblk m c 1 t = bb at hb ⊢
  · exact (rows7_at _ B W x0 x1).trans (stored m c t bb B W hB hW hb y ⟨448 + x0.val, by omega⟩ x1 h0 h1)
  · exact (rows6_at _ B W x0 x1).trans (stored m c t bb B W hB hW hb y ⟨384 + x0.val, by omega⟩ x1 h0 h1)
  · exact (rows5_at _ B W x0 x1).trans (stored m c t bb B W hB hW hb y ⟨320 + x0.val, by omega⟩ x1 h0 h1)
  · exact (rows4_at _ B W x0 x1).trans (stored m c t bb B W hB hW hb y ⟨256 + x0.val, by omega⟩ x1 h0 h1)
  · exact (rows3_at _ B W x0 x1).trans (stored m c t bb B W hB hW hb y ⟨192 + x0.val, by omega⟩ x1 h0 h1)
  · exact (rows2_at _ B W x0 x1).trans (stored m c t bb B W hB hW hb y ⟨128 + x0.val, by omega⟩ x1 h0 h1)
  · exact (rows1_at _ B W x0 x1).trans (stored m c t bb B W hB hW hb y ⟨64 + x0.val, by omega⟩ x1 h0 h1)
  · exact (rows0_at _ B W x0 x1).trans (stored m c t bb B W hB hW hb y ⟨0 + x0.val, by omega⟩ x1 (h0.trans (Nat.zero_add _).symm) h1)

/-- The kernel's array after the launch is the reference's. -/
theorem final : (dats m 0 c).arrAt 5 (cfgs 0).N = Cert.CvRefIdeal.Rows.result (xs m c) (ws m c) (bs m c) := by
  refine (dats m 0 c).arrAt_eq_of_covers 5 _ (by decide +kernel) fun t _ y => ?_
  blk_simp
  rw [after0_5]
  by_cases hf : t.val % 4 = 0
  · exact at_first m c t hf y
  by_cases hl : t.val % 4 = 3
  · exact at_last m c t hl y
  · exact at_inner m c t hf hl y

end Cert.CvIdeal.Rows
end
-- ==== Proof.CvClaims.lean ====
module

public import proofs.«01_k».proof.Defs
public import proofs.«01_k».proof.Proof.Gen.CvIdeal.Value
public import proofs.«01_k».proof.Proof.Gen.CvRefIdeal.Run
public import proofs.«01_k».proof.Proof.CvValue
public import Idealize.ShloMosaic.Lib.Quiescent

/-! The claims about the convolution: the reference leaves its arguments unchanged and every counter
    at zero, and the kernel's result array is the reference's. -/

@[expose] public section
set_option maxRecDepth 16384
noncomputable section
open Idealize.ShloMosaic Idealize.ShloMosaic.TcCoe Idealize.SL.Sem
namespace Cert.Proof

/-- The reference's run: the arguments unchanged, every semaphore counter back at zero. -/
theorem cvRef_frame : Cert.quiescent_CvRefIdeal (hCvRefIdeal := Cert.CvRefIdeal.Gen.facts) := by
  intro m g _
  exact (θ_run _ _ _).mono (fun r h => ⟨fun c => (h c).2, sem_eq_zero_of_no_sems (by decide) r.2⟩)
    (Cert.CvRefIdeal.Value.run m g)

/-- Kernel and reference end with the same array, from memories that agree on the arguments. -/
theorem cv_algebraic : Cert.algebraic_CvIdeal_CvRefIdeal (hCvIdeal := Cert.CvIdeal.Gen.facts)
    (hCvRefIdeal := Cert.CvRefIdeal.Gen.facts) := by
  intro m g m' g' _ hag
  refine ⟨fun c => Cert.CvRefIdeal.Rows.result (Cert.CvIdeal.Rows.xs m c) (Cert.CvIdeal.Rows.ws m c) (Cert.CvIdeal.Rows.bs m c), ?_, ?_⟩
  · exact (θ_run _ _ _).mono (fun r h c => ⟨(h c).1.trans (Cert.CvIdeal.Rows.final m c), (h c).2⟩)
      (Cert.CvIdeal.Value.run_blocks m g)
  · refine (θ_run _ _ _).mono (fun r h c => ⟨(h c).1.trans ?_, (h c).2⟩) (Cert.CvRefIdeal.Value.run m' g')
    obtain ⟨h0, h1, h2⟩ := hag c
    refine (Cert.CvRefIdeal.Rows.res_eq m' c).trans ?_
    rw [h0, h1, h2]

end Cert.Proof
end
-- ==== Proof.FnRow.lean ====
module

public import Idealize.ShloMosaic.Lib.Pointwise
public import Idealize.ShloMosaic.Lib.Affine
public import Mathlib.Analysis.SpecialFunctions.Trigonometric.Basic

/-! The Fourier transform over the 2048 positions of a sequence, over the extended reals: the angles of the steps,
    the reduction of a step modulo 2048, the sum of two angles, and the transform with the mixer's product. Both
    programs are compared with these functions. -/

@[expose] public section
noncomputable section
open Idealize.ShloMosaic
namespace Cert.FnRow

/-- 2048 steps of the angle `r` are whole turns. -/
def Closes (r : ℝ) : Prop := ∃ n : ℤ, r * 2048 = n * (2 * Real.pi)

/-- The rounded factor of the unitary transform. -/
abbrev factor : EReal := Ideal.ofBits .f32 0x3CB504F3#32

/-- The angle of `n` steps. -/
def angle (t : EReal) (n : ℕ) : EReal := t * ((n : ℝ) : EReal)

/-- The real part of the transform of `x`, whose channels are 256 real parts and 256 negated imaginary parts, at
    position `k` of the spectrum, through the mixer's weights. -/
def mixed (t : EReal) (x : Fin 2048 → Fin 512 → EReal) (w : Fin 256 → Fin 256 → EReal) (k : Fin 2048) (j : Fin 256) : EReal :=
  ∑ c : Fin 256, ((∑ l : Fin 2048, x l ⟨c.val, by omega⟩ * Ideal.cos (angle t (k.val * l.val)))
    + ∑ l : Fin 2048, x l ⟨256 + c.val, by omega⟩ * -Ideal.sin (angle t (k.val * l.val))) * factor * w c j

/-- A step count with its whole turns taken off. -/
theorem reduced (r : ℝ) (h : Closes r) (n : ℕ) :
    Real.cos (r * (n % 2048 : ℕ)) = Real.cos (r * n) ∧ Real.sin (r * (n % 2048 : ℕ)) = Real.sin (r * n) := by
  obtain ⟨z, hz⟩ := h
  have e : r * (n : ℝ) = r * (n % 2048 : ℕ) + ((z * ((n / 2048 : ℕ) : ℤ) : ℤ) : ℝ) * (2 * Real.pi) := by
    have hn : (n : ℝ) = (n % 2048 : ℕ) + 2048 * (n / 2048 : ℕ) := by
      exact_mod_cast (Nat.mod_add_div n 2048).symm
    rw [Int.cast_mul, Int.cast_natCast]
    calc r * (n : ℝ) = r * ((n % 2048 : ℕ) : ℝ) + r * 2048 * ((n / 2048 : ℕ) : ℝ) := by rw [mul_assoc, ← mul_add, ← hn]
      _ = _ := by rw [hz]; ring
  rw [e]
  exact ⟨(Real.cos_add_int_mul_two_pi _ _).symm, (Real.sin_add_int_mul_two_pi _ _).symm⟩

/-- The cosine of `64 a + b` rows' steps from those of `64 a` and of `b` rows, each reduced. -/
theorem cos_sum (r : ℝ) (h : Closes r) (a b l : ℕ) :
    Ideal.cos (angle r (a * 64 * l % 2048)) * Ideal.cos (angle r (b * l % 2048))
      - Ideal.sin (angle r (a * 64 * l % 2048)) * Ideal.sin (angle r (b * l % 2048))
      = Ideal.cos (angle r ((a * 64 + b) * l)) := by
  unfold angle
  simp only [← EReal.coe_mul, Ideal.cos_coe, Ideal.sin_coe, ← EReal.coe_sub]
  rw [(reduced r h _).1, (reduced r h _).1, (reduced r h _).2, (reduced r h _).2, ← Real.cos_add]
  congr 2
  push_cast
  ring

/-- The sine likewise. -/
theorem sin_sum (r : ℝ) (h : Closes r) (a b l : ℕ) :
    Ideal.sin (angle r (a * 64 * l % 2048)) * Ideal.cos (angle r (b * l % 2048))
      + Ideal.cos (angle r (a * 64 * l % 2048)) * Ideal.sin (angle r (b * l % 2048))
      = Ideal.sin (angle r ((a * 64 + b) * l)) := by
  unfold angle
  simp only [← EReal.coe_mul, Ideal.cos_coe, Ideal.sin_coe, ← EReal.coe_add]
  rw [(reduced r h _).1, (reduced r h _).1, (reduced r h _).2, (reduced r h _).2, ← Real.sin_add]
  congr 2
  push_cast
  ring

/-- The factor is a positive real. -/
theorem factor_real : ∃ f : ℝ, 0 ≤ f ∧ factor = (f : EReal) := by
  refine ⟨11863283 / 536870912, by norm_num, ?_⟩
  simp [factor, Ideal.ofBits, Ideal.ieee, -EReal.coe_mul]
  norm_num

/-- A positive real factor of every term is a factor of the sum. -/
theorem sum_factor {ι : Type} [Fintype ι] (f : ℝ) (hf : 0 ≤ f) (g : ι → EReal) :
    (∑ i, g i * (f : EReal)) = (∑ i, g i) * (f : EReal) := by
  classical
  induction (Finset.univ : Finset ι) using Finset.induction_on with
  | empty => simp
  | insert a s ha ih =>
    rw [Finset.sum_insert ha, Finset.sum_insert ha, ih,
      EReal.right_distrib_of_nonneg_of_ne_top (EReal.coe_nonneg.mpr hf) (EReal.coe_ne_top f)]

/-- The transform with the factor inside of the table, the products the other way round. -/
theorem mixed_eq (t : EReal) (x : Fin 2048 → Fin 512 → EReal) (w : Fin 256 → Fin 256 → EReal) (k : Fin 2048) (j : Fin 256) :
    (∑ c : Fin 256, ((∑ l : Fin 2048, Ideal.cos (angle t (k.val * l.val)) * factor * x l ⟨c.val, by omega⟩)
      + ∑ l : Fin 2048, -Ideal.sin (angle t (k.val * l.val)) * factor * x l ⟨256 + c.val, by omega⟩) * w c j)
      = mixed t x w k j := by
  obtain ⟨f, hf, e⟩ := factor_real
  unfold mixed
  rw [e]
  refine Finset.sum_congr rfl fun c _ => congrArg (· * w c j) ?_
  rw [EReal.right_distrib_of_nonneg_of_ne_top (EReal.coe_nonneg.mpr hf) (EReal.coe_ne_top f), ← sum_factor f hf, ← sum_factor f hf]
  congr 1 <;> refine Finset.sum_congr rfl fun l _ => ?_
  · rw [mul_comm, ← mul_assoc]
  · rw [mul_comm, ← mul_assoc]

/-- The product of two positions as words. -/
theorem word_mul (a b : ℕ) (h : a * b < 2 ^ 31) :
    (FloatOps.sitofp .f32 (IntOp.muli (BitVec.ofNat 32 a) (BitVec.ofNat 32 b)) : Ideal .f32) = ((a * b : ℕ) : ℝ) := by
  have e : (IntOp.muli (BitVec.ofNat 32 a) (BitVec.ofNat 32 b)) = BitVec.ofNat 32 (a * b) := (BitVec.ofNat_mul _ _).symm
  show (((IntOp.muli (BitVec.ofNat 32 a) (BitVec.ofNat 32 b)).toInt : ℝ) : EReal) = _
  rw [e, BitVec.toInt_eq_toNat_of_lt (by rw [BitVec.toNat_ofNat]; omega), BitVec.toNat_ofNat, Nat.mod_eq_of_lt (by omega)]
  norm_cast

/-- A step count reduced, as words. -/
theorem word_rem (n : ℕ) (h : n < 2 ^ 31) :
    (FloatOps.sitofp .f32 (IntOp.remsi .host (BitVec.ofNat 32 n) 2048#32) : Ideal .f32) = ((n % 2048 : ℕ) : ℝ) := by
  have e := IntOp.toNat_remsi .host (x := BitVec.ofNat 32 n) (by rw [BitVec.toNat_ofNat]; omega) 2048 (by norm_num) (by norm_num)
  rw [BitVec.toNat_ofNat, Nat.mod_eq_of_lt (show n < 2 ^ 32 by omega)] at e
  show (((IntOp.remsi .host (BitVec.ofNat 32 n) 2048#32).toInt : ℝ) : EReal) = _
  rw [BitVec.toInt_eq_toNat_of_lt (by rw [e]; omega), e]
  norm_cast

end Cert.FnRow
end
-- ==== Proof.FnPre.lean ====
module

public import proofs.«01_k».proof.Proof.FnRow
public import proofs.«01_k».proof.Proof.Gen.Pre_steps_close
public import Mathlib.Analysis.SpecialFunctions.Trigonometric.Complex

/-! The precondition, read: the angle of a step is a real, and 2048 steps are whole turns. -/

@[expose] public section
noncomputable section
open Idealize.ShloMosaic Idealize.ShloMosaic.TcCoe
namespace Cert.Pre_steps_close.Rows
open Cert.Pre_steps_close Cert.Pre_steps_close.Gen Cert.FnRow

/-- An angle whose product with 2048 has cosine 1. -/
theorem closes_of_cos (t : EReal)
    (h : Ideal.cmp .oeq (Ideal.cos (t * Ideal.ofBits .f32 0x45000000#32)) (Ideal.ofBits .f32 0x3F800000#32) = 1#1) :
    ∃ r : ℝ, Closes r ∧ t = (r : EReal) := by
  have hl : Ideal.ofBits .f32 0x45000000#32 = ((2048 : ℝ) : EReal) := by
    simp [Ideal.ofBits, Ideal.ieee, -EReal.coe_mul]; norm_num
  have h1 : Ideal.ofBits .f32 0x3F800000#32 = ((1 : ℝ) : EReal) := by
    simp [Ideal.ofBits, Ideal.ieee, -EReal.coe_mul]; norm_num
  rw [hl, h1] at h
  have hc : Ideal.cos (t * ((2048 : ℝ) : EReal)) = ((1 : ℝ) : EReal) := by
    by_contra hne
    simp only [Ideal.cmp, decide_eq_false hne] at h
    exact absurd h (by decide)
  induction t using EReal.rec with
  | bot => rw [EReal.bot_mul_coe_of_pos (by norm_num)] at hc; exact absurd hc (EReal.bot_ne_coe 1)
  | top => rw [EReal.top_mul_coe_of_pos (by norm_num)] at hc; exact absurd hc (EReal.bot_ne_coe 1)
  | coe r =>
    rw [← EReal.coe_mul, Ideal.cos_coe, EReal.coe_eq_coe_iff, Real.cos_eq_one_iff] at hc
    obtain ⟨n, hn⟩ := hc
    exact ⟨r, ⟨n, hn.symm⟩, rfl⟩

/-- What the precondition says of the angle of a step. -/
theorem decode (a0 : FVec Ideal S32768x512 .f32) (a1 : FVec Ideal S256x256 .f32) (a2 : FVec Ideal S_ .f32)
    (h : fn a0 a1 a2 = fun _ => 1#1) : ∃ r : ℝ, Closes r ∧ a2 ix0 = (r : EReal) :=
  closes_of_cos _ (congrFun h ix0)

end Cert.Pre_steps_close.Rows
end
-- ==== Proof.FnHost.lean ====
module

public import proofs.«01_k».proof.Proof.FnRow
public import proofs.«01_k».proof.Proof.Gen.FnIdeal.Frame

/-! What the host operations before the launch of the Fourier mixer leave in the arrays it reads: the table of the
    cosines and of the negated sines of all pairs of positions, made from two coarser tables. -/

@[expose] public section
set_option maxRecDepth 16384
noncomputable section
open Idealize.ShloMosaic Idealize.ShloMosaic.TcCoe Idealize.SL.Sem
namespace Cert.FnIdeal.Rows
open Cert.FnIdeal Cert.FnIdeal.Gen Cert.FnRow

/-- The angles of every 64th position with every position, the steps reduced. -/
def coarse (t : FVec Ideal S_ .f32) : FVec Ideal S32x2048 .f32 :=
  mulf (broadcastInDim S32x2048 ![] bcast_S_S32x2048 t) (sitofp .f32 (Host.remsi
    (muli (broadcastInDim S32x2048 ![0, 1] bcast_S32x1_S32x2048_0_1 (muli (broadcastInDim S32x1 ![0] bcast_S32_S32x1_0 (iotaInDim S32 32 0))
        (broadcastInDim S32x1 ![] bcast_S_S32x1 (constantI S_ 32 64#32))))
      (broadcastInDim S32x2048 ![0, 1] bcast_S1x2048_S32x2048_0_1 (broadcastInDim S1x2048 ![1] bcast_S2048_S1x2048_1 (iotaInDim S2048 32 0))))
    (broadcastInDim S32x2048 ![] bcast_S_S32x2048 (constantI S_ 32 2048#32))))

/-- The angles of the first 64 positions with every position, the steps reduced. -/
def fine (t : FVec Ideal S_ .f32) : FVec Ideal S64x2048 .f32 :=
  mulf (broadcastInDim S64x2048 ![] bcast_S_S64x2048 t) (sitofp .f32 (Host.remsi
    (muli (broadcastInDim S64x2048 ![0, 1] bcast_S64x1_S64x2048_0_1 (broadcastInDim S64x1 ![0] bcast_S64_S64x1_0 (iotaInDim S64 32 0)))
      (broadcastInDim S64x2048 ![0, 1] bcast_S1x2048_S64x2048_0_1 (broadcastInDim S1x2048 ![1] bcast_S2048_S1x2048_1 (iotaInDim S2048 32 0))))
    (broadcastInDim S64x2048 ![] bcast_S_S64x2048 (constantI S_ 32 2048#32))))

/-- All products of a row of the coarse table and a row of the fine one, lane by lane. -/
def pairs (a : FVec Ideal S32x2048 .f32) (b : FVec Ideal S64x2048 .f32) : FVec Ideal S32x64x2048 .f32 :=
  mulf (broadcastInDim S32x64x2048 ![0, 1, 2] bcast_S32x1x2048_S32x64x2048_0_1_2 (broadcastInDim S32x1x2048 ![0, 2] bcast_S32x2048_S32x1x2048_0_2 a))
    (broadcastInDim S32x64x2048 ![0, 1, 2] bcast_S1x64x2048_S32x64x2048_0_1_2 (broadcastInDim S1x64x2048 ![1, 2] bcast_S64x2048_S1x64x2048_1_2 b))

/-- The cosines of all pairs of positions. -/
def cosines (t : FVec Ideal S_ .f32) : FVec Ideal S2048x2048 .f32 :=
  shapeCast S2048x2048 (subf (pairs (Host.cos (coarse t)) (Host.cos (fine t))) (pairs (Host.sin (coarse t)) (Host.sin (fine t))))
    shapeCasts_S32x64x2048_S2048x2048

/-- The sines of all pairs of positions. -/
def sines (t : FVec Ideal S_ .f32) : FVec Ideal S2048x2048 .f32 :=
  shapeCast S2048x2048 (addf (pairs (Host.sin (coarse t)) (Host.cos (fine t))) (pairs (Host.cos (coarse t)) (Host.sin (fine t))))
    shapeCasts_S32x64x2048_S2048x2048

/-- The two tables side by side, the second negated, times the factor. -/
def table (y z : FVec Ideal S2048x2048 .f32) : FVec Ideal S2048x4096 .bf16 :=
  truncf .bf16 (mulf (concatenate S2048x4096 1 [⟨S2048x2048, y⟩, ⟨S2048x2048, Host.negf z⟩] concatenates_S2048x2048_S2048x2048_S2048x4096_d1)
    (broadcastInDim S2048x4096 ![] bcast_S_S2048x4096 (constant S_ .f32 0x3CB504F3#32))) bitsLt_bf16_f32

/-- A coarse angle at an index. -/
theorem coarse_at (t : FVec Ideal S_ .f32) (a : Fin 32) (l : Fin 2048) :
    coarse t (ix2 a l) = angle (t ix0) (a.val * 64 * l.val % 2048) := by
  have e : IntOp.muli (IntOp.muli (BitVec.ofNat 32 a.val) 64#32) (BitVec.ofNat 32 l.val) = BitVec.ofNat 32 (a.val * 64 * l.val) :=
    (congrArg (IntOp.muli · (BitVec.ofNat 32 l.val)) (BitVec.ofNat_mul a.val 64).symm).trans (BitVec.ofNat_mul _ _).symm
  unfold angle
  rw [← word_rem (a.val * 64 * l.val) (by have := a.isLt; have := l.isLt; nlinarith), ← e]
  pointwise [coarse]

/-- A fine angle at an index. -/
theorem fine_at (t : FVec Ideal S_ .f32) (b : Fin 64) (l : Fin 2048) :
    fine t (ix2 b l) = angle (t ix0) (b.val * l.val % 2048) := by
  have e : IntOp.muli (BitVec.ofNat 32 b.val) (BitVec.ofNat 32 l.val) = BitVec.ofNat 32 (b.val * l.val) :=
    (BitVec.ofNat_mul _ _).symm
  unfold angle
  rw [← word_rem (b.val * l.val) (by have := b.isLt; have := l.isLt; nlinarith), ← e]
  pointwise [fine]

/-- A product of rows at an index. -/
theorem pairs_at (a : FVec Ideal S32x2048 .f32) (b : FVec Ideal S64x2048 .f32) (i : Fin 32) (j : Fin 64) (l : Fin 2048) :
    pairs a b (ix3 i j l) = a (ix2 i l) * b (ix2 j l) := by
  pointwise [pairs]

/-- A difference of products, its rows listed in one line. -/
theorem listed_sub (y z : FVec Ideal S32x64x2048 .f32) (k l : Fin 2048) :
    shapeCast S2048x2048 (subf y z) shapeCasts_S32x64x2048_S2048x2048 (ix2 k l)
      = y (ix3 ⟨k.val / 64, by omega⟩ ⟨k.val % 64, by omega⟩ l) - z (ix3 ⟨k.val / 64, by omega⟩ ⟨k.val % 64, by omega⟩ l) := by
  pointwise []

/-- A sum of products, its rows listed in one line. -/
theorem listed_add (y z : FVec Ideal S32x64x2048 .f32) (k l : Fin 2048) :
    shapeCast S2048x2048 (addf y z) shapeCasts_S32x64x2048_S2048x2048 (ix2 k l)
      = y (ix3 ⟨k.val / 64, by omega⟩ ⟨k.val % 64, by omega⟩ l) + z (ix3 ⟨k.val / 64, by omega⟩ ⟨k.val % 64, by omega⟩ l) := by
  pointwise []

/-- A cosine of the table: that of the unreduced angle. -/
theorem cosines_at (t : FVec Ideal S_ .f32) (r : ℝ) (hr : Closes r) (ht : t ix0 = (r : EReal)) (k l : Fin 2048) :
    cosines t (ix2 k l) = Ideal.cos (angle r (k.val * l.val)) := by
  unfold cosines
  rw [listed_sub, pairs_at, pairs_at]
  have hc := coarse_at t ⟨k.val / 64, by omega⟩ l
  have hf := fine_at t ⟨k.val % 64, by omega⟩ l
  rw [ht] at hc hf
  show Ideal.cos (coarse t _) * Ideal.cos (fine t _) - Ideal.sin (coarse t _) * Ideal.sin (fine t _) = _
  rw [hc, hf]
  refine (cos_sum r hr (k.val / 64) (k.val % 64) l.val).trans ?_
  rw [Nat.div_add_mod']

/-- A sine of the table. -/
theorem sines_at (t : FVec Ideal S_ .f32) (r : ℝ) (hr : Closes r) (ht : t ix0 = (r : EReal)) (k l : Fin 2048) :
    sines t (ix2 k l) = Ideal.sin (angle r (k.val * l.val)) := by
  unfold sines
  rw [listed_add, pairs_at, pairs_at]
  have hc := coarse_at t ⟨k.val / 64, by omega⟩ l
  have hf := fine_at t ⟨k.val % 64, by omega⟩ l
  rw [ht] at hc hf
  show Ideal.sin (coarse t _) * Ideal.cos (fine t _) + Ideal.cos (coarse t _) * Ideal.sin (fine t _) = _
  rw [hc, hf]
  refine (sin_sum r hr (k.val / 64) (k.val % 64) l.val).trans ?_
  rw [Nat.div_add_mod']

/-- The left half of the table. -/
theorem table_left (y z : FVec Ideal S2048x2048 .f32) (k l : Fin 2048) :
    table y z (ix2 k ⟨l.val, by omega⟩) = y (ix2 k l) * factor := by
  pointwise [table, factor]

/-- The right half of the table. -/
theorem table_right (y z : FVec Ideal S2048x2048 .f32) (k l : Fin 2048) :
    table y z (ix2 k ⟨2048 + l.val, by omega⟩) = -z (ix2 k l) * factor := by
  pointwise [table, factor]

variable (m : (ℓ : Loc nD τ sig) → Buf (Elt Ideal) ℓ)

set_option maxHeartbeats 1600000 in
/-- The channels' transform as the launch finds it. -/
theorem V_x (c : Dev nD) : V m c main_v0
    = (truncf .bf16 (m ((c : Thread nD τ).loc main_arg0) : FVec Ideal S32768x512 .f32) bitsLt_bf16_f32 : FVec Ideal S32768x512 .bf16) := rfl
set_option maxHeartbeats 1600000 in
/-- The mixer's weights as the launch finds them. -/
theorem V_w (c : Dev nD) : V m c main_v74
    = (truncf .bf16 (m ((c : Thread nD τ).loc main_arg1) : FVec Ideal S256x256 .f32) bitsLt_bf16_f32 : FVec Ideal S256x256 .bf16) := rfl
set_option maxHeartbeats 1600000 in
/-- The table as the launch finds it. -/
theorem V_t (c : Dev nD) : V m c main_v73 = table (cosines (m ((c : Thread nD τ).loc main_arg2))) (sines (m ((c : Thread nD τ).loc main_arg2))) := rfl

end Cert.FnIdeal.Rows
end
-- ==== Proof.FnRefValue.lean ====
module

public import proofs.«01_k».proof.Proof.FnRow
public import proofs.«01_k».proof.Proof.Gen.FnRefIdeal.Run

/-! The reference of the Fourier mixer, stage by stage, and every stage at an index. -/

@[expose] public section
set_option maxRecDepth 16384
noncomputable section
open Idealize.ShloMosaic Idealize.ShloMosaic.TcCoe Idealize.SL.Sem
namespace Cert.FnRefIdeal.Rows
open Cert.FnRefIdeal Cert.FnRefIdeal.Gen Cert.FnRow

/-- The angles of all pairs of positions. -/
def angles (t : FVec Ideal S_ .f32) : FVec Ideal S2048x2048 .f32 :=
  mulf (broadcastInDim S2048x2048 ![] bcast_S_S2048x2048 t) (sitofp .f32
    (muli (broadcastInDim S2048x2048 ![0, 1] bcast_S2048x1_S2048x2048_0_1 (broadcastInDim S2048x1 ![0] bcast_S2048_S2048x1_0 (iotaInDim S2048 32 0)))
      (broadcastInDim S2048x2048 ![0, 1] bcast_S1x2048_S2048x2048_0_1 (broadcastInDim S1x2048 ![1] bcast_S2048_S1x2048_1 (iotaInDim S2048 32 0)))))

/-- The first 256 channels of every sequence through a matrix over the positions. -/
def left (x : FVec Ideal S32768x512 .f32) (a : FVec Ideal S2048x2048 .f32) : FVec Ideal S16x2048x256 .f32 :=
  transpose S16x2048x256 [0, 2, 1] (Host.dotGeneral dot_S16x2048x256_S2048x2048_S16x256x2048_1_1_02_0_n_n none
    (extractStridedSlice S16x2048x256 ![0, 0, 0] (shapeCast S16x2048x512 x shapeCasts_S32768x512_S16x2048x512) slices_S16x2048x512_S16x2048x256_0_0_0) a)
    transposes_S16x256x2048_S16x2048x256_0_2_1

/-- The last 256 channels likewise. -/
def right (x : FVec Ideal S32768x512 .f32) (a : FVec Ideal S2048x2048 .f32) : FVec Ideal S16x2048x256 .f32 :=
  transpose S16x2048x256 [0, 2, 1] (Host.dotGeneral dot_S16x2048x256_S2048x2048_S16x256x2048_1_1_02_0_n_n none
    (extractStridedSlice S16x2048x256 ![0, 0, 256] (shapeCast S16x2048x512 x shapeCasts_S32768x512_S16x2048x512) slices_S16x2048x512_S16x2048x256_0_0_256) a)
    transposes_S16x256x2048_S16x2048x256_0_2_1

/-- The sum of both, times the factor, through the mixer's weights. -/
def joined (y z : FVec Ideal S16x2048x256 .f32) (w : FVec Ideal S256x256 .f32) : FVec Ideal S32768x256 .bf16 :=
  truncf .bf16 (Host.dotGeneral dot_S32768x256_S256x256_S32768x256_1_0_0_1_n_n none (shapeCast S32768x256
    (mulf (addf y z) (broadcastInDim S16x2048x256 ![] bcast_S_S16x2048x256 (constant S_ .f32 0x3CB504F3#32)))
    shapeCasts_S16x2048x256_S32768x256) w) bitsLt_bf16_f32

/-- The reference's result. -/
def result (x : FVec Ideal S32768x512 .f32) (w : FVec Ideal S256x256 .f32) (t : FVec Ideal S_ .f32) : FVec Ideal S32768x256 .bf16 :=
  joined (left x (Host.cos (angles t))) (right x (Host.negf (Host.sin (angles t)))) w

/-- An angle at an index. -/
theorem angles_at (t : FVec Ideal S_ .f32) (k l : Fin 2048) : angles t (ix2 k l) = angle (t ix0) (k.val * l.val) := by
  unfold angle
  rw [← word_mul k.val l.val (by have := k.isLt; have := l.isLt; nlinarith)]
  pointwise [angles]

/-- The first channels' sum at an index. -/
theorem left_at (x : FVec Ideal S32768x512 .f32) (a : FVec Ideal S2048x2048 .f32) (b : Fin 16) (k : Fin 2048) (c : Fin 256) :
    left x a (ix3 b k c) = ∑ l : Fin 2048, x (ix2 ⟨b.val * 2048 + l.val, by omega⟩ ⟨c.val, by omega⟩) * a (ix2 k l) := by
  pointwise [left]

/-- The last channels' sum at an index. -/
theorem right_at (x : FVec Ideal S32768x512 .f32) (a : FVec Ideal S2048x2048 .f32) (b : Fin 16) (k : Fin 2048) (c : Fin 256) :
    right x a (ix3 b k c) = ∑ l : Fin 2048, x (ix2 ⟨b.val * 2048 + l.val, by omega⟩ ⟨256 + c.val, by omega⟩) * a (ix2 k l) := by
  pointwise [right]

/-- The mixer's product at an index. -/
theorem joined_at (y z : FVec Ideal S16x2048x256 .f32) (w : FVec Ideal S256x256 .f32) (b : Fin 16) (k : Fin 2048) (j : Fin 256) :
    joined y z w (ix2 ⟨b.val * 2048 + k.val, by omega⟩ j)
      = ∑ c : Fin 256, (y (ix3 b k c) + z (ix3 b k c)) * factor * w (ix2 c j) := by
  pointwise [joined, factor]

/-- The reference at an index. -/
theorem result_at (x : FVec Ideal S32768x512 .f32) (w : FVec Ideal S256x256 .f32) (t : FVec Ideal S_ .f32)
    (b : Fin 16) (k : Fin 2048) (j : Fin 256) :
    result x w t (ix2 ⟨b.val * 2048 + k.val, by omega⟩ j)
      = mixed (t ix0) (fun l q => x (ix2 ⟨b.val * 2048 + l.val, by omega⟩ q)) (fun c j => w (ix2 c j)) k j := by
  unfold result mixed
  rw [joined_at]
  refine Finset.sum_congr rfl fun c _ => ?_
  rw [left_at, right_at]
  simp only [← angles_at]
  rfl

end Cert.FnRefIdeal.Rows
end
-- ==== Proof.FnValue.lean ====
module

public import proofs.«01_k».proof.Proof.FnHost
public import proofs.«01_k».proof.Proof.FnRefValue
public import proofs.«01_k».proof.Proof.Gen.FnIdeal.Value
public import Idealize.ShloMosaic.Lib.Pipeline.ValueKit
public import Idealize.ShloMosaic.Lib.Claim

/-! The kernel of the Fourier mixer: what the body computes from its blocks, which parts of the arrays the blocks are,
    and that the result array is the reference's. A grid point works on 512 positions of one sequence's spectrum. -/

@[expose] public section
set_option maxRecDepth 16384
noncomputable section
open Idealize.ShloMosaic Idealize.ShloMosaic.TcCoe Idealize.SL.Sem
open Idealize.ShloMosaic.Pipeline (Dat)
namespace Cert.FnIdeal.Rows
open Cert.FnIdeal Cert.FnIdeal.Gen Cert.FnRow

/-- The body's result at an index. -/
theorem pay1_at (v0 v5 : FVec Ideal S512x2048 .bf16) (v2 v7 : FVec Ideal S2048x256 .bf16) (v12 : FVec Ideal S256x256 .bf16)
    (i : Fin 512) (j : Fin 256) :
    k0_pay1 (F := Ideal) v0 v2 v5 v7 v12 (ix2 i j)
      = ∑ c : Fin 256, ((∑ l : Fin 2048, v0 (ix2 i l) * v2 (ix2 l c)) + ∑ l : Fin 2048, v5 (ix2 i l) * v7 (ix2 l c)) * v12 (ix2 c j) := by
  pointwise [k0_pay1]

/-- Which block of its array every window takes at a grid point. -/
theorem idx : ∀ t : Fin cfg0.N,
    win0_0.index t = ![t.val / 16, 0] ∧ win0_1.index t = ![t.val % 16, 0] ∧ win0_2.index t = ![0, 0]
    ∧ win0_3.index t = ![t.val % 16 * 4 + t.val / 16, 0] :=
  (by decide +kernel : ∀ t : Fin grid0.N, _)

/-- There are 64 grid points. -/
theorem point_lt (t : Fin cfg0.N) : t.val < 64 := by
  have := t.isLt; have : cfg0.N = 64 := by decide +kernel
  omega

/-- The sequence a grid point works on. -/
abbrev seqOf (t : Fin cfg0.N) : Fin 16 := ⟨t.val % 16, by omega⟩
/-- The position of a row of the block in its sequence. -/
abbrev posOf (t : Fin cfg0.N) (i : Fin 512) : Fin 2048 := ⟨t.val / 16 * 512 + i.val, by have := point_lt t; omega⟩

variable (m : (ℓ : Loc nD τ sig) → Buf (Elt Ideal) ℓ) (c : Dev nD)

/-- The channels' transform. -/
abbrev xs : FVec Ideal Cert.FnRefIdeal.S32768x512 .f32 := m ((c : Thread nD τ).loc main_arg0)
/-- The mixer's weights. -/
abbrev ws : FVec Ideal Cert.FnRefIdeal.S256x256 .f32 := m ((c : Thread nD τ).loc main_arg1)
/-- The angle of a step. -/
abbrev turn : FVec Ideal Cert.FnRefIdeal.S_ .f32 := m ((c : Thread nD τ).loc main_arg2)

variable (t : Fin cfg0.N)

set_option maxHeartbeats 1600000 in
/-- The block of the table. -/
theorem blk_t (i : Fin 512) (l : Fin 4096) : (iblk m c 0 t : FVec Ideal S512x4096 .bf16) (ix2 i l)
    = table (cosines (turn m c)) (sines (turn m c)) (ix2 (posOf t i) l) := by
  have e : ((cfg0.win 0).blk t).view.emb (ix2 i l : S512x4096.Idx) = (ix2 (posOf t i) l : S2048x4096.Idx) := by
    blk_ext [idx t]
  refine Eq.trans (congrArg (V m c main_v73) e) ?_
  rw [V_t m c]

set_option maxHeartbeats 1600000 in
/-- The block of the channels' transform. -/
theorem blk_x (l : Fin 2048) (q : Fin 512) : (iblk m c 1 t : FVec Ideal S2048x512 .bf16) (ix2 l q)
    = xs m c (ix2 ⟨t.val % 16 * 2048 + l.val, by omega⟩ q) := by
  have e : ((cfg0.win 1).blk t).view.emb (ix2 l q : S2048x512.Idx)
      = (ix2 (⟨t.val % 16 * 2048 + l.val, by omega⟩ : Fin 32768) q : S32768x512.Idx) := by
    blk_ext [idx t]
  refine Eq.trans (congrArg (V m c main_v0) e) ?_
  rw [V_x m c]
  rfl

set_option maxHeartbeats 1600000 in
/-- The block of the weights. -/
theorem blk_w (p q : Fin 256) : (iblk m c 2 t : FVec Ideal S256x256 .bf16) (ix2 p q) = ws m c (ix2 p q) := by
  have e : ((cfg0.win 2).blk t).view.emb (ix2 p q : S256x256.Idx) = (ix2 p q : S256x256.Idx) := by
    blk_ext [idx t]
  refine Eq.trans (congrArg (V m c main_v74) e) ?_
  rw [V_w m c]
  rfl

/-- What the body computes from its blocks is the reference's, when 2048 steps are whole turns. -/
theorem stored (r : ℝ) (hr : Closes r) (ht : turn m c ix0 = (r : EReal))
    (v0 v5 : FVec Ideal S512x2048 .bf16) (v2 v7 : FVec Ideal S2048x256 .bf16)
    (h0 : ∀ (i : Fin 512) (l : Fin 2048), v0 (ix2 i l) = (iblk m c 0 t : FVec Ideal S512x4096 .bf16) (ix2 i ⟨l.val, by omega⟩))
    (h5 : ∀ (i : Fin 512) (l : Fin 2048), v5 (ix2 i l) = (iblk m c 0 t : FVec Ideal S512x4096 .bf16) (ix2 i ⟨2048 + l.val, by omega⟩))
    (h2 : ∀ (l : Fin 2048) (q : Fin 256), v2 (ix2 l q) = (iblk m c 1 t : FVec Ideal S2048x512 .bf16) (ix2 l ⟨q.val, by omega⟩))
    (h7 : ∀ (l : Fin 2048) (q : Fin 256), v7 (ix2 l q) = (iblk m c 1 t : FVec Ideal S2048x512 .bf16) (ix2 l ⟨256 + q.val, by omega⟩))
    (i : Fin 512) (j : Fin 256) :
    k0_pay1 (F := Ideal) v0 v2 v5 v7 (iblk m c 2 t) (ix2 i j)
      = Cert.FnRefIdeal.Rows.result (xs m c) (ws m c) (turn m c) (ix2 ⟨t.val % 16 * 2048 + (posOf t i).val, by omega⟩ j) := by
  refine (pay1_at _ _ _ _ _ i j).trans
    (Eq.trans ?_ (Cert.FnRefIdeal.Rows.result_at (xs m c) (ws m c) (turn m c) (seqOf t) (posOf t i) j).symm)
  rw [ht, ← mixed_eq]
  refine Finset.sum_congr rfl fun p _ => ?_
  rw [blk_w m c t p j]
  congr 2
  · refine Finset.sum_congr rfl fun l _ => ?_
    rw [h0, h2, blk_t, blk_x, table_left, cosines_at _ r hr ht]
  · refine Finset.sum_congr rfl fun l _ => ?_
    rw [h5, h7, blk_t, blk_x, table_right, sines_at _ r hr ht]

set_option maxHeartbeats 1600000 in
/-- The kernel's array after the launch is the reference's, when 2048 steps are whole turns. -/
theorem final (r : ℝ) (hr : Closes r) (ht : turn m c ix0 = (r : EReal)) :
    (dats m 0 c).arrAt 3 (cfgs 0).N = Cert.FnRefIdeal.Rows.result (xs m c) (ws m c) (turn m c) := by
  refine (dats m 0 c).arrAt_eq_of_covers 3 _ (by decide +kernel) fun t _ y => ?_
  blk_simp
  rw [after0_3]; unfold out0_3; frame_out
  idx_vars y
  have e : ((cfg0.win 3).blk t).view.emb (ix2 y0 y1 : S512x256.Idx)
      = (ix2 (⟨t.val % 16 * 2048 + (posOf t y0).val, by omega⟩ : Fin 32768) y1 : S32768x256.Idx) := by
    blk_ext [idx t]
  refine Eq.trans ?_ (congrArg (Cert.FnRefIdeal.Rows.result (xs m c) (ws m c) (turn m c)) e).symm
  refine stored m c t r hr ht _ _ _ _ (fun i l => ?_) (fun i l => ?_) (fun l q => ?_) (fun l q => ?_) y0 y1
  · generalize iblk m c 0 t = B
    pointwise []
  · generalize iblk m c 0 t = B
    pointwise []
  · generalize iblk m c 1 t = B
    pointwise []
  · generalize iblk m c 1 t = B
    pointwise []

end Cert.FnIdeal.Rows
end
-- ==== Proof.FnClaims.lean ====
module

public import proofs.«01_k».proof.Defs
public import proofs.«01_k».proof.Proof.Gen.FnIdeal.Value
public import proofs.«01_k».proof.Proof.Gen.FnRefIdeal.Run
public import proofs.«01_k».proof.Proof.FnPre
public import proofs.«01_k».proof.Proof.FnValue
public import Idealize.ShloMosaic.Lib.Quiescent

/-! The claims about the Fourier mixer: the reference leaves its arguments unchanged and every counter at zero, and
    when 2048 steps are whole turns the kernel's result array is the reference's. -/

@[expose] public section
set_option maxRecDepth 16384
noncomputable section
open Idealize.ShloMosaic Idealize.ShloMosaic.TcCoe Idealize.SL.Sem
namespace Cert.Proof

/-- The reference's run: the arguments unchanged, every semaphore counter back at zero. -/
theorem fnRef_frame : Cert.quiescent_FnRefIdeal (hFnRefIdeal := Cert.FnRefIdeal.Gen.facts) := by
  intro m g _
  exact (θ_run _ _ _).mono (fun r h => ⟨fun c => (h c).2, sem_eq_zero_of_no_sems (by decide) r.2⟩)
    (Cert.FnRefIdeal.Value.run m g)

/-- Kernel and reference end with the same array, from memories that agree on the arguments and whose angle of a step
    makes whole turns of 2048 steps. -/
theorem fn_algebraic : Cert.algebraic_FnIdeal_FnRefIdeal_pre_steps_close (hFnIdeal := Cert.FnIdeal.Gen.facts)
    (hFnRefIdeal := Cert.FnRefIdeal.Gen.facts) (hPre_steps_close := Cert.Pre_steps_close.Gen.facts) := by
  intro m g m' g' hpre hag
  refine ⟨fun c => Cert.FnRefIdeal.Rows.result (Cert.FnIdeal.Rows.xs m c) (Cert.FnIdeal.Rows.ws m c) (Cert.FnIdeal.Rows.turn m c), ?_, ?_⟩
  · refine (θ_run _ _ _).mono (fun r h c => ⟨(h c).1.trans ?_, (h c).2⟩) (Cert.FnIdeal.Value.run_blocks m g)
    obtain ⟨a, ha, ht⟩ := Cert.Pre_steps_close.Rows.decode _ _ _ (hpre c)
    exact Cert.FnIdeal.Rows.final m c a ha ht
  · refine (θ_run _ _ _).mono (fun r h c => ⟨(h c).1.trans ?_, (h c).2⟩) (Cert.FnRefIdeal.Value.run m' g')
    obtain ⟨h0, h1, h2⟩ := hag c
    rw [h0, h1, h2]
    rfl

end Cert.Proof
end
-- ==== Proof.MidRefValue.lean ====
module

public import proofs.«01_k».proof.Proof.FfnRow
public import proofs.«01_k».proof.Proof.Gen.MidRefIdeal.Run

/-! The reference of a middle layer's end: the array its operations compute is, row by row,
    `Cert.MidRefIdeal.Rows.inner`, the tail of a row without the last normalisation. -/

@[expose] public section
set_option maxRecDepth 16384
noncomputable section
open Idealize.ShloMosaic Idealize.ShloMosaic.TcCoe Idealize.SL.Sem
namespace Cert.MidRefIdeal.Rows
open Cert.MidRefIdeal Cert.MidRefIdeal.Gen Cert.FfnRow

/-- The end of a middle layer for one row: the tail without its last normalisation. -/
def inner (x : Fin 1024 → EReal) (a b c d : Fin 256 → EReal) (wo : Fin 1024 → Fin 1024 → EReal)
    (g : Fin 1024 → EReal) (wg wu : Fin 1024 → Fin 2816 → EReal) (wd : Fin 2816 → Fin 1024 → EReal) :
    Fin 1024 → EReal :=
  gated (mix x a b c d wo) (proj (rms (mix x a b c d wo) g) wg) (proj (rms (mix x a b c d wo) g) wu) wd

/-- The residual stream after the output projection. -/
def stream (x : FVec Ideal S32768x1024 .f32) (a b c d : FVec Ideal S32768x256 .f32)
    (w : FVec Ideal S1024x1024 .f32) : FVec Ideal S32768x1024 .f32 :=
  addf x (Host.dotGeneral dot_S32768x1024_S1024x1024_S32768x1024_1_0_0_1_n_n none
    (concatenate S32768x1024 1 [⟨S32768x256, a⟩, ⟨S32768x256, b⟩, ⟨S32768x256, c⟩, ⟨S32768x256, d⟩]
      concatenates_S32768x256_S32768x256_S32768x256_S32768x256_S32768x1024_d1) w)

/-- RMS normalisation of every row. -/
def normed (x : FVec Ideal S32768x1024 .f32) (g : FVec Ideal S1024 .f32) : FVec Ideal S32768x1024 .f32 :=
  mulf (mulf x (broadcastInDim S32768x1024 ![0, 1] bcast_S32768x1_S32768x1024_0_1 (Host.rsqrt (addf
    (Host.divf (broadcastInDim S32768x1 ![0] bcast_S32768_S32768x1_0
      (Host.reduceAdd (mulf x x) (constant S_ .f32 0x00000000#32) reducesTo_S32768x1024_S32768_d1 h_S_))
      (broadcastInDim S32768x1 ![] bcast_S_S32768x1 (constant S_ .f32 0x44800000#32)))
    (broadcastInDim S32768x1 ![] bcast_S_S32768x1 (constant S_ .f32 0x358637BD#32))))))
    (broadcastInDim S32768x1024 ![0, 1] bcast_S1x1024_S32768x1024_0_1
      (broadcastInDim S1x1024 ![1] bcast_S1024_S1x1024_1 g))

/-- The feed-forward network's first products. -/
def hidden (h : FVec Ideal S32768x1024 .f32) (w : FVec Ideal S1024x2816 .f32) : FVec Ideal S32768x2816 .f32 :=
  Host.dotGeneral dot_S32768x1024_S1024x2816_S32768x2816_1_0_0_1_n_n none h w

/-- The gated feed-forward step with its residual. -/
def ffn (x : FVec Ideal S32768x1024 .f32) (u v : FVec Ideal S32768x2816 .f32)
    (w : FVec Ideal S2816x1024 .f32) : FVec Ideal S32768x1024 .f32 :=
  addf x (Host.dotGeneral dot_S32768x2816_S2816x1024_S32768x1024_1_0_0_1_n_n none
    (mulf (mulf u (Host.divf (broadcastInDim S32768x2816 ![] bcast_S_S32768x2816 (constant S_ .f32 0x3F800000#32))
      (addf (broadcastInDim S32768x2816 ![] bcast_S_S32768x2816 (constant S_ .f32 0x3F800000#32))
        (Host.exp (Host.negf u))))) v) w)

/-- The reference's result, stage by stage. -/
def result (x : FVec Ideal S32768x1024 .f32) (a b c d : FVec Ideal S32768x256 .f32)
    (wo : FVec Ideal S1024x1024 .f32) (g : FVec Ideal S1024 .f32) (wg wu : FVec Ideal S1024x2816 .f32)
    (wd : FVec Ideal S2816x1024 .f32) : FVec Ideal S32768x1024 .f32 :=
  ffn (stream x a b c d wo) (hidden (normed (stream x a b c d wo) g) wg)
    (hidden (normed (stream x a b c d wo) g) wu) wd

theorem stream_at (x : FVec Ideal S32768x1024 .f32) (a b c d : FVec Ideal S32768x256 .f32)
    (w : FVec Ideal S1024x1024 .f32) (r : Fin 32768) (j : Fin 1024) :
    stream x a b c d w (ix2 r j) = mix (fun k => x (ix2 r k)) (fun k => a (ix2 r k)) (fun k => b (ix2 r k))
      (fun k => c (ix2 r k)) (fun k => d (ix2 r k)) (fun k j => w (ix2 k j)) j := by
  pointwise [stream, mix, side]

theorem normed_at (x : FVec Ideal S32768x1024 .f32) (g : FVec Ideal S1024 .f32) (r : Fin 32768) (j : Fin 1024) :
    normed x g (ix2 r j) = rms (fun k => x (ix2 r k)) (fun k => g (ix1 k)) j := by
  pointwise [normed, rms]

theorem hidden_at (h : FVec Ideal S32768x1024 .f32) (w : FVec Ideal S1024x2816 .f32) (r : Fin 32768) (j : Fin 2816) :
    hidden h w (ix2 r j) = proj (fun k => h (ix2 r k)) (fun k j => w (ix2 k j)) j := by
  pointwise [hidden, proj]

theorem ffn_at (x : FVec Ideal S32768x1024 .f32) (u v : FVec Ideal S32768x2816 .f32)
    (w : FVec Ideal S2816x1024 .f32) (r : Fin 32768) (j : Fin 1024) :
    ffn x u v w (ix2 r j) = gated (fun k => x (ix2 r k)) (fun k => u (ix2 r k)) (fun k => v (ix2 r k))
      (fun k j => w (ix2 k j)) j := by
  pointwise [ffn, gated]
  rfl

/-- Row `r` of the reference's result is `inner` of row `r`. -/
theorem result_at (x : FVec Ideal S32768x1024 .f32) (a b c d : FVec Ideal S32768x256 .f32)
    (wo : FVec Ideal S1024x1024 .f32) (g : FVec Ideal S1024 .f32) (wg wu : FVec Ideal S1024x2816 .f32)
    (wd : FVec Ideal S2816x1024 .f32) (r : Fin 32768) (j : Fin 1024) :
    result x a b c d wo g wg wu wd (ix2 r j)
      = inner (fun k => x (ix2 r k)) (fun k => a (ix2 r k)) (fun k => b (ix2 r k))
          (fun k => c (ix2 r k)) (fun k => d (ix2 r k)) (fun k j => wo (ix2 k j)) (fun k => g (ix1 k))
          (fun k j => wg (ix2 k j)) (fun k j => wu (ix2 k j)) (fun k j => wd (ix2 k j)) j := by
  unfold result inner
  simp only [ffn_at, hidden_at, normed_at, stream_at]

/-- The reference's run ends with `result` of its arguments. -/
theorem res_eq (m : (ℓ : Loc nD τ sig) → Buf (Elt Ideal) ℓ) (c : Dev nD) :
    Value.res_out0 m c = result (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) (m ((c.tc : Thread nD τ).loc main_arg9)) := rfl

end Cert.MidRefIdeal.Rows
end
-- ==== Proof.MidValue.lean ====
module

public import proofs.«01_k».proof.Proof.MidRefValue
public import proofs.«01_k».proof.Proof.Gen.MidIdeal.Frame
public import Idealize.ShloMosaic.Lib.Pipeline.ValueKit
public import Idealize.ShloMosaic.Lib.Claim

/-! The kernel of a middle layer's end: every grid point works on 256 rows, and what it stores in a row
    is `Cert.MidRefIdeal.Rows.inner` of that row, so the whole array is the reference's. -/

@[expose] public section
set_option maxRecDepth 16384
noncomputable section
open Idealize.ShloMosaic Idealize.ShloMosaic.TcCoe Idealize.SL.Sem
open Idealize.ShloMosaic.Pipeline (Dat)
namespace Cert.MidIdeal.Rows
open Cert.MidIdeal Cert.MidIdeal.Gen Cert.FfnRow

theorem pay2_at (o1 o2 o3 o4 : FVec Ideal S256x256 .bf16) (x : FVec Ideal S256x1024 .f32)
    (w : FVec Ideal S1024x1024 .bf16) (i : Fin 256) (j : Fin 1024) :
    k0_pay2 (F := Ideal) o1 o2 o3 o4 x w (ix2 i j) = mix (fun k => x (ix2 i k)) (fun k => o1 (ix2 i k))
      (fun k => o2 (ix2 i k)) (fun k => o3 (ix2 i k)) (fun k => o4 (ix2 i k)) (fun k j => w (ix2 k j)) j := by
  pointwise [k0_pay2, mix, side]

theorem pay3_at (o1 o2 o3 o4 : FVec Ideal S256x256 .bf16) (x : FVec Ideal S256x1024 .f32)
    (w : FVec Ideal S1024x1024 .bf16) (g : FVec Ideal S1x1024 .f32) (i : Fin 256) (j : Fin 1024) :
    k0_pay3 (F := Ideal) o1 o2 o3 o4 x w g (ix2 i j)
      = rms (fun k => k0_pay2 (F := Ideal) o1 o2 o3 o4 x w (ix2 i k)) (fun k => g (ix2 0 k)) j := by
  unfold k0_pay3
  generalize k0_pay2 (F := Ideal) o1 o2 o3 o4 x w = y
  pointwise [rms]

theorem pay4_at (o1 o2 o3 o4 : FVec Ideal S256x256 .bf16) (x : FVec Ideal S256x1024 .f32)
    (w : FVec Ideal S1024x1024 .bf16) (g : FVec Ideal S1x1024 .f32) (u : FVec Ideal S1024x2816 .bf16)
    (i : Fin 256) (j : Fin 2816) :
    k0_pay4 (F := Ideal) o1 o2 o3 o4 x w g u (ix2 i j)
      = proj (fun k => k0_pay3 (F := Ideal) o1 o2 o3 o4 x w g (ix2 i k)) (fun k j => u (ix2 k j)) j := by
  unfold k0_pay4
  generalize k0_pay3 (F := Ideal) o1 o2 o3 o4 x w g = y
  pointwise [proj]

theorem pay5_at (o1 o2 o3 o4 : FVec Ideal S256x256 .bf16) (x : FVec Ideal S256x1024 .f32)
    (w : FVec Ideal S1024x1024 .bf16) (g : FVec Ideal S1x1024 .f32) (u : FVec Ideal S1024x2816 .bf16)
    (i : Fin 256) (j : Fin 2816) :
    k0_pay5 (F := Ideal) o1 o2 o3 o4 x w g u (ix2 i j)
      = proj (fun k => k0_pay3 (F := Ideal) o1 o2 o3 o4 x w g (ix2 i k)) (fun k j => u (ix2 k j)) j := by
  unfold k0_pay5
  generalize k0_pay3 (F := Ideal) o1 o2 o3 o4 x w g = y
  pointwise [proj]

theorem pay1_at (y : FVec Ideal S256x1024 .f32) (u v : FVec Ideal S256x2816 .f32)
    (w : FVec Ideal S2816x1024 .bf16) (i : Fin 256) (j : Fin 1024) :
    k0_pay1 (F := Ideal) y u v w (ix2 i j)
      = gated (fun k => y (ix2 i k)) (fun k => u (ix2 i k)) (fun k => v (ix2 i k)) (fun k j => w (ix2 k j)) j := by
  pointwise [k0_pay1, gated]

/-- What the body stores in row `i` of its block is `inner` of row `i` of its blocks. -/
theorem body_at (o1 o2 o3 o4 : FVec Ideal S256x256 .bf16) (x : FVec Ideal S256x1024 .f32)
    (wo : FVec Ideal S1024x1024 .bf16) (g : FVec Ideal S1x1024 .f32) (wg wu : FVec Ideal S1024x2816 .bf16)
    (wd : FVec Ideal S2816x1024 .bf16) (i : Fin 256) (j : Fin 1024) :
    k0_pay1 (F := Ideal) (k0_pay2 o1 o2 o3 o4 x wo) (k0_pay4 o1 o2 o3 o4 x wo g wg)
        (k0_pay5 o1 o2 o3 o4 x wo g wu) wd (ix2 i j)
      = Cert.MidRefIdeal.Rows.inner (fun k => x (ix2 i k)) (fun k => o1 (ix2 i k)) (fun k => o2 (ix2 i k))
          (fun k => o3 (ix2 i k)) (fun k => o4 (ix2 i k)) (fun k j => wo (ix2 k j)) (fun k => g (ix2 0 k))
          (fun k j => wg (ix2 k j)) (fun k j => wu (ix2 k j)) (fun k j => wd (ix2 k j)) j := by
  rw [pay1_at]
  unfold Cert.MidRefIdeal.Rows.inner
  simp only [pay4_at, pay5_at, pay3_at, pay2_at]

/-- Which block of its array every window takes at a grid point. -/
theorem idx : ∀ t : Fin cfg0.N,
    win0_0.index t = ![t.val, 0] ∧ win0_1.index t = ![t.val, 0] ∧ win0_2.index t = ![t.val, 0]
    ∧ win0_3.index t = ![t.val, 0] ∧ win0_4.index t = ![t.val, 0] ∧ win0_5.index t = ![0, 0]
    ∧ win0_6.index t = ![0, 0] ∧ win0_7.index t = ![0, 0] ∧ win0_8.index t = ![0, 0]
    ∧ win0_9.index t = ![0, 0] ∧ win0_10.index t = ![0, 0] ∧ win0_11.index t = ![t.val, 0] :=
  (by decide +kernel : ∀ t : Fin grid0.N, _)

variable (m : (ℓ : Loc nD τ sig) → Buf (Elt Ideal) ℓ)

/-- The reference's result over the kernel's arguments. -/
abbrev goal (c : Dev nD) : FVec Ideal Cert.MidRefIdeal.S32768x1024 .f32 :=
  Cert.MidRefIdeal.Rows.result (m ((c : Thread nD τ).loc main_arg0)) (m ((c : Thread nD τ).loc main_arg1))
    (m ((c : Thread nD τ).loc main_arg2)) (m ((c : Thread nD τ).loc main_arg3))
    (m ((c : Thread nD τ).loc main_arg4)) (m ((c : Thread nD τ).loc main_arg5))
    (m ((c : Thread nD τ).loc main_arg6)) (m ((c : Thread nD τ).loc main_arg7))
    (m ((c : Thread nD τ).loc main_arg8)) (m ((c : Thread nD τ).loc main_arg9))

theorem point (c : Dev nD) (t : Fin cfg0.N) (i : Fin 256) (j : Fin 1024) (y : S256x1024.Idx) (hy : y = ix2 i j) :
    k0_pay1 (F := Ideal)
        (k0_pay2 (iblk m c 1 t) (iblk m c 2 t) (iblk m c 3 t) (iblk m c 4 t) (iblk m c 0 t) (iblk m c 5 t))
        (k0_pay4 (iblk m c 1 t) (iblk m c 2 t) (iblk m c 3 t) (iblk m c 4 t) (iblk m c 0 t) (iblk m c 5 t) (iblk m c 6 t) (iblk m c 7 t))
        (k0_pay5 (iblk m c 1 t) (iblk m c 2 t) (iblk m c 3 t) (iblk m c 4 t) (iblk m c 0 t) (iblk m c 5 t) (iblk m c 6 t) (iblk m c 8 t))
        (iblk m c 9 t) y
      = goal m c (((cfg0.win 11).blk t).view.emb y) := by
  subst hy
  have hr : t.val * 256 + i.val < 32768 := by
    have := t.isLt; have : cfg0.N = 128 := by decide +kernel
    omega
  have he : (((cfg0.win 11).blk t).view.emb (ix2 i j : S256x1024.Idx)) = (ix2 (⟨t.val * 256 + i.val, hr⟩ : Fin 32768) j) := by
    blk_ext [idx t]
  rw [he]
  refine (body_at _ _ _ _ _ _ _ _ _ _ i j).trans (Eq.trans ?_ (Cert.MidRefIdeal.Rows.result_at _ _ _ _ _ _ _ _ _ _ ⟨t.val * 256 + i.val, hr⟩ j).symm)
  congr 1 <;> funext k
  all_goals (try funext k')
  all_goals blk_point [iblk, V, idx t]

/-- The kernel's result array after its run is the reference's result of the same arguments. -/
theorem final (c : Dev nD) : (dats m 0 c).arrAt 11 (cfgs 0).N = goal m c := by
  refine (dats m 0 c).arrAt_eq_of_covers 11 _ (by decide +kernel) fun t _ y => ?_
  blk_simp
  rw [after0_11]; frame_out
  idx_vars y
  exact point m c t _ _ _ rfl

end Cert.MidIdeal.Rows
end
-- ==== Proof.MidClaims.lean ====
module

public import proofs.«01_k».proof.Defs
public import proofs.«01_k».proof.Proof.Gen.MidIdeal.Value
public import proofs.«01_k».proof.Proof.Gen.MidRefIdeal.Run
public import proofs.«01_k».proof.Proof.MidValue
public import Idealize.ShloMosaic.Lib.Quiescent

/-! The claims about a middle layer's end: the reference leaves its arguments unchanged and every counter
    at zero, and the kernel's result array is the reference's. -/

@[expose] public section
set_option maxRecDepth 16384
noncomputable section
open Idealize.ShloMosaic Idealize.ShloMosaic.TcCoe Idealize.SL.Sem
namespace Cert.Proof

/-- The reference's run: the arguments unchanged, every semaphore counter back at zero. -/
theorem midRef_frame : Cert.quiescent_MidRefIdeal (hMidRefIdeal := Cert.MidRefIdeal.Gen.facts) := by
  intro m g _
  exact (θ_run _ _ _).mono (fun r h => ⟨fun c => (h c).2, sem_eq_zero_of_no_sems (by decide) r.2⟩)
    (Cert.MidRefIdeal.Value.run m g)

/-- Kernel and reference end with the same array, from memories that agree on the arguments. -/
theorem mid_algebraic : Cert.algebraic_MidIdeal_MidRefIdeal (hMidIdeal := Cert.MidIdeal.Gen.facts)
    (hMidRefIdeal := Cert.MidRefIdeal.Gen.facts) := by
  intro m g m' g' _ hag
  refine ⟨fun c => Cert.MidIdeal.Rows.goal m c, ?_, ?_⟩
  · exact (θ_run _ _ _).mono (fun r h c => ⟨(h c).1.trans (Cert.MidIdeal.Rows.final m c), (h c).2⟩)
      (Cert.MidIdeal.Value.run_blocks m g)
  · refine (θ_run _ _ _).mono (fun r h c => ⟨(h c).1.trans ?_, (h c).2⟩) (Cert.MidRefIdeal.Value.run m' g')
    obtain ⟨h0, h1, h2, h3, h4, h5, h6, h7, h8, h9, h10⟩ := hag c
    refine (Cert.MidRefIdeal.Rows.res_eq m' c).trans ?_
    rw [h0, h1, h2, h3, h4, h5, h6, h7, h8, h9]

end Cert.Proof
end
-- ==== Proof.BtPre.lean ====
module

public import proofs.«01_k».proof.Proof.DaPre
public import proofs.«01_k».proof.Proof.Gen.Pre_bias_finite

/-! The precondition of the bias, read: every entry of the relative bias is a real. -/

@[expose] public section
noncomputable section
open Idealize.ShloMosaic Idealize.ShloMosaic.TcCoe
namespace Cert.Pre_bias_finite.Rows
open Cert.Pre_bias_finite Cert.Pre_bias_finite.Gen

/-- What the precondition says of an entry. -/
theorem decode (x : FVec Ideal S4x15x31 .f32) (hx : fn x = fun _ => 1#1) (h : Fin 4) (r : Fin 15) (k : Fin 31) :
    ∃ a : ℝ, x (ix3 h r k) = (a : EReal) :=
  Cert.Pre_entries_finite.Rows.real_of_abs _ (congrFun hx (ix3 h r k))

end Cert.Pre_bias_finite.Rows
end
-- ==== Proof.BtRow.lean ====
module

public import Idealize.ShloMosaic.Lib.Pointwise

/-! The window of columns of neighbourhood attention in 32-bit words: which keys a query sees, and how far a key lies
    from its query. A query at column `q` sees the sixteen columns from `q - 8` on, moved inside the grid's 64. -/

@[expose] public section
noncomputable section
open Idealize.ShloMosaic Idealize.ShloMosaic.TcCoe
namespace Cert.BtRow

/-- The first column a query sees. -/
def first (q : Nat) : BitVec 32 := IntOp.minsi 48#32 (IntOp.maxsi 0#32 (IntOp.subi (BitVec.ofNat 32 q) 8#32))
/-- Whether a query sees a key. -/
def seen (q k : Nat) : BitVec 1 :=
  IntOp.andi (IntOp.cmpi .sge (BitVec.ofNat 32 k) (first q)) (IntOp.cmpi .slt (BitVec.ofNat 32 k) (IntOp.addi (first q) 16#32))
/-- A key's column less its query's, counted from -15. -/
def off (q k : Nat) : BitVec 32 := IntOp.addi (IntOp.subi (BitVec.ofNat 32 k) (BitVec.ofNat 32 q)) 15#32
/-- That difference cut to the table's 31 columns. -/
def cut (q k : Nat) : BitVec 32 := IntOp.minsi 30#32 (IntOp.maxsi 0#32 (off q k))
/-- The column of the table a query and a key read. -/
def col (q k : Nat) : BitVec 32 := Scalar.select (IntOp.cmpi .slt (cut q k) 0#32) (IntOp.addi (cut q k) 31#32) (cut q k)
/-- A row of the window less the query's place in it, counted from -7. -/
def step (d i : Nat) : BitVec 32 := IntOp.addi (IntOp.subi (BitVec.ofNat 32 i) (BitVec.ofNat 32 d)) 7#32
/-- The row of the table they read. -/
def row (d i : Nat) : BitVec 32 := Scalar.select (IntOp.cmpi .slt (step d i) 0#32) (IntOp.addi (step d i) 15#32) (step d i)

/-- A key that is seen lies at most 15 columns away, and the words hold the difference. -/
theorem seen_off : ∀ q k : Fin 64, seen q.val k.val = 1#1 →
    (q.val ≤ k.val + 15 ∧ k.val + 15 - q.val ≤ 30) ∧ off q.val k.val = BitVec.ofNat 32 (k.val + 15 - q.val)
      ∧ (col q.val k.val).toInt.toNat = k.val + 15 - q.val := by
  decide +kernel

/-- The row's word holds the difference. -/
theorem row_val : ∀ d i : Fin 8, (row d.val i.val).toInt.toNat = i.val + 7 - d.val := by
  decide +kernel

end Cert.BtRow
end
-- ==== Proof.BtHost.lean ====
module

public import proofs.«01_k».proof.Proof.BtRow
public import proofs.«01_k».proof.Proof.Gen.BtIdeal.Frame
public import Idealize.ShloMosaic.Lib.Pointwise

/-! What the host prepares for the kernel of neighbourhood attention's bias, at an index: the relative bias padded to
    64 rows of 128, the table that picks a key's difference, and the mask. -/

@[expose] public section
set_option maxRecDepth 16384
noncomputable section
open Idealize.ShloMosaic Idealize.ShloMosaic.TcCoe Idealize.SL.Sem
namespace Cert.BtIdeal.Rows
open Cert.BtIdeal Cert.BtIdeal.Gen Cert.BtRow

/-- The first column every query sees. -/
def starts : IVec S64x1 32 :=
  minsi (broadcastInDim S64x1 ![] bcast_S_S64x1 (id (constantI S_ 32 48#32)))
    (maxsi (broadcastInDim S64x1 ![] bcast_S_S64x1 (id (constantI S_ 32 0#32)))
      (subi (broadcastInDim S64x1 ![0] bcast_S64_S64x1_0 (iotaInDim S64 32 0)) (broadcastInDim S64x1 ![] bcast_S_S64x1 (constantI S_ 32 8#32))))
/-- The keys' columns. -/
def keys : IVec S64x64 32 := broadcastInDim S64x64 ![0, 1] bcast_S1x64_S64x64_0_1 (broadcastInDim S1x64 ![1] bcast_S64_S1x64_1 (iotaInDim S64 32 0))
/-- Which keys every query sees, the pairs in one line. -/
def valid : IVec S4096 1 :=
  shapeCast S4096 (andi (cmpi .sge keys (broadcastInDim S64x64 ![0, 1] bcast_S64x1_S64x64_0_1 starts))
    (cmpi .slt keys (broadcastInDim S64x64 ![0, 1] bcast_S64x1_S64x64_0_1
      (addi starts (broadcastInDim S64x1 ![] bcast_S_S64x1 (constantI S_ 32 16#32)))))) shapeCasts_S64x64_S4096
/-- The differences of columns, the pairs in one line. -/
def offs : IVec S4096 32 :=
  shapeCast S4096 (addi (subi keys (broadcastInDim S64x64 ![0, 1] bcast_S64x1_S64x64_0_1 (broadcastInDim S64x1 ![0] bcast_S64_S64x1_0 (iotaInDim S64 32 0))))
    (broadcastInDim S64x64 ![] bcast_S_S64x64 (constantI S_ 32 15#32))) shapeCasts_S64x64_S4096
/-- The table that picks the difference of a pair whose key is seen. -/
def hot : FVec Ideal S128x4096 .bf16 :=
  uitofp .bf16 (andi (cmpi .eq (broadcastInDim S128x4096 ![0, 1] bcast_S128x1_S128x4096_0_1 (broadcastInDim S128x1 ![0] bcast_S128_S128x1_0 (iotaInDim S128 32 0)))
      (broadcastInDim S128x4096 ![0, 1] bcast_S1x4096_S128x4096_0_1 (broadcastInDim S1x4096 ![1] bcast_S4096_S1x4096_1 offs)))
    (broadcastInDim S128x4096 ![0, 1] bcast_S1x4096_S128x4096_0_1 (broadcastInDim S1x4096 ![1] bcast_S4096_S1x4096_1 valid)))
/-- The mask: 0 where the key is seen, the large negative number elsewhere. -/
def mask : FVec Ideal S1x4096 .f32 :=
  broadcastInDim S1x4096 ![1] bcast_S4096_S1x4096_1 (select valid (broadcastInDim S4096 ![] bcast_S_S4096 (constant S_ .f32 0x00000000#32))
    (broadcastInDim S4096 ![] bcast_S_S4096 (constant S_ .f32 0xF149F2CA#32)))
/-- The relative bias, padded. -/
def padded (x : FVec Ideal S4x15x31 .f32) : FVec Ideal S64x128 .f32 :=
  pad S64x128 ![0, 0] ![4, 97] ![0, 0] (shapeCast S60x31 x shapeCasts_S4x15x31_S60x31)
    (sitofp .f32 (constantI S_ 32 0#32) : FVec Ideal S_ .f32) pads_S60x31_S64x128_040_0970 h_S_

/-- A pair's place in the line of pairs. -/
abbrev pair (q k : Fin 64) : Fin 4096 := ⟨q.val * 64 + k.val, by omega⟩

/-- Whether a pair's key is seen. -/
theorem valid_at (q k : Fin 64) : valid (ix1 ⟨q.val * 64 + k.val, by omega⟩) = seen q.val k.val := by
  pointwise [valid, keys, starts, seen, first]
  rfl
/-- A pair's difference. -/
theorem offs_at (q k : Fin 64) : offs (ix1 ⟨q.val * 64 + k.val, by omega⟩) = off q.val k.val := by
  pointwise [offs, keys, off]
/-- The picking table at an index. -/
theorem hot_at (j : Fin 128) (q k : Fin 64) : hot (ix2 j (pair q k))
    = FloatOps.uitofp (F := Ideal) .bf16 (IntOp.andi (IntOp.cmpi .eq (BitVec.ofNat 32 j.val) (off q.val k.val)) (seen q.val k.val)) := by
  rw [← valid_at, ← offs_at]
  unfold hot
  generalize valid = v
  generalize offs = o
  pointwise []
/-- The mask at a pair. -/
theorem mask_at (q k : Fin 64) : mask (ix2 (0 : Fin 1) (pair q k))
    = Scalar.select (seen q.val k.val) (Ideal.ofBits .f32 0x00000000#32) (Ideal.ofBits .f32 0xF149F2CA#32) := by
  rw [← valid_at]
  unfold mask
  generalize valid = v
  pointwise []
/-- The padded bias inside the bias. -/
theorem padded_at (x : FVec Ideal S4x15x31 .f32) (h : Fin 4) (r : Fin 15) (k : Fin 31) :
    padded x (ix2 ⟨h.val * 15 + r.val, by omega⟩ ⟨k.val, by omega⟩) = x (ix3 h r k) := by
  have hl : h.val * 15 + r.val < 60 := by omega
  pointwise [padded]
  exact dif_pos hl

variable (m : (ℓ : Loc nD τ sig) → Buf (Elt Ideal) ℓ) (c : Dev nD)

set_option maxHeartbeats 1600000 in
/-- The padded bias as the launch finds it. -/
theorem V_x : V m c main_v35 = padded (m ((c : Thread nD τ).loc main_arg0)) := rfl
set_option maxHeartbeats 3200000 in
/-- The picking table as the launch finds it. -/
theorem V_hot : V m c main_v36 = hot := by
  unfold V V0
  simp only [List.flatten_cons, List.flatten_nil, List.append_nil, List.cons_append, List.nil_append, hostOps0, hostOps0_1, hostOps0_2, hostOps0_3, hostOps0_4, hostOps0_5, hostOps0_6,
    StableHlo.TRef.binary, StableHlo.TRef.ternary, StableHlo.TRef.unary, StableHlo.TRef.toBuf, StableHlo.TRef.ofBuf, cast_eq]
  after_results_simp <;> rfl <;> (unfold hot offs valid starts keys; rfl)
set_option maxHeartbeats 3200000 in
/-- The mask as the launch finds it. -/
theorem V_mask : V m c main_v37 = mask := by
  unfold V V0
  simp only [List.flatten_cons, List.flatten_nil, List.append_nil, List.cons_append, List.nil_append, hostOps0, hostOps0_1, hostOps0_2, hostOps0_3, hostOps0_4, hostOps0_5, hostOps0_6,
    StableHlo.TRef.binary, StableHlo.TRef.ternary, StableHlo.TRef.unary, StableHlo.TRef.toBuf, StableHlo.TRef.ofBuf, cast_eq]
  after_results_simp <;> rfl <;> (unfold mask valid starts keys; rfl)

end Cert.BtIdeal.Rows
end
-- ==== Proof.BtTail.lean ====
module

public import proofs.«01_k».proof.Proof.Gen.BtIdeal.Frame
public import Idealize.ShloMosaic.Lib.Pointwise

/-! How the host lays the kernel's columns out: for each of the eight places of a query's row in its window, the eight
    rows of the relative bias from there on, a head, a query's column, a row of the window and a key's column. -/

@[expose] public section
set_option maxRecDepth 16384
noncomputable section
open Idealize.ShloMosaic Idealize.ShloMosaic.TcCoe Idealize.SL.Sem
open Idealize.ShloMosaic.Pipeline (Dat)
namespace Cert.BtIdeal.Rows
open Cert.BtIdeal Cert.BtIdeal.Gen

/-- The kernel's rows that hold the bias, by head and row of the bias, query's column and key's column. -/
def planes (y : FVec Ideal S64x4096 .f32) : FVec Ideal S4x15x64x64 .f32 :=
  shapeCast S4x15x64x64 (extractStridedSlice S60x4096 ![0, 0] y slices_S64x4096_S60x4096_0_0) shapeCasts_S60x4096_S4x15x64x64

/-- Eight rows of the bias, the query's column before the row, as one slab. -/
def slab (z : FVec Ideal S4x8x64x64 .f32) : FVec Ideal S1x4x64x8x64 .f32 :=
  broadcastInDim S1x4x64x8x64 ![1, 2, 3, 4] bcast_S4x64x8x64_S1x4x64x8x64_1_2_3_4
    (transpose S4x64x8x64 [0, 2, 1, 3] z transposes_S4x8x64x64_S4x64x8x64_0_2_1_3)

/-- The eight slabs, one for each place of a query's row. -/
def stacked (p : FVec Ideal S4x15x64x64 .f32) : FVec Ideal S8x4x64x8x64 .f32 :=
  concatenate S8x4x64x8x64 0
    [⟨S1x4x64x8x64, slab (extractStridedSlice S4x8x64x64 ![0, 7, 0, 0] p slices_S4x15x64x64_S4x8x64x64_0_7_0_0)⟩,
     ⟨S1x4x64x8x64, slab (extractStridedSlice S4x8x64x64 ![0, 6, 0, 0] p slices_S4x15x64x64_S4x8x64x64_0_6_0_0)⟩,
     ⟨S1x4x64x8x64, slab (extractStridedSlice S4x8x64x64 ![0, 5, 0, 0] p slices_S4x15x64x64_S4x8x64x64_0_5_0_0)⟩,
     ⟨S1x4x64x8x64, slab (extractStridedSlice S4x8x64x64 ![0, 4, 0, 0] p slices_S4x15x64x64_S4x8x64x64_0_4_0_0)⟩,
     ⟨S1x4x64x8x64, slab (extractStridedSlice S4x8x64x64 ![0, 3, 0, 0] p slices_S4x15x64x64_S4x8x64x64_0_3_0_0)⟩,
     ⟨S1x4x64x8x64, slab (extractStridedSlice S4x8x64x64 ![0, 2, 0, 0] p slices_S4x15x64x64_S4x8x64x64_0_2_0_0)⟩,
     ⟨S1x4x64x8x64, slab (extractStridedSlice S4x8x64x64 ![0, 1, 0, 0] p slices_S4x15x64x64_S4x8x64x64_0_1_0_0)⟩,
     ⟨S1x4x64x8x64, slab (extractStridedSlice S4x8x64x64 ![0, 0, 0, 0] p slices_S4x15x64x64_S4x8x64x64_0_0_0_0)⟩]
    concatenates_S1x4x64x8x64_S1x4x64x8x64_S1x4x64x8x64_S1x4x64x8x64_S1x4x64x8x64_S1x4x64x8x64_S1x4x64x8x64_S1x4x64x8x64_S8x4x64x8x64_d0

/-- The program's result from the kernel's array. -/
def laid (y : FVec Ideal S64x4096 .f32) : FVec Ideal S8x2x128x512 .f32 :=
  shapeCast S8x2x128x512 (stacked (planes y)) shapeCasts_S8x4x64x8x64_S8x2x128x512

/-- A slab of eight consecutive rows at an index. -/
theorem slab_at (z : FVec Ideal S4x8x64x64 .f32) (a : Fin 1) (h : Fin 4) (q : Fin 64) (i : Fin 8) (k : Fin 64) :
    slab z (ix5 a h q i k) = z (ix4 h i q k) := by
  pointwise [slab]

/-- The planes at an index. -/
theorem planes_at (y : FVec Ideal S64x4096 .f32) (h : Fin 4) (r : Fin 15) (q k : Fin 64) :
    planes y (ix4 h r q k) = y (ix2 ⟨h.val * 15 + r.val, by omega⟩ ⟨q.val * 64 + k.val, by omega⟩) := by
  pointwise [planes]

/-- The stack at an index: the slab of the query's place starts at row `7 - d` of the bias. -/
theorem stacked_at (p : FVec Ideal S4x15x64x64 .f32) (d : Fin 8) (h : Fin 4) (q : Fin 64) (i : Fin 8) (k : Fin 64) :
    stacked p (ix5 d h q i k) = p (ix4 h ⟨i.val + 7 - d.val, by omega⟩ q k) := by
  have e : ∀ (o : Nat) (ho : o ≤ 7) (s : S4x15x64x64.Slices ![0, o, 0, 0] S4x8x64x64),
      slab (extractStridedSlice S4x8x64x64 ![0, o, 0, 0] p s) (ix5 (0 : Fin 1) h q i k) = p (ix4 h ⟨o + i.val, by omega⟩ q k) := by
    intro o ho s
    rw [slab_at]
    refine congrArg p (funext fun a => Fin.ext ?_)
    match a with
    | ⟨0, _⟩ => exact Nat.zero_add _
    | ⟨1, _⟩ => rfl
    | ⟨2, _⟩ => exact Nat.zero_add _
    | ⟨3, _⟩ => exact Nat.zero_add _
  unfold stacked
  fin_cases d
  all_goals pointwise []
  all_goals
    refine (e _ (by norm_num) _).trans (congrArg p ?_)
    refine congrArg (fun r => ix4 h r q k) (Fin.ext ?_)
    simp only []
    omega

set_option maxHeartbeats 3200000 in
/-- What the host operations after the launch make of any array of the kernel. -/
theorem after_laid (W : Valuation τ sig (Elt Ideal)) :
    StableHlo.after (hostOps1 (F := Ideal)) W (Proc.devRef .tc main_v66) = laid (W (Proc.devRef .tc main_v38)) := by
  simp only [hostOps1]
  after_results_simp <;> rfl <;> (unfold laid stacked planes slab; rfl)

variable (m : (ℓ : Loc nD τ sig) → Buf (Elt Ideal) ℓ)

/-- The result, read out of the memory the run leaves. -/
theorem W_result (dats : (p : Fin _) → (c : Dev nD) → Dat τ (Elt Ideal) Unit ℕ (UR sig nD τ) ℕ (cfgs p) c) (c : Dev nD) :
    Pipeline.afterTail₀ cfgs dats 0 (V0 m) [hostOps1] c main_v66 = laid ((dats 0 c).arrAt 3 (cfgs 0).N) := by
  unfold Pipeline.afterTail₀
  refine (congrArg (fun l => StableHlo.after l _ (Proc.devRef .tc main_v66)) (by simp : ([hostOps1 (F := Ideal)] : List (List (HloOp τ sig (Elt Ideal)))).flatten = hostOps1)).trans ?_
  refine (after_laid _).trans (congrArg laid ?_)
  exact Pipeline.withArrays_arr spec0 (by decide) c (V0 m c) (fun w => (dats 0 c).arrAt w (cfgs 0).N) 3

set_option maxHeartbeats 1600000 in
/-- The kernel's program ends with its argument unchanged and its array laid out by the host as the result. -/
theorem run (g : Dev nD → PrngReg) :
    θ_run defs (onTc (τ := τ) (main (F := Ideal))) ⟨m, fun _ => 0, g⟩ fun r => ∀ c : Dev nD,
      r.2.mem ((c.tc : Thread nD τ).loc main_v66) = laid ((dats m 0 c).arrAt 3 (cfgs 0).N)
      ∧ r.2.mem ((c.tc : Thread nD τ).loc main_arg0) = m ((c.tc : Thread nD τ).loc main_arg0) :=
  (θ_run defs _ _).mono (fun _ h c =>
    ⟨((h c).2 main_v66 (Pipeline.mem_restRefs_of main_v66 (by decide) (by decide))).trans (W_result m (dats m) c),
      ((h c).2 main_arg0 (Pipeline.mem_restRefs_of main_arg0 (by decide) (by decide))).trans (W_main_arg0 m (dats m) c)⟩)
    (run_main m g)

end Cert.BtIdeal.Rows
end
-- ==== Proof.BtRefValue.lean ====
module

public import proofs.«01_k».proof.Proof.BtRow
public import proofs.«01_k».proof.Proof.Gen.BtRefIdeal.Run
public import Idealize.ShloMosaic.Lib.Pointwise
public import Idealize.ShloMosaic.Lib.Claim

/-! The reference of neighbourhood attention's bias, entry by entry: where the query sees the key the entry of the
    relative bias at their difference, times the factor of base 2, and the large negative number elsewhere. -/

@[expose] public section
set_option maxRecDepth 16384
noncomputable section
open Idealize.ShloMosaic Idealize.ShloMosaic.TcCoe Idealize.SL.Sem
namespace Cert.BtRefIdeal.Rows
open Cert.BtRefIdeal Cert.BtRefIdeal.Gen Cert.BtRow

/-- The columns' numbers, along the keys. -/
def keys : IVec S1x64 32 := broadcastInDim S1x64 ![1] bcast_S64_S1x64_1 (iotaInDim S64 32 0)
/-- The first column every query sees. -/
def firsts : IVec S64 32 :=
  minsi (broadcastInDim S64 ![] bcast_S_S64 (id (constantI S_ 32 48#32))) (maxsi (broadcastInDim S64 ![] bcast_S_S64 (id (constantI S_ 32 0#32)))
    (subi (iotaInDim S64 32 0) (broadcastInDim S64 ![] bcast_S_S64 (constantI S_ 32 8#32))))
/-- Which keys every query sees. -/
def valid : IVec S64x64 1 :=
  andi (cmpi .sge (broadcastInDim S64x64 ![0, 1] bcast_S1x64_S64x64_0_1 keys)
      (broadcastInDim S64x64 ![0, 1] bcast_S64x1_S64x64_0_1 (broadcastInDim S64x1 ![0] bcast_S64_S64x1_0 firsts)))
    (cmpi .slt (broadcastInDim S64x64 ![0, 1] bcast_S1x64_S64x64_0_1 keys)
      (broadcastInDim S64x64 ![0, 1] bcast_S64x1_S64x64_0_1 (addi (broadcastInDim S64x1 ![0] bcast_S64_S64x1_0 firsts)
        (broadcastInDim S64x1 ![] bcast_S_S64x1 (constantI S_ 32 16#32)))))
/-- The difference of rows. -/
def steps : IVec S8x8 32 :=
  addi (subi (broadcastInDim S8x8 ![0, 1] bcast_S1x8_S8x8_0_1 (broadcastInDim S1x8 ![1] bcast_S8_S1x8_1 (iotaInDim S8 32 0)))
    (broadcastInDim S8x8 ![0, 1] bcast_S8x1_S8x8_0_1 (broadcastInDim S8x1 ![0] bcast_S8_S8x1_0 (iotaInDim S8 32 0))))
    (broadcastInDim S8x8 ![] bcast_S_S8x8 (constantI S_ 32 7#32))
/-- The difference of columns, cut to the table's. -/
def cuts : IVec S64x64 32 :=
  minsi (broadcastInDim S64x64 ![] bcast_S_S64x64 (id (constantI S_ 32 30#32)))
    (maxsi (broadcastInDim S64x64 ![] bcast_S_S64x64 (id (constantI S_ 32 0#32)))
      (addi (subi (broadcastInDim S64x64 ![0, 1] bcast_S1x64_S64x64_0_1 keys)
        (broadcastInDim S64x64 ![0, 1] bcast_S64x1_S64x64_0_1 (broadcastInDim S64x1 ![0] bcast_S64_S64x1_0 (iotaInDim S64 32 0))))
        (broadcastInDim S64x64 ![] bcast_S_S64x64 (constantI S_ 32 15#32))))
/-- The rows of the table that are read. -/
def rows : IVec S8x1x8x1 32 :=
  select (cmpi .slt (broadcastInDim S8x1x8x1 ![0, 2] bcast_S8x8_S8x1x8x1_0_2 steps) (broadcastInDim S8x1x8x1 ![] bcast_S_S8x1x8x1 (constantI S_ 32 0#32)))
    (addi (broadcastInDim S8x1x8x1 ![0, 2] bcast_S8x8_S8x1x8x1_0_2 steps) (broadcastInDim S8x1x8x1 ![] bcast_S_S8x1x8x1 (constantI S_ 32 15#32)))
    (broadcastInDim S8x1x8x1 ![0, 2] bcast_S8x8_S8x1x8x1_0_2 steps)
/-- The columns of the table that are read. -/
def cols : IVec S1x64x1x64 32 :=
  select (cmpi .slt (broadcastInDim S1x64x1x64 ![1, 3] bcast_S64x64_S1x64x1x64_1_3 cuts) (broadcastInDim S1x64x1x64 ![] bcast_S_S1x64x1x64 (constantI S_ 32 0#32)))
    (addi (broadcastInDim S1x64x1x64 ![1, 3] bcast_S64x64_S1x64x1x64_1_3 cuts) (broadcastInDim S1x64x1x64 ![] bcast_S_S1x64x1x64 (constantI S_ 32 31#32)))
    (broadcastInDim S1x64x1x64 ![1, 3] bcast_S64x64_S1x64x1x64_1_3 cuts)
/-- Rows and columns side by side. -/
def places : IVec S8x64x8x64x2 32 :=
  concatenate S8x64x8x64x2 4 [⟨S8x64x8x64x1, broadcastInDim S8x64x8x64x1 ![0, 1, 2, 3] bcast_S8x64x8x64_S8x64x8x64x1_0_1_2_3
      (broadcastInDim S8x64x8x64 ![0, 1, 2, 3] bcast_S8x1x8x1_S8x64x8x64_0_1_2_3 rows)⟩,
    ⟨S8x64x8x64x1, broadcastInDim S8x64x8x64x1 ![0, 1, 2, 3] bcast_S8x64x8x64_S8x64x8x64x1_0_1_2_3
      (broadcastInDim S8x64x8x64 ![0, 1, 2, 3] bcast_S1x64x1x64_S8x64x8x64_0_1_2_3 cols)⟩]
    concatenates_S8x64x8x64x1_S8x64x8x64x1_S8x64x8x64x2_d4
/-- The relative bias read at those places. -/
def taken (x : FVec Ideal S4x15x31 .f32) : FVec Ideal S4x8x64x8x64 .f32 :=
  Host.gather gather_S4x15x31_S8x64x8x64x2_S4x8x64x8x64_0_12_n_n_12_4_411 x places
/-- The table of biases. -/
def table (x : FVec Ideal S4x15x31 .f32) : FVec Ideal S8x4x64x8x64 .f32 :=
  select (broadcastInDim S8x4x64x8x64 ![2, 3, 4] bcast_S64x1x64_S8x4x64x8x64_2_3_4 (broadcastInDim S64x1x64 ![0, 2] bcast_S64x64_S64x1x64_0_2 valid))
    (mulf (transpose S8x4x64x8x64 [1, 0, 2, 3, 4] (taken x) transposes_S4x8x64x8x64_S8x4x64x8x64_1_0_2_3_4)
      (broadcastInDim S8x4x64x8x64 ![] bcast_S_S8x4x64x8x64 (constant S_ .f32 0x3FB8AA3B#32)))
    (broadcastInDim S8x4x64x8x64 ![] bcast_S_S8x4x64x8x64 (id (constant S_ .f32 0xF149F2CA#32)))
/-- The result: a pair of heads, their queries, and the window's rows of keys in one line. -/
def result (x : FVec Ideal S4x15x31 .f32) : FVec Ideal S8x2x128x512 .f32 :=
  shapeCast S8x2x128x512 (table x) shapeCasts_S8x4x64x8x64_S8x2x128x512

/-- A query sees a key where the words say so. -/
theorem valid_at (q k : Fin 64) : valid (ix2 q k) = seen q.val k.val := by
  pointwise [valid, keys, firsts, seen, first]
  rfl

/-- The row read. -/
theorem places_row (d : Fin 8) (q : Fin 64) (i : Fin 8) (k : Fin 64) :
    places (ix5 d q i k (0 : Fin 2)) = Cert.BtRow.row d.val i.val := by
  pointwise [places, rows, steps, Cert.BtRow.row, step]

/-- The column read. -/
theorem places_col (d : Fin 8) (q : Fin 64) (i : Fin 8) (k : Fin 64) :
    places (ix5 d q i k (1 : Fin 2)) = Cert.BtRow.col q.val k.val := by
  pointwise [places, cols, cuts, keys, Cert.BtRow.col, cut, off]
  rfl

/-- The dimensions of the gather. -/
abbrev G : GatherDims S4x15x31 S8x64x8x64x2 S4x8x64x8x64 := gather_S4x15x31_S8x64x8x64x2_S4x8x64x8x64_0_12_n_n_12_4_411

/-- No axis of the gather is a batching axis. -/
theorem G_batch (j : S4x8x64x8x64.Idx) (a : Fin 3) : G.batchCoord j a = 0 :=
  G.batchCoord_eq_zero _ _ (show a ∉ ([] : List (Fin 3)) from List.not_mem_nil)

/-- The gather at an index: the operand at the index words read as signed numbers and cut to the operand's extents. -/
theorem gather_at (x : FVec Ideal S4x15x31 .f32) (w : IVec S8x64x8x64x2 32) (h : Fin 4) (d : Fin 8) (q : Fin 64) (i : Fin 8) (k : Fin 64) :
    Host.gather G x w (ix5 h d q i k) = x (ix3 h ⟨min (w (ix5 d q i k (0 : Fin 2))).toInt.toNat 14, by omega⟩
      ⟨min (w (ix5 d q i k (1 : Fin 2))).toInt.toNat 30, by omega⟩) := by
  have s0 : ∀ e, G.siIdx (ix5 h d q i k : S4x8x64x8x64.Idx) ⟨0, e⟩ = (ix5 d q i k (0 : Fin 2) : S8x64x8x64x2.Idx) := by
    intro e
    funext b; refine Fin.ext ?_
    match b with
    | ⟨0, _⟩ => rfl
    | ⟨1, _⟩ => rfl
    | ⟨2, _⟩ => rfl
    | ⟨3, _⟩ => rfl
    | ⟨4, _⟩ => rfl
  have s1 : ∀ e, G.siIdx (ix5 h d q i k : S4x8x64x8x64.Idx) ⟨1, e⟩ = (ix5 d q i k (1 : Fin 2) : S8x64x8x64x2.Idx) := by
    intro e
    funext b; refine Fin.ext ?_
    match b with
    | ⟨0, _⟩ => rfl
    | ⟨1, _⟩ => rfl
    | ⟨2, _⟩ => rfl
    | ⟨3, _⟩ => rfl
    | ⟨4, _⟩ => rfl
  have c1 : (1 : Fin 3) ∉ G.sKept := fun e => ((G.mem_sKept 1).mp e).1 (show (1 : Fin 3) ∈ ([1, 2] : List (Fin 3)) by decide)
  have c2 : (2 : Fin 3) ∉ G.sKept := fun e => ((G.mem_sKept 2).mp e).1 (show (2 : Fin 3) ∈ ([1, 2] : List (Fin 3)) by decide)
  unfold Host.gather
  congr 1
  funext a
  refine Fin.ext ?_
  show G.start _ w a + G.batchCoord _ a + G.offCoord _ a = _
  rw [G_batch, Nat.add_zero]
  match a with
  | ⟨0, _⟩ =>
    have e : G.start (ix5 h d q i k : S4x8x64x8x64.Idx) w (0 : Fin 3) = 0 := by
      unfold GatherDims.start
      exact dif_neg (show (0 : Fin 3) ∉ ([1, 2] : List (Fin 3)) by decide)
    refine (congrArg (· + G.offCoord (ix5 h d q i k : S4x8x64x8x64.Idx) (0 : Fin 3)) e).trans ((Nat.zero_add _).trans ?_)
    rfl
  | ⟨1, _⟩ =>
    refine (congrArg (G.start (ix5 h d q i k : S4x8x64x8x64.Idx) w (1 : Fin 3) + ·) (G.offCoord_eq_zero _ _ c1)).trans ?_
    refine (Nat.add_zero _).trans ?_
    unfold GatherDims.start
    refine (dif_pos (show (1 : Fin 3) ∈ ([1, 2] : List (Fin 3)) by decide)).trans ?_
    exact congrArg (fun z => min (w z).toInt.toNat 14) (s0 _)
  | ⟨2, _⟩ =>
    refine (congrArg (G.start (ix5 h d q i k : S4x8x64x8x64.Idx) w (2 : Fin 3) + ·) (G.offCoord_eq_zero _ _ c2)).trans ?_
    refine (Nat.add_zero _).trans ?_
    unfold GatherDims.start
    refine (dif_pos (show (2 : Fin 3) ∈ ([1, 2] : List (Fin 3)) by decide)).trans ?_
    exact congrArg (fun z => min (w z).toInt.toNat 30) (s1 _)

/-- The factor of base 2. -/
abbrev L : EReal := Ideal.ofBits .f32 0x3FB8AA3B#32
/-- The number of the keys that are not seen. -/
abbrev NEG : EReal := Ideal.ofBits .f32 0xF149F2CA#32

/-- An entry of the table before its bias is read off. -/
theorem table_entry (x : FVec Ideal S4x15x31 .f32) (d : Fin 8) (h : Fin 4) (q : Fin 64) (i : Fin 8) (k : Fin 64) :
    table x (ix5 d h q i k) = Scalar.select (valid (ix2 q k)) (taken x (ix5 h d q i k) * L) NEG := by
  unfold table
  generalize valid = v
  generalize taken x = y
  pointwise []
  rfl

/-- An entry of the table whose key is not seen. -/
theorem table_out (x : FVec Ideal S4x15x31 .f32) (d : Fin 8) (h : Fin 4) (q : Fin 64) (i : Fin 8) (k : Fin 64)
    (hs : ¬ seen q.val k.val = 1#1) : table x (ix5 d h q i k) = NEG := by
  rw [table_entry, valid_at]
  exact if_neg hs

/-- An entry of the table whose key is seen. -/
theorem table_in (x : FVec Ideal S4x15x31 .f32) (d : Fin 8) (h : Fin 4) (q : Fin 64) (i : Fin 8) (k : Fin 64)
    (hs : seen q.val k.val = 1#1) : table x (ix5 d h q i k)
      = x (ix3 h ⟨i.val + 7 - d.val, by omega⟩ ⟨k.val + 15 - q.val, by have := (seen_off q k hs).1.2; omega⟩) * L := by
  rw [table_entry, valid_at]
  refine (if_pos hs).trans (congrArg (· * L) ?_)
  refine (gather_at x places h d q i k).trans (congrArg x ?_)
  have h1 := row_val d i
  have h2 := (seen_off q k hs).2.2
  have h3 := (seen_off q k hs).1.2
  have e1 : min (places (ix5 d q i k (0 : Fin 2))).toInt.toNat 14 = i.val + 7 - d.val := by
    rw [places_row, h1]; omega
  have e2 : min (places (ix5 d q i k (1 : Fin 2))).toInt.toNat 30 = k.val + 15 - q.val := by
    rw [places_col, h2]; omega
  funext a
  refine Fin.ext ?_
  match a with
  | ⟨0, _⟩ => rfl
  | ⟨1, _⟩ => exact e1
  | ⟨2, _⟩ => exact e2

/-- The reference's term is this result. -/
theorem result_eq (m : (ℓ : Loc nD τ sig) → Buf (Elt Ideal) ℓ) (c : Dev nD) :
    Value.res_out0 m c = result (m ((c.tc : Thread nD τ).loc main_arg0)) := rfl

end Cert.BtRefIdeal.Rows
end
-- ==== Proof.BtValue.lean ====
module

public import proofs.«01_k».proof.Proof.BtHost
public import proofs.«01_k».proof.Proof.BtTail
public import proofs.«01_k».proof.Proof.BtRefValue
public import Idealize.ShloMosaic.Lib.Pipeline.ValueKit
public import Idealize.ShloMosaic.Lib.Claim

/-! The kernel of neighbourhood attention's bias: what the body computes from its blocks, and that the result laid out
    by the host is the reference's when the relative bias is real. -/

@[expose] public section
set_option maxRecDepth 16384
noncomputable section
open Idealize.ShloMosaic Idealize.ShloMosaic.TcCoe Idealize.SL.Sem
open Idealize.ShloMosaic.Pipeline (Dat)
namespace Cert.BtIdeal.Rows
open Cert.BtIdeal Cert.BtIdeal.Gen Cert.BtRow
open Cert.BtRefIdeal.Rows (L NEG)

/-- The body's result at an index: the mask plus the factor times three products with the picking table. -/
theorem pay1_at (v0 : FVec Ideal S128x4096 .bf16) (v2 : FVec Ideal S1x4096 .f32) (v4 : FVec Ideal S64x128 .f32) (r : Fin 64) (n : Fin 4096) :
    k0_pay1 (F := Ideal) v0 v2 v4 (ix2 r n) = v2 (ix2 (0 : Fin 1) n) + L *
      (∑ x : Fin 128, v4 (ix2 r x) * v0 (ix2 x n) + ∑ x : Fin 128, (v4 (ix2 r x) - v4 (ix2 r x)) * v0 (ix2 x n)
        + ∑ x : Fin 128, (v4 (ix2 r x) - v4 (ix2 r x) - (v4 (ix2 r x) - v4 (ix2 r x))) * v0 (ix2 x n)) := by
  pointwise [k0_pay1]

/-- The bit 1 is the number 1. -/
theorem bit_one : FloatOps.uitofp (F := Ideal) .bf16 (1#1 : BitVec 1) = (1 : EReal) := by
  show (((1#1 : BitVec 1).toNat : ℝ) : EReal) = 1
  simp
/-- The bit 0 is the number 0. -/
theorem bit_zero : FloatOps.uitofp (F := Ideal) .bf16 (0#1 : BitVec 1) = (0 : EReal) := by
  show (((0#1 : BitVec 1).toNat : ℝ) : EReal) = 0
  simp

/-- Where the key is not seen the table picks nothing. -/
theorem hot_out (j : Fin 128) (q k : Fin 64) (hs : ¬ seen q.val k.val = 1#1) : hot (ix2 j (pair q k)) = (0 : EReal) := by
  rw [hot_at]
  have h0 : seen q.val k.val = 0#1 := (by decide : ∀ b : BitVec 1, ¬ b = 1#1 → b = 0#1) _ hs
  rw [h0]
  exact (congrArg (FloatOps.uitofp (F := Ideal) .bf16) ((by decide : ∀ b : BitVec 1, IntOp.andi b 0#1 = 0#1) _)).trans bit_zero

/-- Where the key is seen the table picks the pair's difference, and nothing else. -/
theorem hot_in (j : Fin 128) (q k : Fin 64) (hs : seen q.val k.val = 1#1) :
    hot (ix2 j (pair q k)) = if j.val = k.val + 15 - q.val then (1 : EReal) else 0 := by
  rw [hot_at, hs, (seen_off q k hs).2.1]
  have hd := (seen_off q k hs).1.2
  by_cases e : j.val = k.val + 15 - q.val
  · rw [if_pos e, e]
    refine (congrArg (FloatOps.uitofp (F := Ideal) .bf16) (?_ : _ = 1#1)).trans bit_one
    have : IntOp.cmpi .eq (BitVec.ofNat 32 (k.val + 15 - q.val)) (BitVec.ofNat 32 (k.val + 15 - q.val)) = 1#1 := by
      simp [IntOp.cmpi]
    rw [this]; decide
  · rw [if_neg e]
    refine (congrArg (FloatOps.uitofp (F := Ideal) .bf16) (?_ : _ = 0#1)).trans bit_zero
    have hne : BitVec.ofNat 32 j.val ≠ BitVec.ofNat 32 (k.val + 15 - q.val) := by
      intro h
      have := congrArg BitVec.toNat h
      simp only [BitVec.toNat_ofNat] at this
      omega
    have : IntOp.cmpi .eq (BitVec.ofNat 32 j.val) (BitVec.ofNat 32 (k.val + 15 - q.val)) = 0#1 := by
      show BitVec.ofBool (BitVec.ofNat 32 j.val == BitVec.ofNat 32 (k.val + 15 - q.val)) = 0#1
      rw [beq_eq_false_iff_ne.mpr hne]
      rfl
    rw [this]; decide

/-- A row times the picking table where the key is not seen. -/
theorem sum_out (f : Fin 128 → EReal) (q k : Fin 64) (hs : ¬ seen q.val k.val = 1#1) :
    ∑ j : Fin 128, f j * hot (ix2 j (pair q k)) = 0 :=
  Finset.sum_eq_zero fun j _ => by rw [hot_out j q k hs, mul_zero]

/-- A row times the picking table where the key is seen. -/
theorem sum_in (f : Fin 128 → EReal) (q k : Fin 64) (hs : seen q.val k.val = 1#1) (d : Fin 128) (hd : d.val = k.val + 15 - q.val) :
    ∑ j : Fin 128, f j * hot (ix2 j (pair q k)) = f d := by
  rw [Finset.sum_eq_single d]
  · rw [hot_in d q k hs, if_pos hd, mul_one]
  · intro j _ hj
    rw [hot_in j q k hs, if_neg (fun e => hj (Fin.ext (e.trans hd.symm))), mul_zero]
  · intro h; exact absurd (Finset.mem_univ d) h

/-- The three parts of a real entry sum to the entry. -/
theorem split_sum (v : EReal) (a : ℝ) (h : v = (a : EReal)) : v + (v - v) + (v - v - (v - v)) = v := by
  rw [h, ← EReal.coe_sub, sub_self, ← EReal.coe_sub, sub_self, EReal.coe_zero, add_zero, add_zero]

/-- The body on the host's arrays is the reference's table, row by row of the bias. -/
theorem pay1_table (x : FVec Ideal S4x15x31 .f32) (hx : ∀ h r k, ∃ a : ℝ, x (ix3 h r k) = (a : EReal))
    (d : Fin 8) (h : Fin 4) (q : Fin 64) (i : Fin 8) (k : Fin 64) :
    k0_pay1 (F := Ideal) hot mask (padded x) (ix2 ⟨h.val * 15 + (i.val + 7 - d.val), by omega⟩ (pair q k))
      = Cert.BtRefIdeal.Rows.table x (ix5 d h q i k) := by
  rw [pay1_at, mask_at]
  by_cases hs : seen q.val k.val = 1#1
  · have hd := (seen_off q k hs).1.2
    have hp := padded_at x h ⟨i.val + 7 - d.val, by omega⟩ ⟨k.val + 15 - q.val, by omega⟩
    obtain ⟨a, ha⟩ := hx h ⟨i.val + 7 - d.val, by omega⟩ ⟨k.val + 15 - q.val, by omega⟩
    have hv : padded x (ix2 ⟨h.val * 15 + (i.val + 7 - d.val), by omega⟩ ⟨k.val + 15 - q.val, by omega⟩)
        = x (ix3 h ⟨i.val + 7 - d.val, by omega⟩ ⟨k.val + 15 - q.val, by omega⟩) := hp
    have hz : Scalar.select (1#1) (Ideal.ofBits .f32 0x00000000#32) (Ideal.ofBits .f32 0xF149F2CA#32) = (0 : EReal) :=
      (if_pos rfl).trans (Ideal.ofBits_zero _)
    rw [sum_in _ q k hs ⟨k.val + 15 - q.val, by omega⟩ rfl, sum_in _ q k hs ⟨k.val + 15 - q.val, by omega⟩ rfl,
      sum_in _ q k hs ⟨k.val + 15 - q.val, by omega⟩ rfl, hv, split_sum _ a ha,
      Cert.BtRefIdeal.Rows.table_in x d h q i k hs, hs, hz, zero_add, mul_comm]
  · rw [sum_out _ q k hs, sum_out _ q k hs, sum_out _ q k hs, Cert.BtRefIdeal.Rows.table_out x d h q i k hs, add_zero, add_zero,
      mul_zero, add_zero]
    exact if_neg hs

variable (m : (ℓ : Loc nD τ sig) → Buf (Elt Ideal) ℓ) (c : Dev nD)

/-- The relative bias. -/
abbrev xs : FVec Ideal S4x15x31 .f32 := m ((c : Thread nD τ).loc main_arg0)

/-- Every window takes its whole array at the one grid point. -/
theorem idx : ∀ t : Fin cfg0.N,
    win0_0.index t = ![0, 0] ∧ win0_1.index t = ![0, 0] ∧ win0_2.index t = ![0, 0] ∧ win0_3.index t = ![0, 0] :=
  (by decide +kernel : ∀ t : Fin grid0.N, _)

variable (t : Fin cfg0.N)

set_option maxHeartbeats 1600000 in
/-- The block of the padded bias is the array. -/
theorem blk_x (r : Fin 64) (l : Fin 128) : (iblk m c 0 t : FVec Ideal S64x128 .f32) (ix2 r l) = padded (xs m c) (ix2 r l) := by
  have e : ((cfg0.win 0).blk t).view.emb (ix2 r l : S64x128.Idx) = (ix2 r l : S64x128.Idx) := by
    blk_ext [idx t]
  refine Eq.trans (congrArg (V m c main_v35) e) ?_
  rw [V_x m c]

set_option maxHeartbeats 1600000 in
/-- The block of the picking table is the array. -/
theorem blk_hot (j : Fin 128) (n : Fin 4096) : (iblk m c 1 t : FVec Ideal S128x4096 .bf16) (ix2 j n) = hot (ix2 j n) := by
  have e : ((cfg0.win 1).blk t).view.emb (ix2 j n : S128x4096.Idx) = (ix2 j n : S128x4096.Idx) := by
    blk_ext [idx t]
  refine Eq.trans (congrArg (V m c main_v36) e) ?_
  rw [V_hot m c]

set_option maxHeartbeats 1600000 in
/-- The block of the mask is the array. -/
theorem blk_mask (a : Fin 1) (n : Fin 4096) : (iblk m c 2 t : FVec Ideal S1x4096 .f32) (ix2 a n) = mask (ix2 a n) := by
  have e : ((cfg0.win 2).blk t).view.emb (ix2 a n : S1x4096.Idx) = (ix2 a n : S1x4096.Idx) := by
    blk_ext [idx t]
  refine Eq.trans (congrArg (V m c main_v37) e) ?_
  rw [V_mask m c]

set_option maxHeartbeats 1600000 in
/-- The kernel's array after the launch: the body's result on the host's arrays. -/
theorem final : (dats m 0 c).arrAt 3 (cfgs 0).N = k0_pay1 (F := Ideal) hot mask (padded (xs m c)) := by
  refine (dats m 0 c).arrAt_eq_of_covers 3 _ (by decide +kernel) fun t _ y => ?_
  blk_simp
  rw [after0_3]; unfold out0_3; frame_out
  idx_vars y
  have e : ((cfg0.win 3).blk t).view.emb (ix2 y0 y1 : S64x4096.Idx) = (ix2 y0 y1 : S64x4096.Idx) := by
    blk_ext [idx t]
  refine Eq.trans ?_ (congrArg (k0_pay1 (F := Ideal) hot mask (padded (xs m c))) e).symm
  have h0 : (iblk m c 0 t : FVec Ideal S64x128 .f32) = padded (xs m c) := by
    funext y; idx_vars y; exact blk_x m c t y0 y1
  have h1 : (iblk m c 1 t : FVec Ideal S128x4096 .bf16) = hot := by
    funext y; idx_vars y; exact blk_hot m c t y0 y1
  have h2 : (iblk m c 2 t : FVec Ideal S1x4096 .f32) = mask := by
    funext y; idx_vars y; exact blk_mask m c t y0 y1
  rw [← h0, ← h1, ← h2]

/-- The program's result is the reference's. -/
theorem result_eq (hx : ∀ h r k, ∃ a : ℝ, xs m c (ix3 h r k) = (a : EReal)) :
    laid ((dats m 0 c).arrAt 3 (cfgs 0).N) = Cert.BtRefIdeal.Rows.result (xs m c) := by
  rw [final]
  unfold laid Cert.BtRefIdeal.Rows.result
  refine congrArg (fun z => shapeCast S8x2x128x512 z shapeCasts_S8x4x64x8x64_S8x2x128x512) (?_ : stacked _ = Cert.BtRefIdeal.Rows.table _)
  funext y
  idx_vars y
  rw [stacked_at, planes_at]
  exact pay1_table (xs m c) hx y0 y1 y2 y3 y4

end Cert.BtIdeal.Rows
end
-- ==== Proof.BtClaims.lean ====
module

public import proofs.«01_k».proof.Defs
public import proofs.«01_k».proof.Proof.Gen.BtRefIdeal.Run
public import proofs.«01_k».proof.Proof.BtPre
public import proofs.«01_k».proof.Proof.BtValue
public import Idealize.ShloMosaic.Lib.Quiescent

/-! The claims about the bias of neighbourhood attention: the reference leaves its argument unchanged and every counter
    at zero, and when the relative bias is real the program's result is the reference's. -/

@[expose] public section
set_option maxRecDepth 16384
noncomputable section
open Idealize.ShloMosaic Idealize.ShloMosaic.TcCoe Idealize.SL.Sem
namespace Cert.Proof

/-- The reference's run: the argument unchanged, every semaphore counter back at zero. -/
theorem btRef_frame : Cert.quiescent_BtRefIdeal (hBtRefIdeal := Cert.BtRefIdeal.Gen.facts) := by
  intro m g _
  exact (θ_run _ _ _).mono (fun r h => ⟨fun c => (h c).2, sem_eq_zero_of_no_sems (by decide) r.2⟩)
    (Cert.BtRefIdeal.Value.run m g)

/-- Kernel and reference end with the same array, from memories that agree on the argument and whose relative bias is
    real. -/
theorem bt_algebraic : Cert.algebraic_BtIdeal_BtRefIdeal_pre_bias_finite (hBtIdeal := Cert.BtIdeal.Gen.facts)
    (hBtRefIdeal := Cert.BtRefIdeal.Gen.facts) (hPre_bias_finite := Cert.Pre_bias_finite.Gen.facts) := by
  intro m g m' g' hpre hag
  refine ⟨fun c => Cert.BtRefIdeal.Rows.result (Cert.BtIdeal.Rows.xs m c), ?_, ?_⟩
  · refine (θ_run _ _ _).mono (fun r h c => ⟨(h c).1.trans ?_, (h c).2⟩) (Cert.BtIdeal.Rows.run m g)
    exact Cert.BtIdeal.Rows.result_eq m c (Cert.Pre_bias_finite.Rows.decode _ (hpre c))
  · refine (θ_run _ _ _).mono (fun r h c => ⟨(h c).1.trans ?_, (h c).2⟩) (Cert.BtRefIdeal.Value.run m' g')
    exact (Cert.BtRefIdeal.Rows.result_eq m' c).trans (congrArg Cert.BtRefIdeal.Rows.result (hag c))

end Cert.Proof
end
-- ==== Proof.lean ====
module

public import proofs.«01_k».proof.Proof.Gen.Cv.Frame
public import proofs.«01_k».proof.Proof.Gen.CvIdeal.Value
public import proofs.«01_k».proof.Proof.Gen.CvRefIdeal.Run
public import proofs.«01_k».proof.Proof.Gen.In.Frame
public import proofs.«01_k».proof.Proof.Gen.InIdeal.Value
public import proofs.«01_k».proof.Proof.Gen.InRefIdeal.Run
public import proofs.«01_k».proof.Defs
public import proofs.«01_k».proof.Proof.Gen.Ffn.Frame
public import proofs.«01_k».proof.Proof.Gen.Pre_entries_finite
public import proofs.«01_k».proof.Proof.DaRun
public import proofs.«01_k».proof.Proof.DaIdealRun
public import proofs.«01_k».proof.Proof.Gen.DaRefIdeal.Run
public import proofs.«01_k».proof.Proof.Gen.FfnIdeal.Frame
public import proofs.«01_k».proof.Proof.Gen.FfnIdeal.Value
public import proofs.«01_k».proof.Proof.Gen.FfnRefIdeal.Run
public import proofs.«01_k».proof.Proof.FfnClaims
public import proofs.«01_k».proof.Proof.DaClaims
public import proofs.«01_k».proof.Proof.InClaims
public import proofs.«01_k».proof.Proof.CvClaims
public import proofs.«01_k».proof.Proof.Gen.Fn.Frame
public import proofs.«01_k».proof.Proof.Gen.FnIdeal.Value
public import proofs.«01_k».proof.Proof.Gen.FnRefIdeal.Run
public import proofs.«01_k».proof.Proof.FnClaims
public import proofs.«01_k».proof.Proof.Gen.Mid.Frame
public import proofs.«01_k».proof.Proof.Gen.MidIdeal.Value
public import proofs.«01_k».proof.Proof.Gen.MidRefIdeal.Run
public import proofs.«01_k».proof.Proof.MidClaims
public import proofs.«01_k».proof.Proof.Gen.Bt.Frame
public import proofs.«01_k».proof.Proof.Gen.BtIdeal.Frame
public import proofs.«01_k».proof.Proof.Gen.BtRefIdeal.Run
public import proofs.«01_k».proof.Proof.Gen.Pre_bias_finite
public import proofs.«01_k».proof.Proof.BtClaims

@[expose] public section

/-- Every claim of the certificate. -/
theorem Cert.Proof.claim : Cert.Claim :=
  ⟨Cert.Ffn.Gen.facts, Cert.FfnIdeal.Gen.facts, Cert.FfnRefIdeal.Gen.facts,
    Cert.Da.Gen.facts, Cert.DaIdeal.Gen.facts, Cert.DaRefIdeal.Gen.facts,
    Cert.In.Gen.facts, Cert.InIdeal.Gen.facts, Cert.InRefIdeal.Gen.facts,
    Cert.Cv.Gen.facts, Cert.CvIdeal.Gen.facts, Cert.CvRefIdeal.Gen.facts,
    Cert.Fn.Gen.facts, Cert.FnIdeal.Gen.facts, Cert.FnRefIdeal.Gen.facts,
    Cert.Mid.Gen.facts, Cert.MidIdeal.Gen.facts, Cert.MidRefIdeal.Gen.facts,
    Cert.Bt.Gen.facts, Cert.BtIdeal.Gen.facts, Cert.BtRefIdeal.Gen.facts,
    Cert.Pre_entries_finite.Gen.facts, Cert.Pre_steps_close.Gen.facts, Cert.Pre_bias_finite.Gen.facts,
    fun m ρ _ => Cert.Ffn.Gen.frame m ρ, fun m ρ _ => Cert.FfnIdeal.Gen.frame m ρ,
    Cert.Proof.ffnRef_frame,
    fun m ρ _ => Cert.Da.Run.frame m ρ, fun m ρ _ => Cert.DaIdeal.Run.frame m ρ,
    fun m ρ _ => Cert.DaIdeal.Run.frame m ρ,
    Cert.Proof.daRef_frame, fun m ρ _ => Cert.Proof.daRef_frame m ρ trivial,
    fun m ρ _ => Cert.In.Gen.frame m ρ, fun m ρ _ => Cert.InIdeal.Gen.frame m ρ,
    Cert.Proof.inRef_frame,
    fun m ρ _ => Cert.Cv.Gen.frame m ρ, fun m ρ _ => Cert.CvIdeal.Gen.frame m ρ,
    Cert.Proof.cvRef_frame,
    fun m ρ _ => Cert.Fn.Gen.frame m ρ, fun m ρ _ => Cert.FnIdeal.Gen.frame m ρ, fun m ρ _ => Cert.FnIdeal.Gen.frame m ρ,
    Cert.Proof.fnRef_frame, fun m ρ _ => Cert.Proof.fnRef_frame m ρ trivial,
    fun m ρ _ => Cert.Mid.Gen.frame m ρ, fun m ρ _ => Cert.MidIdeal.Gen.frame m ρ,
    Cert.Proof.midRef_frame,
    fun m ρ _ => Cert.Bt.Gen.frame m ρ, fun m ρ _ => Cert.BtIdeal.Gen.frame m ρ, fun m ρ _ => Cert.BtIdeal.Gen.frame m ρ,
    Cert.Proof.btRef_frame, fun m ρ _ => Cert.Proof.btRef_frame m ρ trivial,
    trivial, Cert.Proof.ffn_algebraic, Cert.Proof.da_preserves, Cert.Proof.da_algebraic,
    trivial, Cert.Proof.in_algebraic, trivial, Cert.Proof.cv_algebraic, trivial, Cert.Proof.fn_algebraic,
    trivial, Cert.Proof.mid_algebraic, trivial, Cert.Proof.bt_algebraic⟩

end
